-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)) (v3 : (c : Dev Cert.Kernel3Ideal.nD) → Buf (Elt Ideal) ((c.tc : Thread Cert.Kernel3Ideal.nD Cert.Kernel3Ideal.τ).loc Cert.Kernel3Ideal.main_v7_3)) (v4 : (c : Dev Cert.Kernel3Ideal.nD) → Buf (Elt Ideal) ((c.tc : Thread Cert.Kernel3Ideal.nD Cert.Kernel3Ideal.τ).loc Cert.Kernel3Ideal.main_v7_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_v7_3) = v3 c
          ∧ r.2.mem ((c.tc : Thread Cert.Kernel3Ideal.nD Cert.Kernel3Ideal.τ).loc Cert.Kernel3Ideal.main_v7_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_v16) = v2 c
          ∧ r.2.mem ((c.tc : Thread Cert.Reference3Ideal.nD Cert.Reference3Ideal.τ).loc Cert.Reference3Ideal.main_v17) = v3 c
          ∧ r.2.mem ((c.tc : Thread Cert.Reference3Ideal.nD Cert.Reference3Ideal.τ).loc Cert.Reference3Ideal.main_v25) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)) (v2 : (c : Dev Cert.Kernel4Ideal.nD) → Buf (Elt Ideal) ((c.tc : Thread Cert.Kernel4Ideal.nD Cert.Kernel4Ideal.τ).loc Cert.Kernel4Ideal.main_v10_2)) (v3 : (c : Dev Cert.Kernel4Ideal.nD) → Buf (Elt Ideal) ((c.tc : Thread Cert.Kernel4Ideal.nD Cert.Kernel4Ideal.τ).loc Cert.Kernel4Ideal.main_v10_3)) (v4 : (c : Dev Cert.Kernel4Ideal.nD) → Buf (Elt Ideal) ((c.tc : Thread Cert.Kernel4Ideal.nD Cert.Kernel4Ideal.τ).loc Cert.Kernel4Ideal.main_v10_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_v10_2) = v2 c
          ∧ r.2.mem ((c.tc : Thread Cert.Kernel4Ideal.nD Cert.Kernel4Ideal.τ).loc Cert.Kernel4Ideal.main_v10_3) = v3 c
          ∧ r.2.mem ((c.tc : Thread Cert.Kernel4Ideal.nD Cert.Kernel4Ideal.τ).loc Cert.Kernel4Ideal.main_v10_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_v16) = v2 c
          ∧ r.2.mem ((c.tc : Thread Cert.Reference4Ideal.nD Cert.Reference4Ideal.τ).loc Cert.Reference4Ideal.main_v52) = v3 c
          ∧ r.2.mem ((c.tc : Thread Cert.Reference4Ideal.nD Cert.Reference4Ideal.τ).loc Cert.Reference4Ideal.main_v53) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_2)) (v3 : (c : Dev Cert.Kernel5Ideal.nD) → Buf (Elt Ideal) ((c.tc : Thread Cert.Kernel5Ideal.nD Cert.Kernel5Ideal.τ).loc Cert.Kernel5Ideal.main_v10_3)) (v4 : (c : Dev Cert.Kernel5Ideal.nD) → Buf (Elt Ideal) ((c.tc : Thread Cert.Kernel5Ideal.nD Cert.Kernel5Ideal.τ).loc Cert.Kernel5Ideal.main_v10_4)) (v5 : (c : Dev Cert.Kernel5Ideal.nD) → Buf (Elt Ideal) ((c.tc : Thread Cert.Kernel5Ideal.nD Cert.Kernel5Ideal.τ).loc Cert.Kernel5Ideal.main_v10_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_2) = v2 c
          ∧ r.2.mem ((c.tc : Thread Cert.Kernel5Ideal.nD Cert.Kernel5Ideal.τ).loc Cert.Kernel5Ideal.main_v10_3) = v3 c
          ∧ r.2.mem ((c.tc : Thread Cert.Kernel5Ideal.nD Cert.Kernel5Ideal.τ).loc Cert.Kernel5Ideal.main_v10_4) = v4 c
          ∧ r.2.mem ((c.tc : Thread Cert.Kernel5Ideal.nD Cert.Kernel5Ideal.τ).loc Cert.Kernel5Ideal.main_v10_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v51) = v0 c
          ∧ r.2.mem ((c.tc : Thread Cert.Reference5Ideal.nD Cert.Reference5Ideal.τ).loc Cert.Reference5Ideal.main_v46) = v1 c
          ∧ r.2.mem ((c.tc : Thread Cert.Reference5Ideal.nD Cert.Reference5Ideal.τ).loc Cert.Reference5Ideal.main_v16) = v2 c
          ∧ r.2.mem ((c.tc : Thread Cert.Reference5Ideal.nD Cert.Reference5Ideal.τ).loc Cert.Reference5Ideal.main_v31) = v3 c
          ∧ r.2.mem ((c.tc : Thread Cert.Reference5Ideal.nD Cert.Reference5Ideal.τ).loc Cert.Reference5Ideal.main_v52) = v4 c
          ∧ r.2.mem ((c.tc : Thread Cert.Reference5Ideal.nD Cert.Reference5Ideal.τ).loc Cert.Reference5Ideal.main_v53) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ preserves_Kernel7_Kernel7Ideal
    ∧ algebraic_Kernel7Ideal_Reference7Ideal (hKernel7Ideal := hKernel7Ideal) (hReference7Ideal := hReference7Ideal)
-- ==== Kernel.lean ====
abbrev S32x512 : Shape := ⟨2, ![32, 512]⟩
abbrev S32x1024 : Shape := ⟨2, ![32, 1024]⟩
abbrev S256 : Shape := ⟨1, ![256]⟩
abbrev S32x4x128x256 : Shape := ⟨4, ![32, 4, 128, 256]⟩
abbrev S32x1x512 : Shape := ⟨3, ![32, 1, 512]⟩
abbrev S32x1x1024 : Shape := ⟨3, ![32, 1, 1024]⟩
abbrev S1x256 : Shape := ⟨2, ![1, 256]⟩
abbrev S1x1x512 : Shape := ⟨3, ![1, 1, 512]⟩
abbrev S1x1x1024 : Shape := ⟨3, ![1, 1, 1024]⟩
abbrev S1x4x128x256 : Shape := ⟨4, ![1, 4, 128, 256]⟩
abbrev S1x1x128 : Shape := ⟨3, ![1, 1, 128]⟩
abbrev S1x128 : Shape := ⟨2, ![1, 128]⟩
abbrev S1x1x256 : Shape := ⟨3, ![1, 1, 256]⟩
abbrev S1x1x128x256 : Shape := ⟨4, ![1, 1, 128, 256]⟩
abbrev S128x256 : Shape := ⟨2, ![128, 256]⟩
abbrev S128x128 : Shape := ⟨2, ![128, 128]⟩
abbrev S1 : Shape := ⟨1, ![1]⟩
abbrev S1x1 : Shape := ⟨2, ![1, 1]⟩

abbrev nBuf : Space → Nat
  | .hbm => 15
  | .vmem => 17
  | .smem => 0
  | _ => 0

abbrev bufTy : (tb : Table) → Fin (tcTables nBuf tb) → BufTy
  | .hbm, ⟨0, _⟩ => ⟨S32x512, .f32⟩
  | .hbm, ⟨1, _⟩ => ⟨S32x512, .f32⟩
  | .hbm, ⟨2, _⟩ => ⟨S32x512, .f32⟩
  | .hbm, ⟨3, _⟩ => ⟨S32x1024, .f32⟩
  | .hbm, ⟨4, _⟩ => ⟨S32x1024, .f32⟩
  | .hbm, ⟨5, _⟩ => ⟨S256, .f32⟩
  | .hbm, ⟨6, _⟩ => ⟨S32x4x128x256, .f32⟩
  | .hbm, ⟨7, _⟩ => ⟨S32x1x512, .f32⟩
  | .hbm, ⟨8, _⟩ => ⟨S32x1x512, .f32⟩
  | .hbm, ⟨9, _⟩ => ⟨S32x1x512, .f32⟩
  | .hbm, ⟨10, _⟩ => ⟨S32x1x1024, .f32⟩
  | .hbm, ⟨11, _⟩ => ⟨S32x1x1024, .f32⟩
  | .hbm, ⟨12, _⟩ => ⟨S1x256, .f32⟩
  | .hbm, ⟨13, _⟩ => ⟨S32x1x1024, .bf16⟩
  | .hbm, ⟨14, _⟩ => ⟨S32x4x128x256, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x256, .f32⟩
  | .local _ .vmem, ⟨11, _⟩ => ⟨S1x4x128x256, .f32⟩
  | .local _ .vmem, ⟨12, _⟩ => ⟨S1x4x128x256, .f32⟩
  | .local _ .vmem, ⟨13, _⟩ => ⟨S1x1x1024, .bf16⟩
  | .local _ .vmem, ⟨14, _⟩ => ⟨S1x1x1024, .bf16⟩
  | .local _ .vmem, ⟨15, _⟩ => ⟨S1x4x128x256, .f32⟩
  | .local _ .vmem, ⟨16, _⟩ => ⟨S1x4x128x256, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S32x512 : Shape := ⟨2, ![32, 512]⟩
abbrev S32x1024 : Shape := ⟨2, ![32, 1024]⟩
abbrev S256 : Shape := ⟨1, ![256]⟩
abbrev S32x4x128x256 : Shape := ⟨4, ![32, 4, 128, 256]⟩
abbrev S32x4x128 : Shape := ⟨3, ![32, 4, 128]⟩
abbrev S32x4x256 : Shape := ⟨3, ![32, 4, 256]⟩
abbrev S32x1x1024 : Shape := ⟨3, ![32, 1, 1024]⟩
abbrev S32x4x128x1 : Shape := ⟨4, ![32, 4, 128, 1]⟩
abbrev S32x4x1x256 : Shape := ⟨4, ![32, 4, 1, 256]⟩
abbrev S_ : Shape := ⟨0, ![]⟩
abbrev S32x4 : Shape := ⟨2, ![32, 4]⟩
abbrev S32x4x1 : Shape := ⟨3, ![32, 4, 1]⟩
abbrev S1x1x256 : Shape := ⟨3, ![1, 1, 256]⟩

abbrev nBuf : Space → Nat
  | .hbm => 59
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S32x512, .f32⟩
  | .hbm, ⟨2, _⟩ => ⟨S32x512, .f32⟩
  | .hbm, ⟨3, _⟩ => ⟨S32x1024, .f32⟩
  | .hbm, ⟨4, _⟩ => ⟨S32x1024, .f32⟩
  | .hbm, ⟨5, _⟩ => ⟨S256, .f32⟩
  | .hbm, ⟨6, _⟩ => ⟨S32x4x128x256, .f32⟩
  | .hbm, ⟨7, _⟩ => ⟨S32x4x128, .f32⟩
  | .hbm, ⟨8, _⟩ => ⟨S32x4x128, .f32⟩
  | .hbm, ⟨9, _⟩ => ⟨S32x4x128, .f32⟩
  | .hbm, ⟨10, _⟩ => ⟨S32x4x256, .f32⟩
  | .hbm, ⟨11, _⟩ => ⟨S32x1x1024, .f32⟩
  | .hbm, ⟨12, _⟩ => ⟨S32x4x128, .f32⟩
  | .hbm, ⟨13, _⟩ => ⟨S32x4x128x1, .f32⟩
  | .hbm, ⟨14, _⟩ => ⟨S32x4x128x256, .f32⟩
  | .hbm, ⟨15, _⟩ => ⟨S32x4x128x256, .f32⟩
  | .hbm, ⟨16, _⟩ => ⟨S32x4x128x1, .f32⟩
  | .hbm, ⟨17, _⟩ => ⟨S32x4x1x256, .f32⟩
  | .hbm, ⟨18, _⟩ => ⟨S32x4x128x256, .f32⟩
  | .hbm, ⟨19, _⟩ => ⟨S32x4x128x256, .f32⟩
  | .hbm, ⟨20, _⟩ => ⟨S32x4x128x256, .f32⟩
  | .hbm, ⟨21, _⟩ => ⟨S32x4x128x256, .f32⟩
  | .hbm, ⟨22, _⟩ => ⟨S32x4x128, .f32⟩
  | .hbm, ⟨23, _⟩ => ⟨S_, .f32⟩
  | .hbm, ⟨24, _⟩ => ⟨S32x4, .f32⟩
  | .hbm, ⟨25, _⟩ => ⟨S32x4x1, .f32⟩
  | .hbm, ⟨26, _⟩ => ⟨S32x4x256, .f32⟩
  | .hbm, ⟨27, _⟩ => ⟨S32x4x256, .f32⟩
  | .hbm, ⟨28, _⟩ => ⟨S32x4x128, .f32⟩
  | .hbm, ⟨29, _⟩ => ⟨S32x4x256, .f32⟩
  | .hbm, ⟨30, _⟩ => ⟨S32x4x256, .f32⟩
  | .hbm, ⟨31, _⟩ => ⟨S32x4x256, .f32⟩
  | .hbm, ⟨32, _⟩ => ⟨S_, .f32⟩
  | .hbm, ⟨33, _⟩ => ⟨S32x4, .f32⟩
  | .hbm, ⟨34, _⟩ => ⟨S32x4x1, .f32⟩
  | .hbm, ⟨35, _⟩ => ⟨S_, .f32⟩
  | .hbm, ⟨36, _⟩ => ⟨S32x4x1, .f32⟩
  | .hbm, ⟨37, _⟩ => ⟨S32x4x1, .f32⟩
  | .hbm, ⟨38, _⟩ => ⟨S_, .f32⟩
  | .hbm, ⟨39, _⟩ => ⟨S32x4x1, .f32⟩
  | .hbm, ⟨40, _⟩ => ⟨S32x4x1, .f32⟩
  | .hbm, ⟨41, _⟩ => ⟨S32x4x1, .f32⟩
  | .hbm, ⟨42, _⟩ => ⟨S32x4x256, .f32⟩
  | .hbm, ⟨43, _⟩ => ⟨S32x4x256, .f32⟩
  | .hbm, ⟨44, _⟩ => ⟨S1x1x256, .f32⟩
  | .hbm, ⟨45, _⟩ => ⟨S32x4x256, .f32⟩
  | .hbm, ⟨46, _⟩ => ⟨S32x4x256, .f32⟩
  | .hbm, ⟨47, _⟩ => ⟨S32x1x1024, .f32⟩
  | .hbm, ⟨48, _⟩ => ⟨S32x1x1024, .f32⟩
  | .hbm, ⟨49, _⟩ => ⟨S32x1x1024, .f32⟩
  | .hbm, ⟨50, _⟩ => ⟨S_, .f32⟩
  | .hbm, ⟨51, _⟩ => ⟨S32x1x1024, .f32⟩
  | .hbm, ⟨52, _⟩ => ⟨S32x1x1024, .f32⟩
  | .hbm, ⟨53, _⟩ => ⟨S_, .f32⟩
  | .hbm, ⟨54, _⟩ => ⟨S32x1x1024, .f32⟩
  | .hbm, ⟨55, _⟩ => ⟨S32x1x1024, .f32⟩
  | .hbm, ⟨56, _⟩ => ⟨S32x1x1024, .f32⟩
  | .hbm, ⟨57, _⟩ => ⟨S32x1x1024, .f32⟩
  | .hbm, ⟨58, _⟩ => ⟨S32x1x1024, .bf16⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== Kernel2.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S1024x2048 : Shape := ⟨2, ![1024, 2048]⟩
abbrev S2048x1024 : Shape := ⟨2, ![2048, 1024]⟩
abbrev S512 : Shape := ⟨1, ![512]⟩
abbrev S512x1 : Shape := ⟨2, ![512, 1]⟩
abbrev S512x2048 : Shape := ⟨2, ![512, 2048]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024x1024, .bf16⟩
  | .hbm, ⟨7, _⟩ => ⟨S1x1024, .f32⟩
  | .hbm, ⟨8, _⟩ => ⟨S1024x4096, .bf16⟩
  | .hbm, ⟨9, _⟩ => ⟨S4096x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S16384x1024, .f32⟩
  | .hbm, ⟨31, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x3072 : Shape := ⟨2, ![1024, 3072]⟩
abbrev S1024x16 : Shape := ⟨2, ![1024, 16]⟩
abbrev S16x512 : Shape := ⟨2, ![16, 512]⟩
abbrev S512 : Shape := ⟨1, ![512]⟩
abbrev S_ : Shape := ⟨0, ![]⟩
abbrev S1024x128 : Shape := ⟨2, ![1024, 128]⟩
abbrev S128x512 : Shape := ⟨2, ![128, 512]⟩
abbrev S1x1024 : Shape := ⟨2, ![1, 1024]⟩
abbrev S1x512 : Shape := ⟨2, ![1, 512]⟩
abbrev S16384x512 : Shape := ⟨2, ![16384, 512]⟩
abbrev S512x1024 : Shape := ⟨2, ![512, 1024]⟩
abbrev S512x512 : Shape := ⟨2, ![512, 512]⟩
abbrev S512x1 : Shape := ⟨2, ![512, 1]⟩
abbrev S512x3072 : Shape := ⟨2, ![512, 3072]⟩
abbrev S512x128 : Shape := ⟨2, ![512, 128]⟩

abbrev nBuf : Space → Nat
  | .hbm => 22
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S1024x16, .f32⟩
  | .hbm, ⟨4, _⟩ => ⟨S16x512, .f32⟩
  | .hbm, ⟨5, _⟩ => ⟨S512, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x128, .bf16⟩
  | .hbm, ⟨10, _⟩ => ⟨S_, .i32⟩
  | .hbm, ⟨11, _⟩ => ⟨S_, .f32⟩
  | .hbm, ⟨12, _⟩ => ⟨S128x512, .f32⟩
  | .hbm, ⟨13, _⟩ => ⟨S128x512, .bf16⟩
  | .hbm, ⟨14, _⟩ => ⟨S1x1024, .f32⟩
  | .hbm, ⟨15, _⟩ => ⟨S1024x3072, .bf16⟩
  | .hbm, ⟨16, _⟩ => ⟨S1x512, .f32⟩
  | .hbm, ⟨17, _⟩ => ⟨S16384x512, .f32⟩
  | .hbm, ⟨18, _⟩ => ⟨S16384x512, .f32⟩
  | .hbm, ⟨19, _⟩ => ⟨S16384x1024, .f32⟩
  | .hbm, ⟨20, _⟩ => ⟨S16384x1024, .f32⟩
  | .hbm, ⟨21, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S128x512, .bf16⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x512, .f32⟩
  | .local _ .vmem, ⟨16, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16384x1024 : Shape := ⟨2, ![16384, 1024]⟩
abbrev S1024 : Shape := ⟨1, ![1024]⟩
abbrev S1024x3072 : Shape := ⟨2, ![1024, 3072]⟩
abbrev S1024x16 : Shape := ⟨2, ![1024, 16]⟩
abbrev S16x512 : Shape := ⟨2, ![16, 512]⟩
abbrev S512 : Shape := ⟨1, ![512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩
abbrev S16384x512 : Shape := ⟨2, ![16384, 512]⟩
abbrev S16384x16 : Shape := ⟨2, ![16384, 16]⟩
abbrev S1x512 : Shape := ⟨2, ![1, 512]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S1024x16, .f32⟩
  | .hbm, ⟨4, _⟩ => ⟨S16x512, .f32⟩
  | .hbm, ⟨5, _⟩ => ⟨S512, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x3072, .f32⟩
  | .hbm, ⟨23, _⟩ => ⟨S16384x512, .f32⟩
  | .hbm, ⟨24, _⟩ => ⟨S16384x512, .f32⟩
  | .hbm, ⟨25, _⟩ => ⟨S16384x1024, .f32⟩
  | .hbm, ⟨26, _⟩ => ⟨S16384x1024, .f32⟩
  | .hbm, ⟨27, _⟩ => ⟨S16384x16, .f32⟩
  | .hbm, ⟨28, _⟩ => ⟨S16384x512, .f32⟩
  | .hbm, ⟨29, _⟩ => ⟨S1x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .i1⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S_, .f32⟩
  | .hbm, ⟨49, _⟩ => ⟨S16384x512, .f32⟩
  | .hbm, ⟨50, _⟩ => ⟨S16384x512, .f32⟩
  | .hbm, ⟨51, _⟩ => ⟨S_, .f32⟩
  | .hbm, ⟨52, _⟩ => ⟨S16384x512, .f32⟩
  | .hbm, ⟨53, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_call0_cst : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_v1 : Ref sig .tc := ⟨.hbm, 46, rfl⟩
abbrev main_v23 : Ref sig .tc := ⟨.hbm, 47, rfl⟩
abbrev main_cst_2 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_v27 : Ref sig .tc := ⟨.hbm, 53, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x3072 : Shape := ⟨2, ![1024, 3072]⟩
abbrev S64 : Shape := ⟨1, ![64]⟩
abbrev S1x1024 : Shape := ⟨2, ![1, 1024]⟩
abbrev S1x64 : Shape := ⟨2, ![1, 64]⟩
abbrev S16x64 : Shape := ⟨2, ![16, 64]⟩
abbrev S2x8x16x128x512 : Shape := ⟨5, ![2, 8, 16, 128, 512]⟩
abbrev S512x1024 : Shape := ⟨2, ![512, 1024]⟩
abbrev S1x8x1x128x512 : Shape := ⟨5, ![1, 8, 1, 128, 512]⟩
abbrev S512 : Shape := ⟨1, ![512]⟩
abbrev S512x1 : Shape := ⟨2, ![512, 1]⟩
abbrev S512x3072 : Shape := ⟨2, ![512, 3072]⟩
abbrev S512x128 : Shape := ⟨2, ![512, 128]⟩
abbrev S1x128 : Shape := ⟨2, ![1, 128]⟩
abbrev S128x512 : Shape := ⟨2, ![128, 512]⟩
abbrev S1x1x1x128x512 : Shape := ⟨5, ![1, 1, 1, 128, 512]⟩

abbrev nBuf : Space → Nat
  | .hbm => 20
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S1x1024, .f32⟩
  | .hbm, ⟨6, _⟩ => ⟨S1024x3072, .bf16⟩
  | .hbm, ⟨7, _⟩ => ⟨S1x64, .f32⟩
  | .hbm, ⟨8, _⟩ => ⟨S16x64, .f32⟩
  | .hbm, ⟨9, _⟩ => ⟨S1024, .f32⟩
  | .hbm, ⟨10, _⟩ => ⟨S1x1024, .f32⟩
  | .hbm, ⟨11, _⟩ => ⟨S1x64, .f32⟩
  | .hbm, ⟨12, _⟩ => ⟨S16x64, .f32⟩
  | .hbm, ⟨13, _⟩ => ⟨S1024, .f32⟩
  | .hbm, ⟨14, _⟩ => ⟨S1x1024, .f32⟩
  | .hbm, ⟨15, _⟩ => ⟨S16384x1024, .bf16⟩
  | .hbm, ⟨16, _⟩ => ⟨S16384x1024, .f32⟩
  | .hbm, ⟨17, _⟩ => ⟨S16384x1024, .f32⟩
  | .hbm, ⟨18, _⟩ => ⟨S16384x1024, .bf16⟩
  | .hbm, ⟨19, _⟩ => ⟨S2x8x16x128x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x8x1x128x512, .bf16⟩
  | .local _ .vmem, ⟨15, _⟩ => ⟨S1x8x1x128x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev main_v10_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16384x1024 : Shape := ⟨2, ![16384, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩
abbrev S16384x8x2x64 : Shape := ⟨4, ![16384, 8, 2, 64]⟩
abbrev S16384x8x2 : Shape := ⟨3, ![16384, 8, 2]⟩
abbrev S16384x8x2x1 : Shape := ⟨4, ![16384, 8, 2, 1]⟩
abbrev S1x1x1x64 : Shape := ⟨4, ![1, 1, 1, 64]⟩
abbrev S2x16x512x8x128 : Shape := ⟨5, ![2, 16, 512, 8, 128]⟩
abbrev S2x8x16x128x512 : Shape := ⟨5, ![2, 8, 16, 128, 512]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x3072, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x8x2x64, .f32⟩
  | .hbm, ⟨26, _⟩ => ⟨S16384x8x2x64, .f32⟩
  | .hbm, ⟨27, _⟩ => ⟨S_, .f32⟩
  | .hbm, ⟨28, _⟩ => ⟨S16384x8x2, .f32⟩
  | .hbm, ⟨29, _⟩ => ⟨S16384x8x2x1, .f32⟩
  | .hbm, ⟨30, _⟩ => ⟨S_, .f32⟩
  | .hbm, ⟨31, _⟩ => ⟨S16384x8x2x1, .f32⟩
  | .hbm, ⟨32, _⟩ => ⟨S16384x8x2x1, .f32⟩
  | .hbm, ⟨33, _⟩ => ⟨S_, .f32⟩
  | .hbm, ⟨34, _⟩ => ⟨S16384x8x2x1, .f32⟩
  | .hbm, ⟨35, _⟩ => ⟨S16384x8x2x1, .f32⟩
  | .hbm, ⟨36, _⟩ => ⟨S16384x8x2x1, .f32⟩
  | .hbm, ⟨37, _⟩ => ⟨S16384x8x2x64, .f32⟩
  | .hbm, ⟨38, _⟩ => ⟨S16384x8x2x64, .f32⟩
  | .hbm, ⟨39, _⟩ => ⟨S1x1x1x64, .f32⟩
  | .hbm, ⟨40, _⟩ => ⟨S16384x8x2x64, .f32⟩
  | .hbm, ⟨41, _⟩ => ⟨S16384x8x2x64, .f32⟩
  | .hbm, ⟨42, _⟩ => ⟨S16384x1024, .f32⟩
  | .hbm, ⟨43, _⟩ => ⟨S16384x8x2x64, .f32⟩
  | .hbm, ⟨44, _⟩ => ⟨S16384x8x2x64, .f32⟩
  | .hbm, ⟨45, _⟩ => ⟨S_, .f32⟩
  | .hbm, ⟨46, _⟩ => ⟨S16384x8x2, .f32⟩
  | .hbm, ⟨47, _⟩ => ⟨S16384x8x2x1, .f32⟩
  | .hbm, ⟨48, _⟩ => ⟨S_, .f32⟩
  | .hbm, ⟨49, _⟩ => ⟨S16384x8x2x1, .f32⟩
  | .hbm, ⟨50, _⟩ => ⟨S16384x8x2x1, .f32⟩
  | .hbm, ⟨51, _⟩ => ⟨S_, .f32⟩
  | .hbm, ⟨52, _⟩ => ⟨S16384x8x2x1, .f32⟩
  | .hbm, ⟨53, _⟩ => ⟨S16384x8x2x1, .f32⟩
  | .hbm, ⟨54, _⟩ => ⟨S16384x8x2x1, .f32⟩
  | .hbm, ⟨55, _⟩ => ⟨S16384x8x2x64, .f32⟩
  | .hbm, ⟨56, _⟩ => ⟨S16384x8x2x64, .f32⟩
  | .hbm, ⟨57, _⟩ => ⟨S1x1x1x64, .f32⟩
  | .hbm, ⟨58, _⟩ => ⟨S16384x8x2x64, .f32⟩
  | .hbm, ⟨59, _⟩ => ⟨S16384x8x2x64, .f32⟩
  | .hbm, ⟨60, _⟩ => ⟨S16384x1024, .f32⟩
  | .hbm, ⟨61, _⟩ => ⟨S2x16x512x8x128, .f32⟩
  | .hbm, ⟨62, _⟩ => ⟨S2x8x16x128x512, .f32⟩
  | .hbm, ⟨63, _⟩ => ⟨S_, .f32⟩
  | .hbm, ⟨64, _⟩ => ⟨S16384x1024, .f32⟩
  | .hbm, ⟨65, _⟩ => ⟨S16384x1024, .f32⟩
  | .hbm, ⟨66, _⟩ => ⟨S16384x1024, .bf16⟩
  | .hbm, ⟨67, _⟩ => ⟨S16384x1024, .bf16⟩
  | .hbm, ⟨68, _⟩ => ⟨S2x8x16x128x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x3072 : Shape := ⟨2, ![1024, 3072]⟩
abbrev S128 : Shape := ⟨1, ![128]⟩
abbrev S1x1024 : Shape := ⟨2, ![1, 1024]⟩
abbrev S1x128 : Shape := ⟨2, ![1, 128]⟩
abbrev S8x128 : Shape := ⟨2, ![8, 128]⟩
abbrev S2x8x32x128x256 : Shape := ⟨5, ![2, 8, 32, 128, 256]⟩
abbrev S512x1024 : Shape := ⟨2, ![512, 1024]⟩
abbrev S1x8x2x128x256 : Shape := ⟨5, ![1, 8, 2, 128, 256]⟩
abbrev S512 : Shape := ⟨1, ![512]⟩
abbrev S512x1 : Shape := ⟨2, ![512, 1]⟩
abbrev S512x3072 : Shape := ⟨2, ![512, 3072]⟩
abbrev S512x128 : Shape := ⟨2, ![512, 128]⟩
abbrev S256x128 : Shape := ⟨2, ![256, 128]⟩
abbrev S128x256 : Shape := ⟨2, ![128, 256]⟩
abbrev S1x1x1x128x256 : Shape := ⟨5, ![1, 1, 1, 128, 256]⟩

abbrev nBuf : Space → Nat
  | .hbm => 21
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S128, .f32⟩
  | .hbm, ⟨4, _⟩ => ⟨S128, .f32⟩
  | .hbm, ⟨5, _⟩ => ⟨S1x1024, .f32⟩
  | .hbm, ⟨6, _⟩ => ⟨S1024x3072, .bf16⟩
  | .hbm, ⟨7, _⟩ => ⟨S1x128, .f32⟩
  | .hbm, ⟨8, _⟩ => ⟨S8x128, .f32⟩
  | .hbm, ⟨9, _⟩ => ⟨S1024, .f32⟩
  | .hbm, ⟨10, _⟩ => ⟨S1x1024, .f32⟩
  | .hbm, ⟨11, _⟩ => ⟨S1x128, .f32⟩
  | .hbm, ⟨12, _⟩ => ⟨S8x128, .f32⟩
  | .hbm, ⟨13, _⟩ => ⟨S1024, .f32⟩
  | .hbm, ⟨14, _⟩ => ⟨S1x1024, .f32⟩
  | .hbm, ⟨15, _⟩ => ⟨S16384x1024, .bf16⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .bf16⟩
  | .hbm, ⟨20, _⟩ => ⟨S2x8x32x128x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x8x2x128x256, .bf16⟩
  | .local _ .vmem, ⟨17, _⟩ => ⟨S1x8x2x128x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev main_v10_4 : Ref sig .tc := ⟨.hbm, 19, rfl⟩
abbrev main_v10_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x2x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S16384x1024 : Shape := ⟨2, ![16384, 1024]⟩
abbrev S1024 : Shape := ⟨1, ![1024]⟩
abbrev S1024x3072 : Shape := ⟨2, ![1024, 3072]⟩
abbrev S128 : Shape := ⟨1, ![128]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩
abbrev S16384x8x128 : Shape := ⟨3, ![16384, 8, 128]⟩
abbrev S16384x8 : Shape := ⟨2, ![16384, 8]⟩
abbrev S16384x8x1 : Shape := ⟨3, ![16384, 8, 1]⟩
abbrev S1x1x128 : Shape := ⟨3, ![1, 1, 128]⟩
abbrev S2x32x256x8x128 : Shape := ⟨5, ![2, 32, 256, 8, 128]⟩
abbrev S2x8x32x128x256 : Shape := ⟨5, ![2, 8, 32, 128, 256]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S128, .f32⟩
  | .hbm, ⟨4, _⟩ => ⟨S128, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x3072, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x8x128, .f32⟩
  | .hbm, ⟨26, _⟩ => ⟨S16384x8x128, .f32⟩
  | .hbm, ⟨27, _⟩ => ⟨S_, .f32⟩
  | .hbm, ⟨28, _⟩ => ⟨S16384x8, .f32⟩
  | .hbm, ⟨29, _⟩ => ⟨S16384x8x1, .f32⟩
  | .hbm, ⟨30, _⟩ => ⟨S_, .f32⟩
  | .hbm, ⟨31, _⟩ => ⟨S16384x8x1, .f32⟩
  | .hbm, ⟨32, _⟩ => ⟨S16384x8x1, .f32⟩
  | .hbm, ⟨33, _⟩ => ⟨S_, .f32⟩
  | .hbm, ⟨34, _⟩ => ⟨S16384x8x1, .f32⟩
  | .hbm, ⟨35, _⟩ => ⟨S16384x8x1, .f32⟩
  | .hbm, ⟨36, _⟩ => ⟨S16384x8x1, .f32⟩
  | .hbm, ⟨37, _⟩ => ⟨S16384x8x128, .f32⟩
  | .hbm, ⟨38, _⟩ => ⟨S16384x8x128, .f32⟩
  | .hbm, ⟨39, _⟩ => ⟨S1x1x128, .f32⟩
  | .hbm, ⟨40, _⟩ => ⟨S16384x8x128, .f32⟩
  | .hbm, ⟨41, _⟩ => ⟨S16384x8x128, .f32⟩
  | .hbm, ⟨42, _⟩ => ⟨S16384x1024, .f32⟩
  | .hbm, ⟨43, _⟩ => ⟨S16384x8x128, .f32⟩
  | .hbm, ⟨44, _⟩ => ⟨S16384x8x128, .f32⟩
  | .hbm, ⟨45, _⟩ => ⟨S_, .f32⟩
  | .hbm, ⟨46, _⟩ => ⟨S16384x8, .f32⟩
  | .hbm, ⟨47, _⟩ => ⟨S16384x8x1, .f32⟩
  | .hbm, ⟨48, _⟩ => ⟨S_, .f32⟩
  | .hbm, ⟨49, _⟩ => ⟨S16384x8x1, .f32⟩
  | .hbm, ⟨50, _⟩ => ⟨S16384x8x1, .f32⟩
  | .hbm, ⟨51, _⟩ => ⟨S_, .f32⟩
  | .hbm, ⟨52, _⟩ => ⟨S16384x8x1, .f32⟩
  | .hbm, ⟨53, _⟩ => ⟨S16384x8x1, .f32⟩
  | .hbm, ⟨54, _⟩ => ⟨S16384x8x1, .f32⟩
  | .hbm, ⟨55, _⟩ => ⟨S16384x8x128, .f32⟩
  | .hbm, ⟨56, _⟩ => ⟨S16384x8x128, .f32⟩
  | .hbm, ⟨57, _⟩ => ⟨S1x1x128, .f32⟩
  | .hbm, ⟨58, _⟩ => ⟨S16384x8x128, .f32⟩
  | .hbm, ⟨59, _⟩ => ⟨S16384x8x128, .f32⟩
  | .hbm, ⟨60, _⟩ => ⟨S16384x1024, .f32⟩
  | .hbm, ⟨61, _⟩ => ⟨S2x32x256x8x128, .f32⟩
  | .hbm, ⟨62, _⟩ => ⟨S2x8x32x128x256, .f32⟩
  | .hbm, ⟨63, _⟩ => ⟨S_, .f32⟩
  | .hbm, ⟨64, _⟩ => ⟨S16384x1024, .f32⟩
  | .hbm, ⟨65, _⟩ => ⟨S16384x1024, .f32⟩
  | .hbm, ⟨66, _⟩ => ⟨S16384x1024, .bf16⟩
  | .hbm, ⟨67, _⟩ => ⟨S16384x1024, .bf16⟩
  | .hbm, ⟨68, _⟩ => ⟨S2x8x32x128x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Kernel6.lean ====
abbrev S2x8192x1024 : Shape := ⟨3, ![2, 8192, 1024]⟩
abbrev S2x8x16x128x512 : Shape := ⟨5, ![2, 8, 16, 128, 512]⟩
abbrev S8x2x512x512 : Shape := ⟨4, ![8, 2, 512, 512]⟩
abbrev S64 : Shape := ⟨1, ![64]⟩
abbrev S128 : Shape := ⟨1, ![128]⟩
abbrev S1x64 : Shape := ⟨2, ![1, 64]⟩
abbrev S1x128 : Shape := ⟨2, ![1, 128]⟩
abbrev S1x512x128 : Shape := ⟨3, ![1, 512, 128]⟩
abbrev S1x8192x128 : Shape := ⟨3, ![1, 8192, 128]⟩
abbrev S1x1x16x128x512 : Shape := ⟨5, ![1, 1, 16, 128, 512]⟩
abbrev S1x2x512x512 : Shape := ⟨4, ![1, 2, 512, 512]⟩
abbrev S2x2x512x512 : Shape := ⟨4, ![2, 2, 512, 512]⟩
abbrev S2x2x1x512 : Shape := ⟨4, ![2, 2, 1, 512]⟩
abbrev S1x512 : Shape := ⟨2, ![1, 512]⟩
abbrev S128x512 : Shape := ⟨2, ![128, 512]⟩
abbrev S512x128 : Shape := ⟨2, ![512, 128]⟩
abbrev S1x1x512x512 : Shape := ⟨4, ![1, 1, 512, 512]⟩
abbrev S512x512 : Shape := ⟨2, ![512, 512]⟩
abbrev S512 : Shape := ⟨1, ![512]⟩
abbrev S1x1x1x512 : Shape := ⟨4, ![1, 1, 1, 512]⟩
abbrev S1x1x1x128x512 : Shape := ⟨5, ![1, 1, 1, 128, 512]⟩
abbrev S1 : Shape := ⟨1, ![1]⟩
abbrev S1x1 : Shape := ⟨2, ![1, 1]⟩
abbrev S512x1 : Shape := ⟨2, ![512, 1]⟩

abbrev nBuf : Space → Nat
  | .hbm => 15
  | .vmem => 25
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .bf16⟩
  | .hbm, ⟨2, _⟩ => ⟨S2x8x16x128x512, .bf16⟩
  | .hbm, ⟨3, _⟩ => ⟨S8x2x512x512, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x128, .f32⟩
  | .hbm, ⟨14, _⟩ => ⟨S2x8192x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x1x16x128x512, .bf16⟩
  | .local _ .vmem, ⟨5, _⟩ => ⟨S1x1x16x128x512, .bf16⟩
  | .local _ .vmem, ⟨6, _⟩ => ⟨S1x2x512x512, .f32⟩
  | .local _ .vmem, ⟨7, _⟩ => ⟨S1x2x512x512, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x128, .f32⟩
  | .local _ .vmem, ⟨13, _⟩ => ⟨S1x512x128, .bf16⟩
  | .local _ .vmem, ⟨14, _⟩ => ⟨S1x512x128, .bf16⟩
  | .local _ .vmem, ⟨15, _⟩ => ⟨S2x2x512x512, .f32⟩
  | .local _ .vmem, ⟨16, _⟩ => ⟨S2x2x512x512, .f32⟩
  | .local _ .vmem, ⟨17, _⟩ => ⟨S2x2x1x512, .f32⟩
  | .local _ .vmem, ⟨18, _⟩ => ⟨S2x2x1x512, .f32⟩
  | .local _ .vmem, ⟨19, _⟩ => ⟨S1x512, .f32⟩
  | .local _ .vmem, ⟨20, _⟩ => ⟨S1x512, .f32⟩
  | .local _ .vmem, ⟨21, _⟩ => ⟨S128x512, .f32⟩
  | .local _ .vmem, ⟨22, _⟩ => ⟨S1x512, .f32⟩
  | .local _ .vmem, ⟨23, _⟩ => ⟨S1x512, .f32⟩
  | .local _ .vmem, ⟨24, _⟩ => ⟨S128x512, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![2, 8, 16], ![false, false, false]⟩

def k0_mult1 (i : grid0.Coords) : BitVec 32 :=
  let arg2 : BitVec 32 := BitVec.ofNat 32 (i 2).val
  let c512_i32 : BitVec 32 := 512#32
  let v63 : BitVec 32 := Scalar.muli arg2 c512_i32
  v63
def k0_off1 (i : grid0.Coords) : Fin 3 → Nat :=
  let c0_39 : Index := 0#32
  let arg2 : BitVec 32 := BitVec.ofNat 32 (i 2).val
  let c512_i32 : BitVec 32 := 512#32
  let v63 : BitVec 32 := Scalar.muli arg2 c512_i32
  let v64 : BitVec 32 := v63
  let v65 : Index := Scalar.indexCast v64
  let c0_40 : Index := 0#32
  ![0, v65.toNat, 0]
def k0_mult2 (i : grid0.Coords) : BitVec 32 :=
  let arg2 : BitVec 32 := BitVec.ofNat 32 (i 2).val
  let c1_i32_28 : BitVec 32 := 1#32
  let v54 : BitVec 32 := Scalar.subi arg2 c1_i32_28
  let c0_i32_29 : BitVec 32 := 0#32
  let v55 : BitVec 32 := Scalar.maxsi v54 c0_i32_29
  let c512_i32_61 : BitVec 32 := 512#32
  let v88 : BitVec 32 := Scalar.muli v55 c512_i32_61
  v88
def k0_off2 (i : grid0.Coords) : Fin 3 → Nat :=
  let c0_62 : Index := 0#32
  let arg2 : BitVec 32 := BitVec.ofNat 32 (i 2).val
  let c1_i32_28 : BitVec 32 := 1#32
  let v54 : BitVec 32 := Scalar.subi arg2 c1_i32_28
  let c0_i32_29 : BitVec 32 := 0#32
  let v55 : BitVec 32 := Scalar.maxsi v54 c0_i32_29
  let c512_i32_61 : BitVec 32 := 512#32
  let v88 : BitVec 32 := Scalar.muli v55 c512_i32_61
  let v89 : BitVec 32 := v88
  let v90 : Index := Scalar.indexCast v89
  let c0_63 : Index := 0#32
  ![0, v90.toNat, 0]
@[reducible] def k0_t1_loop (i : grid0.Coords) : Scf.Loop 32 :=
  let c0_i32_95 : BitVec 32 := 0#32
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_85 : BitVec 32 := 1#32
  let v114 : BitVec 32 := Scalar.subi v113 c1_i32_85
  let c0_i32_86 : BitVec 32 := 0#32
  let v115 : BitVec 32 := Scalar.maxsi v114 c0_i32_86
  let c0_i32_88 : BitVec 32 := 0#32
  let v117 : BitVec 1 := Scalar.cmpi .sgt v115 c0_i32_88
  let v118 : BitVec 32 := Scalar.extui v117
  let c0_i32_89 : BitVec 32 := 0#32
  let v119 : BitVec 1 := Scalar.cmpi .slt v115 c0_i32_89
  let v120 : BitVec 32 := Scalar.extui v119
  let v121 : BitVec 32 := Scalar.subi v118 v120
  let c2_i32_87 : BitVec 32 := 2#32
  let c0_i32_90 : BitVec 32 := 0#32
  let v122 : BitVec 1 := Scalar.cmpi .sgt c2_i32_87 c0_i32_90
  let v123 : BitVec 32 := Scalar.extui v122
  let c0_i32_91 : BitVec 32 := 0#32
  let v124 : BitVec 1 := Scalar.cmpi .slt c2_i32_87 c0_i32_91
  let v125 : BitVec 32 := Scalar.extui v124
  let v126 : BitVec 32 := Scalar.subi v123 v125
  let v127 : BitVec 1 := Scalar.cmpi .ne v121 v126
  let v128 : BitVec 32 := Scalar.remsi v115 c2_i32_87
  let c0_i32_92 : BitVec 32 := 0#32
  let v129 : BitVec 1 := Scalar.cmpi .ne v128 c0_i32_92
  let v130 : BitVec 1 := Scalar.andi v127 v129
  let v116 : BitVec 32 := Scalar.divsi v115 c2_i32_87
  let c1_i32_93 : BitVec 32 := 1#32
  let v131 : BitVec 32 := Scalar.subi v116 c1_i32_93
  let v132 : BitVec 32 := Scalar.select v130 v131 v116
  let v133 : BitVec 32 := Scalar.subi v132 c0_i32_95
  let c1_i32_96 : BitVec 32 := 1#32
  let v135 : BitVec 32 := Scalar.divsi v133 c1_i32_96
  let v136 : BitVec 32 := Scalar.muli v135 c1_i32_96
  let v137 : BitVec 32 := Scalar.addi c0_i32_95 v136
  let c1_i32_97 : BitVec 32 := 1#32
  ⟨c0_i32_95, v137, c1_i32_97⟩
def k0_mult3 (i : grid0.Coords) (k0_t1 : Fin (k0_t1_loop i).trips) : BitVec 32 :=
  let c2_i32_138 : BitVec 32 := 2#32
  let c0_i32_95 : BitVec 32 := 0#32
  let c1_i32_97 : BitVec 32 := 1#32
  let arg23 : BitVec 32 := Scf.iv c0_i32_95 c1_i32_97 k0_t1
  let v208 : BitVec 32 := Scalar.muli c2_i32_138 arg23
  let c1_i32_139 : BitVec 32 := 1#32
  let v209 : BitVec 32 := Scalar.addi v208 c1_i32_139
  let c0_i32_149 : BitVec 32 := 0#32
  let v220 : BitVec 1 := Scalar.cmpi .eq v209 c0_i32_149
  let arg2 : BitVec 32 := BitVec.ofNat 32 (i 2).val
  let c15_i32 : BitVec 32 := 15#32
  let c0_i32_143 : BitVec 32 := 0#32
  let c1_i32_140 : BitVec 32 := 1#32
  let v210 : BitVec 32 := Scalar.subi v209 c1_i32_140
  let c2_i32_141 : BitVec 32 := 2#32
  let v211 : BitVec 32 := Scalar.muli v210 c2_i32_141
  let c0_i32_142 : BitVec 32 := 0#32
  let v212 : BitVec 32 := Scalar.addi v211 c0_i32_142
  let v213 : BitVec 32 := Scalar.maxsi c0_i32_143 v212
  let v214 : BitVec 32 := Scalar.minsi c15_i32 v213
  let v221 : BitVec 32 := Scalar.select v220 arg2 v214
  let c512_i32_151 : BitVec 32 := 512#32
  let v224 : BitVec 32 := Scalar.muli v221 c512_i32_151
  v224
def k0_off3 (i : grid0.Coords) (k0_t1 : Fin (k0_t1_loop i).trips) (c1_i32_139 : BitVec 32) : Fin 3 → Nat :=
  let c0_152 : Index := 0#32
  let c2_i32_138 : BitVec 32 := 2#32
  let c0_i32_95 : BitVec 32 := 0#32
  let c1_i32_97 : BitVec 32 := 1#32
  let arg23 : BitVec 32 := Scf.iv c0_i32_95 c1_i32_97 k0_t1
  let v208 : BitVec 32 := Scalar.muli c2_i32_138 arg23
  let v209 : BitVec 32 := Scalar.addi v208 c1_i32_139
  let c0_i32_149 : BitVec 32 := 0#32
  let v220 : BitVec 1 := Scalar.cmpi .eq v209 c0_i32_149
  let arg2 : BitVec 32 := BitVec.ofNat 32 (i 2).val
  let c15_i32 : BitVec 32 := 15#32
  let c0_i32_143 : BitVec 32 := 0#32
  let c1_i32_140 : BitVec 32 := 1#32
  let v210 : BitVec 32 := Scalar.subi v209 c1_i32_140
  let c2_i32_141 : BitVec 32 := 2#32
  let v211 : BitVec 32 := Scalar.muli v210 c2_i32_141
  let c0_i32_142 : BitVec 32 := 0#32
  let v212 : BitVec 32 := Scalar.addi v211 c0_i32_142
  let v213 : BitVec 32 := Scalar.maxsi c0_i32_143 v212
  let v214 : BitVec 32 := Scalar.minsi c15_i32 v213
  let v221 : BitVec 32 := Scalar.select v220 arg2 v214
  let c512_i32_151 : BitVec 32 := 512#32
  let v224 : BitVec 32 := Scalar.muli v221 c512_i32_151
  let v225 : BitVec 32 := v224
  let v226 : Index := Scalar.indexCast v225
  let c0_153 : Index := 0#32
  ![0, v226.toNat, 0]
def k0_mult4 (i : grid0.Coords) (k0_t1 : Fin (k0_t1_loop i).trips) : BitVec 32 :=
  let c2_i32_138 : BitVec 32 := 2#32
  let c0_i32_95 : BitVec 32 := 0#32
  let c1_i32_97 : BitVec 32 := 1#32
  let arg23 : BitVec 32 := Scf.iv c0_i32_95 c1_i32_97 k0_t1
  let v208 : BitVec 32 := Scalar.muli c2_i32_138 arg23
  let c1_i32_139 : BitVec 32 := 1#32
  let v209 : BitVec 32 := Scalar.addi v208 c1_i32_139
  let c0_i32_150 : BitVec 32 := 0#32
  let v222 : BitVec 1 := Scalar.cmpi .eq v209 c0_i32_150
  let arg2 : BitVec 32 := BitVec.ofNat 32 (i 2).val
  let c1_i32_28 : BitVec 32 := 1#32
  let v54 : BitVec 32 := Scalar.subi arg2 c1_i32_28
  let c0_i32_29 : BitVec 32 := 0#32
  let v55 : BitVec 32 := Scalar.maxsi v54 c0_i32_29
  let c15_i32_148 : BitVec 32 := 15#32
  let c0_i32_147 : BitVec 32 := 0#32
  let c1_i32_144 : BitVec 32 := 1#32
  let v215 : BitVec 32 := Scalar.subi v209 c1_i32_144
  let c2_i32_145 : BitVec 32 := 2#32
  let v216 : BitVec 32 := Scalar.muli v215 c2_i32_145
  let c1_i32_146 : BitVec 32 := 1#32
  let v217 : BitVec 32 := Scalar.addi v216 c1_i32_146
  let v218 : BitVec 32 := Scalar.maxsi c0_i32_147 v217
  let v219 : BitVec 32 := Scalar.minsi c15_i32_148 v218
  let v223 : BitVec 32 := Scalar.select v222 v55 v219
  let c512_i32_174 : BitVec 32 := 512#32
  let v247 : BitVec 32 := Scalar.muli v223 c512_i32_174
  v247
def k0_off4 (i : grid0.Coords) (k0_t1 : Fin (k0_t1_loop i).trips) (c1_i32_139 : BitVec 32) : Fin 3 → Nat :=
  let c0_175 : Index := 0#32
  let c2_i32_138 : BitVec 32 := 2#32
  let c0_i32_95 : BitVec 32 := 0#32
  let c1_i32_97 : BitVec 32 := 1#32
  let arg23 : BitVec 32 := Scf.iv c0_i32_95 c1_i32_97 k0_t1
  let v208 : BitVec 32 := Scalar.muli c2_i32_138 arg23
  let v209 : BitVec 32 := Scalar.addi v208 c1_i32_139
  let c0_i32_150 : BitVec 32 := 0#32
  let v222 : BitVec 1 := Scalar.cmpi .eq v209 c0_i32_150
  let arg2 : BitVec 32 := BitVec.ofNat 32 (i 2).val
  let c1_i32_28 : BitVec 32 := 1#32
  let v54 : BitVec 32 := Scalar.subi arg2 c1_i32_28
  let c0_i32_29 : BitVec 32 := 0#32
  let v55 : BitVec 32 := Scalar.maxsi v54 c0_i32_29
  let c15_i32_148 : BitVec 32 := 15#32
  let c0_i32_147 : BitVec 32 := 0#32
  let c1_i32_144 : BitVec 32 := 1#32
  let v215 : BitVec 32 := Scalar.subi v209 c1_i32_144
  let c2_i32_145 : BitVec 32 := 2#32
  let v216 : BitVec 32 := Scalar.muli v215 c2_i32_145
  let c1_i32_146 : BitVec 32 := 1#32
  let v217 : BitVec 32 := Scalar.addi v216 c1_i32_146
  let v218 : BitVec 32 := Scalar.maxsi c0_i32_147 v217
  let v219 : BitVec 32 := Scalar.minsi c15_i32_148 v218
  let v223 : BitVec 32 := Scalar.select v222 v55 v219
  let c512_i32_174 : BitVec 32 := 512#32
  let v247 : BitVec 32 := Scalar.muli v223 c512_i32_174
  let v248 : BitVec 32 := v247
  let v249 : Index := Scalar.indexCast v248
  let c0_176 : Index := 0#32
  ![0, v249.toNat, 0]
def k0_off5 (i : grid0.Coords) (k0_t1 : Fin (k0_t1_loop i).trips) : Fin 5 → Nat :=
  let c0_241 : Index := 0#32
  let c0_242 : Index := 0#32
  let c2_i32_138 : BitVec 32 := 2#32
  let c0_i32_95 : BitVec 32 := 0#32
  let c1_i32_97 : BitVec 32 := 1#32
  let arg23 : BitVec 32 := Scf.iv c0_i32_95 c1_i32_97 k0_t1
  let v208 : BitVec 32 := Scalar.muli c2_i32_138 arg23
  let c0_i32_207 : BitVec 32 := 0#32
  let v280 : BitVec 1 := Scalar.cmpi .eq v208 c0_i32_207
  let arg2 : BitVec 32 := BitVec.ofNat 32 (i 2).val
  let c15_i32_201 : BitVec 32 := 15#32
  let c0_i32_200 : BitVec 32 := 0#32
  let c1_i32_197 : BitVec 32 := 1#32
  let v270 : BitVec 32 := Scalar.subi v208 c1_i32_197
  let c2_i32_198 : BitVec 32 := 2#32
  let v271 : BitVec 32 := Scalar.muli v270 c2_i32_198
  let c0_i32_199 : BitVec 32 := 0#32
  let v272 : BitVec 32 := Scalar.addi v271 c0_i32_199
  let v273 : BitVec 32 := Scalar.maxsi c0_i32_200 v272
  let v274 : BitVec 32 := Scalar.minsi c15_i32_201 v273
  let v281 : BitVec 32 := Scalar.select v280 arg2 v274
  let v300 : Index := Scalar.indexCast v281
  let c0_243 : Index := 0#32
  let c0_244 : Index := 0#32
  ![0, 0, v300.toNat, 0, 0]
def k0_off6 (i : grid0.Coords) (k0_t1 : Fin (k0_t1_loop i).trips) : Fin 5 → Nat :=
  let c0_245 : Index := 0#32
  let c0_246 : Index := 0#32
  let c2_i32_138 : BitVec 32 := 2#32
  let c0_i32_95 : BitVec 32 := 0#32
  let c1_i32_97 : BitVec 32 := 1#32
  let arg23 : BitVec 32 := Scf.iv c0_i32_95 c1_i32_97 k0_t1
  let v208 : BitVec 32 := Scalar.muli c2_i32_138 arg23
  let c0_i32_208 : BitVec 32 := 0#32
  let v282 : BitVec 1 := Scalar.cmpi .eq v208 c0_i32_208
  let arg2 : BitVec 32 := BitVec.ofNat 32 (i 2).val
  let c1_i32_28 : BitVec 32 := 1#32
  let v54 : BitVec 32 := Scalar.subi arg2 c1_i32_28
  let c0_i32_29 : BitVec 32 := 0#32
  let v55 : BitVec 32 := Scalar.maxsi v54 c0_i32_29
  let c15_i32_206 : BitVec 32 := 15#32
  let c0_i32_205 : BitVec 32 := 0#32
  let c1_i32_202 : BitVec 32 := 1#32
  let v275 : BitVec 32 := Scalar.subi v208 c1_i32_202
  let c2_i32_203 : BitVec 32 := 2#32
  let v276 : BitVec 32 := Scalar.muli v275 c2_i32_203
  let c1_i32_204 : BitVec 32 := 1#32
  let v277 : BitVec 32 := Scalar.addi v276 c1_i32_204
  let v278 : BitVec 32 := Scalar.maxsi c0_i32_205 v277
  let v279 : BitVec 32 := Scalar.minsi c15_i32_206 v278
  let v283 : BitVec 32 := Scalar.select v282 v55 v279
  let v303 : Index := Scalar.indexCast v283
  let c0_247 : Index := 0#32
  let c0_248 : Index := 0#32
  ![0, 0, v303.toNat, 0, 0]
def k0_mult5 (i : grid0.Coords) (k0_t1 : Fin (k0_t1_loop i).trips) : BitVec 32 :=
  let c2_i32_138 : BitVec 32 := 2#32
  let c0_i32_95 : BitVec 32 := 0#32
  let c1_i32_97 : BitVec 32 := 1#32
  let arg23 : BitVec 32 := Scf.iv c0_i32_95 c1_i32_97 k0_t1
  let v208 : BitVec 32 := Scalar.muli c2_i32_138 arg23
  let c2_i32_281 : BitVec 32 := 2#32
  let v380 : BitVec 32 := Scalar.addi v208 c2_i32_281
  let c0_i32_292 : BitVec 32 := 0#32
  let v391 : BitVec 1 := Scalar.cmpi .eq v380 c0_i32_292
  let arg2 : BitVec 32 := BitVec.ofNat 32 (i 2).val
  let c15_i32_286 : BitVec 32 := 15#32
  let c0_i32_285 : BitVec 32 := 0#32
  let c1_i32_282 : BitVec 32 := 1#32
  let v381 : BitVec 32 := Scalar.subi v380 c1_i32_282
  let c2_i32_283 : BitVec 32 := 2#32
  let v382 : BitVec 32 := Scalar.muli v381 c2_i32_283
  let c0_i32_284 : BitVec 32 := 0#32
  let v383 : BitVec 32 := Scalar.addi v382 c0_i32_284
  let v384 : BitVec 32 := Scalar.maxsi c0_i32_285 v383
  let v385 : BitVec 32 := Scalar.minsi c15_i32_286 v384
  let v392 : BitVec 32 := Scalar.select v391 arg2 v385
  let c512_i32_294 : BitVec 32 := 512#32
  let v395 : BitVec 32 := Scalar.muli v392 c512_i32_294
  v395
def k0_mult6 (i : grid0.Coords) (k0_t1 : Fin (k0_t1_loop i).trips) : BitVec 32 :=
  let c2_i32_138 : BitVec 32 := 2#32
  let c0_i32_95 : BitVec 32 := 0#32
  let c1_i32_97 : BitVec 32 := 1#32
  let arg23 : BitVec 32 := Scf.iv c0_i32_95 c1_i32_97 k0_t1
  let v208 : BitVec 32 := Scalar.muli c2_i32_138 arg23
  let c2_i32_281 : BitVec 32 := 2#32
  let v380 : BitVec 32 := Scalar.addi v208 c2_i32_281
  let c0_i32_293 : BitVec 32 := 0#32
  let v393 : BitVec 1 := Scalar.cmpi .eq v380 c0_i32_293
  let arg2 : BitVec 32 := BitVec.ofNat 32 (i 2).val
  let c1_i32_28 : BitVec 32 := 1#32
  let v54 : BitVec 32 := Scalar.subi arg2 c1_i32_28
  let c0_i32_29 : BitVec 32 := 0#32
  let v55 : BitVec 32 := Scalar.maxsi v54 c0_i32_29
  let c15_i32_291 : BitVec 32 := 15#32
  let c0_i32_290 : BitVec 32 := 0#32
  let c1_i32_287 : BitVec 32 := 1#32
  let v386 : BitVec 32 := Scalar.subi v380 c1_i32_287
  let c2_i32_288 : BitVec 32 := 2#32
  let v387 : BitVec 32 := Scalar.muli v386 c2_i32_288
  let c1_i32_289 : BitVec 32 := 1#32
  let v388 : BitVec 32 := Scalar.addi v387 c1_i32_289
  let v389 : BitVec 32 := Scalar.maxsi c0_i32_290 v388
  let v390 : BitVec 32 := Scalar.minsi c15_i32_291 v389
  let v394 : BitVec 32 := Scalar.select v393 v55 v390
  let c512_i32_317 : BitVec 32 := 512#32
  let v418 : BitVec 32 := Scalar.muli v394 c512_i32_317
  v418
def k0_off7 (i : grid0.Coords) (k0_t1 : Fin (k0_t1_loop i).trips) : Fin 5 → Nat :=
  let c0_385 : Index := 0#32
  let c0_386 : Index := 0#32
  let c2_i32_138 : BitVec 32 := 2#32
  let c0_i32_95 : BitVec 32 := 0#32
  let c1_i32_97 : BitVec 32 := 1#32
  let arg23 : BitVec 32 := Scf.iv c0_i32_95 c1_i32_97 k0_t1
  let v208 : BitVec 32 := Scalar.muli c2_i32_138 arg23
  let c1_i32_340 : BitVec 32 := 1#32
  let v441 : BitVec 32 := Scalar.addi v208 c1_i32_340
  let c0_i32_351 : BitVec 32 := 0#32
  let v452 : BitVec 1 := Scalar.cmpi .eq v441 c0_i32_351
  let arg2 : BitVec 32 := BitVec.ofNat 32 (i 2).val
  let c15_i32_345 : BitVec 32 := 15#32
  let c0_i32_344 : BitVec 32 := 0#32
  let c1_i32_341 : BitVec 32 := 1#32
  let v442 : BitVec 32 := Scalar.subi v441 c1_i32_341
  let c2_i32_342 : BitVec 32 := 2#32
  let v443 : BitVec 32 := Scalar.muli v442 c2_i32_342
  let c0_i32_343 : BitVec 32 := 0#32
  let v444 : BitVec 32 := Scalar.addi v443 c0_i32_343
  let v445 : BitVec 32 := Scalar.maxsi c0_i32_344 v444
  let v446 : BitVec 32 := Scalar.minsi c15_i32_345 v445
  let v453 : BitVec 32 := Scalar.select v452 arg2 v446
  let v472 : Index := Scalar.indexCast v453
  let c0_387 : Index := 0#32
  let c0_388 : Index := 0#32
  ![0, 0, v472.toNat, 0, 0]
def k0_off8 (i : grid0.Coords) (k0_t1 : Fin (k0_t1_loop i).trips) : Fin 5 → Nat :=
  let c0_389 : Index := 0#32
  let c0_390 : Index := 0#32
  let c2_i32_138 : BitVec 32 := 2#32
  let c0_i32_95 : BitVec 32 := 0#32
  let c1_i32_97 : BitVec 32 := 1#32
  let arg23 : BitVec 32 := Scf.iv c0_i32_95 c1_i32_97 k0_t1
  let v208 : BitVec 32 := Scalar.muli c2_i32_138 arg23
  let c1_i32_340 : BitVec 32 := 1#32
  let v441 : BitVec 32 := Scalar.addi v208 c1_i32_340
  let c0_i32_352 : BitVec 32 := 0#32
  let v454 : BitVec 1 := Scalar.cmpi .eq v441 c0_i32_352
  let arg2 : BitVec 32 := BitVec.ofNat 32 (i 2).val
  let c1_i32_28 : BitVec 32 := 1#32
  let v54 : BitVec 32 := Scalar.subi arg2 c1_i32_28
  let c0_i32_29 : BitVec 32 := 0#32
  let v55 : BitVec 32 := Scalar.maxsi v54 c0_i32_29
  let c15_i32_350 : BitVec 32 := 15#32
  let c0_i32_349 : BitVec 32 := 0#32
  let c1_i32_346 : BitVec 32 := 1#32
  let v447 : BitVec 32 := Scalar.subi v441 c1_i32_346
  let c2_i32_347 : BitVec 32 := 2#32
  let v448 : BitVec 32 := Scalar.muli v447 c2_i32_347
  let c1_i32_348 : BitVec 32 := 1#32
  let v449 : BitVec 32 := Scalar.addi v448 c1_i32_348
  let v450 : BitVec 32 := Scalar.maxsi c0_i32_349 v449
  let v451 : BitVec 32 := Scalar.minsi c15_i32_350 v450
  let v455 : BitVec 32 := Scalar.select v454 v55 v451
  let v475 : Index := Scalar.indexCast v455
  let c0_391 : Index := 0#32
  let c0_392 : Index := 0#32
  ![0, 0, v475.toNat, 0, 0]
@[reducible] def k0_t2_loop (i : grid0.Coords) : Scf.Loop 32 :=
  let c0_i32_95 : BitVec 32 := 0#32
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_85 : BitVec 32 := 1#32
  let v114 : BitVec 32 := Scalar.subi v113 c1_i32_85
  let c0_i32_86 : BitVec 32 := 0#32
  let v115 : BitVec 32 := Scalar.maxsi v114 c0_i32_86
  let c0_i32_88 : BitVec 32 := 0#32
  let v117 : BitVec 1 := Scalar.cmpi .sgt v115 c0_i32_88
  let v118 : BitVec 32 := Scalar.extui v117
  let c0_i32_89 : BitVec 32 := 0#32
  let v119 : BitVec 1 := Scalar.cmpi .slt v115 c0_i32_89
  let v120 : BitVec 32 := Scalar.extui v119
  let v121 : BitVec 32 := Scalar.subi v118 v120
  let c2_i32_87 : BitVec 32 := 2#32
  let c0_i32_90 : BitVec 32 := 0#32
  let v122 : BitVec 1 := Scalar.cmpi .sgt c2_i32_87 c0_i32_90
  let v123 : BitVec 32 := Scalar.extui v122
  let c0_i32_91 : BitVec 32 := 0#32
  let v124 : BitVec 1 := Scalar.cmpi .slt c2_i32_87 c0_i32_91
  let v125 : BitVec 32 := Scalar.extui v124
  let v126 : BitVec 32 := Scalar.subi v123 v125
  let v127 : BitVec 1 := Scalar.cmpi .ne v121 v126
  let v128 : BitVec 32 := Scalar.remsi v115 c2_i32_87
  let c0_i32_92 : BitVec 32 := 0#32
  let v129 : BitVec 1 := Scalar.cmpi .ne v128 c0_i32_92
  let v130 : BitVec 1 := Scalar.andi v127 v129
  let v116 : BitVec 32 := Scalar.divsi v115 c2_i32_87
  let c1_i32_93 : BitVec 32 := 1#32
  let v131 : BitVec 32 := Scalar.subi v116 c1_i32_93
  let v132 : BitVec 32 := Scalar.select v130 v131 v116
  let v133 : BitVec 32 := Scalar.subi v132 c0_i32_95
  let c1_i32_96 : BitVec 32 := 1#32
  let v135 : BitVec 32 := Scalar.divsi v133 c1_i32_96
  let v136 : BitVec 32 := Scalar.muli v135 c1_i32_96
  let v137 : BitVec 32 := Scalar.addi c0_i32_95 v136
  let v134 : BitVec 32 := Scalar.addi c0_i32_95 v133
  let c1_i32_98 : BitVec 32 := 1#32
  ⟨v137, v134, c1_i32_98⟩
def k0_mult7 (i : grid0.Coords) (k0_t2 : Fin (k0_t2_loop i).trips) : BitVec 32 :=
  let c2_i32_138 : BitVec 32 := 2#32
  let c0_i32_95 : BitVec 32 := 0#32
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_85 : BitVec 32 := 1#32
  let v114 : BitVec 32 := Scalar.subi v113 c1_i32_85
  let c0_i32_86 : BitVec 32 := 0#32
  let v115 : BitVec 32 := Scalar.maxsi v114 c0_i32_86
  let c0_i32_88 : BitVec 32 := 0#32
  let v117 : BitVec 1 := Scalar.cmpi .sgt v115 c0_i32_88
  let v118 : BitVec 32 := Scalar.extui v117
  let c0_i32_89 : BitVec 32 := 0#32
  let v119 : BitVec 1 := Scalar.cmpi .slt v115 c0_i32_89
  let v120 : BitVec 32 := Scalar.extui v119
  let v121 : BitVec 32 := Scalar.subi v118 v120
  let c2_i32_87 : BitVec 32 := 2#32
  let c0_i32_90 : BitVec 32 := 0#32
  let v122 : BitVec 1 := Scalar.cmpi .sgt c2_i32_87 c0_i32_90
  let v123 : BitVec 32 := Scalar.extui v122
  let c0_i32_91 : BitVec 32 := 0#32
  let v124 : BitVec 1 := Scalar.cmpi .slt c2_i32_87 c0_i32_91
  let v125 : BitVec 32 := Scalar.extui v124
  let v126 : BitVec 32 := Scalar.subi v123 v125
  let v127 : BitVec 1 := Scalar.cmpi .ne v121 v126
  let v128 : BitVec 32 := Scalar.remsi v115 c2_i32_87
  let c0_i32_92 : BitVec 32 := 0#32
  let v129 : BitVec 1 := Scalar.cmpi .ne v128 c0_i32_92
  let v130 : BitVec 1 := Scalar.andi v127 v129
  let v116 : BitVec 32 := Scalar.divsi v115 c2_i32_87
  let c1_i32_93 : BitVec 32 := 1#32
  let v131 : BitVec 32 := Scalar.subi v116 c1_i32_93
  let v132 : BitVec 32 := Scalar.select v130 v131 v116
  let v133 : BitVec 32 := Scalar.subi v132 c0_i32_95
  let c1_i32_96 : BitVec 32 := 1#32
  let v135 : BitVec 32 := Scalar.divsi v133 c1_i32_96
  let v136 : BitVec 32 := Scalar.muli v135 c1_i32_96
  let v137 : BitVec 32 := Scalar.addi c0_i32_95 v136
  let c1_i32_98 : BitVec 32 := 1#32
  let arg23 : BitVec 32 := Scf.iv v137 c1_i32_98 k0_t2
  let v208 : BitVec 32 := Scalar.muli c2_i32_138 arg23
  let c1_i32_139 : BitVec 32 := 1#32
  let v209 : BitVec 32 := Scalar.addi v208 c1_i32_139
  let c0_i32_149 : BitVec 32 := 0#32
  let v220 : BitVec 1 := Scalar.cmpi .eq v209 c0_i32_149
  let c15_i32 : BitVec 32 := 15#32
  let c0_i32_143 : BitVec 32 := 0#32
  let c1_i32_140 : BitVec 32 := 1#32
  let v210 : BitVec 32 := Scalar.subi v209 c1_i32_140
  let c2_i32_141 : BitVec 32 := 2#32
  let v211 : BitVec 32 := Scalar.muli v210 c2_i32_141
  let c0_i32_142 : BitVec 32 := 0#32
  let v212 : BitVec 32 := Scalar.addi v211 c0_i32_142
  let v213 : BitVec 32 := Scalar.maxsi c0_i32_143 v212
  let v214 : BitVec 32 := Scalar.minsi c15_i32 v213
  let v221 : BitVec 32 := Scalar.select v220 arg2 v214
  let c512_i32_151 : BitVec 32 := 512#32
  let v224 : BitVec 32 := Scalar.muli v221 c512_i32_151
  v224
def k0_off9 (i : grid0.Coords) (k0_t2 : Fin (k0_t2_loop i).trips) (c1_i32_139 : BitVec 32) : Fin 3 → Nat :=
  let c0_152 : Index := 0#32
  let c2_i32_138 : BitVec 32 := 2#32
  let c0_i32_95 : BitVec 32 := 0#32
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_85 : BitVec 32 := 1#32
  let v114 : BitVec 32 := Scalar.subi v113 c1_i32_85
  let c0_i32_86 : BitVec 32 := 0#32
  let v115 : BitVec 32 := Scalar.maxsi v114 c0_i32_86
  let c0_i32_88 : BitVec 32 := 0#32
  let v117 : BitVec 1 := Scalar.cmpi .sgt v115 c0_i32_88
  let v118 : BitVec 32 := Scalar.extui v117
  let c0_i32_89 : BitVec 32 := 0#32
  let v119 : BitVec 1 := Scalar.cmpi .slt v115 c0_i32_89
  let v120 : BitVec 32 := Scalar.extui v119
  let v121 : BitVec 32 := Scalar.subi v118 v120
  let c2_i32_87 : BitVec 32 := 2#32
  let c0_i32_90 : BitVec 32 := 0#32
  let v122 : BitVec 1 := Scalar.cmpi .sgt c2_i32_87 c0_i32_90
  let v123 : BitVec 32 := Scalar.extui v122
  let c0_i32_91 : BitVec 32 := 0#32
  let v124 : BitVec 1 := Scalar.cmpi .slt c2_i32_87 c0_i32_91
  let v125 : BitVec 32 := Scalar.extui v124
  let v126 : BitVec 32 := Scalar.subi v123 v125
  let v127 : BitVec 1 := Scalar.cmpi .ne v121 v126
  let v128 : BitVec 32 := Scalar.remsi v115 c2_i32_87
  let c0_i32_92 : BitVec 32 := 0#32
  let v129 : BitVec 1 := Scalar.cmpi .ne v128 c0_i32_92
  let v130 : BitVec 1 := Scalar.andi v127 v129
  let v116 : BitVec 32 := Scalar.divsi v115 c2_i32_87
  let c1_i32_93 : BitVec 32 := 1#32
  let v131 : BitVec 32 := Scalar.subi v116 c1_i32_93
  let v132 : BitVec 32 := Scalar.select v130 v131 v116
  let v133 : BitVec 32 := Scalar.subi v132 c0_i32_95
  let c1_i32_96 : BitVec 32 := 1#32
  let v135 : BitVec 32 := Scalar.divsi v133 c1_i32_96
  let v136 : BitVec 32 := Scalar.muli v135 c1_i32_96
  let v137 : BitVec 32 := Scalar.addi c0_i32_95 v136
  let c1_i32_98 : BitVec 32 := 1#32
  let arg23 : BitVec 32 := Scf.iv v137 c1_i32_98 k0_t2
  let v208 : BitVec 32 := Scalar.muli c2_i32_138 arg23
  let v209 : BitVec 32 := Scalar.addi v208 c1_i32_139
  let c0_i32_149 : BitVec 32 := 0#32
  let v220 : BitVec 1 := Scalar.cmpi .eq v209 c0_i32_149
  let c15_i32 : BitVec 32 := 15#32
  let c0_i32_143 : BitVec 32 := 0#32
  let c1_i32_140 : BitVec 32 := 1#32
  let v210 : BitVec 32 := Scalar.subi v209 c1_i32_140
  let c2_i32_141 : BitVec 32 := 2#32
  let v211 : BitVec 32 := Scalar.muli v210 c2_i32_141
  let c0_i32_142 : BitVec 32 := 0#32
  let v212 : BitVec 32 := Scalar.addi v211 c0_i32_142
  let v213 : BitVec 32 := Scalar.maxsi c0_i32_143 v212
  let v214 : BitVec 32 := Scalar.minsi c15_i32 v213
  let v221 : BitVec 32 := Scalar.select v220 arg2 v214
  let c512_i32_151 : BitVec 32 := 512#32
  let v224 : BitVec 32 := Scalar.muli v221 c512_i32_151
  let v225 : BitVec 32 := v224
  let v226 : Index := Scalar.indexCast v225
  let c0_153 : Index := 0#32
  ![0, v226.toNat, 0]
def k0_mult8 (i : grid0.Coords) (k0_t2 : Fin (k0_t2_loop i).trips) : BitVec 32 :=
  let c2_i32_138 : BitVec 32 := 2#32
  let c0_i32_95 : BitVec 32 := 0#32
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_85 : BitVec 32 := 1#32
  let v114 : BitVec 32 := Scalar.subi v113 c1_i32_85
  let c0_i32_86 : BitVec 32 := 0#32
  let v115 : BitVec 32 := Scalar.maxsi v114 c0_i32_86
  let c0_i32_88 : BitVec 32 := 0#32
  let v117 : BitVec 1 := Scalar.cmpi .sgt v115 c0_i32_88
  let v118 : BitVec 32 := Scalar.extui v117
  let c0_i32_89 : BitVec 32 := 0#32
  let v119 : BitVec 1 := Scalar.cmpi .slt v115 c0_i32_89
  let v120 : BitVec 32 := Scalar.extui v119
  let v121 : BitVec 32 := Scalar.subi v118 v120
  let c2_i32_87 : BitVec 32 := 2#32
  let c0_i32_90 : BitVec 32 := 0#32
  let v122 : BitVec 1 := Scalar.cmpi .sgt c2_i32_87 c0_i32_90
  let v123 : BitVec 32 := Scalar.extui v122
  let c0_i32_91 : BitVec 32 := 0#32
  let v124 : BitVec 1 := Scalar.cmpi .slt c2_i32_87 c0_i32_91
  let v125 : BitVec 32 := Scalar.extui v124
  let v126 : BitVec 32 := Scalar.subi v123 v125
  let v127 : BitVec 1 := Scalar.cmpi .ne v121 v126
  let v128 : BitVec 32 := Scalar.remsi v115 c2_i32_87
  let c0_i32_92 : BitVec 32 := 0#32
  let v129 : BitVec 1 := Scalar.cmpi .ne v128 c0_i32_92
  let v130 : BitVec 1 := Scalar.andi v127 v129
  let v116 : BitVec 32 := Scalar.divsi v115 c2_i32_87
  let c1_i32_93 : BitVec 32 := 1#32
  let v131 : BitVec 32 := Scalar.subi v116 c1_i32_93
  let v132 : BitVec 32 := Scalar.select v130 v131 v116
  let v133 : BitVec 32 := Scalar.subi v132 c0_i32_95
  let c1_i32_96 : BitVec 32 := 1#32
  let v135 : BitVec 32 := Scalar.divsi v133 c1_i32_96
  let v136 : BitVec 32 := Scalar.muli v135 c1_i32_96
  let v137 : BitVec 32 := Scalar.addi c0_i32_95 v136
  let c1_i32_98 : BitVec 32 := 1#32
  let arg23 : BitVec 32 := Scf.iv v137 c1_i32_98 k0_t2
  let v208 : BitVec 32 := Scalar.muli c2_i32_138 arg23
  let c1_i32_139 : BitVec 32 := 1#32
  let v209 : BitVec 32 := Scalar.addi v208 c1_i32_139
  let c0_i32_150 : BitVec 32 := 0#32
  let v222 : BitVec 1 := Scalar.cmpi .eq v209 c0_i32_150
  let c1_i32_28 : BitVec 32 := 1#32
  let v54 : BitVec 32 := Scalar.subi arg2 c1_i32_28
  let c0_i32_29 : BitVec 32 := 0#32
  let v55 : BitVec 32 := Scalar.maxsi v54 c0_i32_29
  let c15_i32_148 : BitVec 32 := 15#32
  let c0_i32_147 : BitVec 32 := 0#32
  let c1_i32_144 : BitVec 32 := 1#32
  let v215 : BitVec 32 := Scalar.subi v209 c1_i32_144
  let c2_i32_145 : BitVec 32 := 2#32
  let v216 : BitVec 32 := Scalar.muli v215 c2_i32_145
  let c1_i32_146 : BitVec 32 := 1#32
  let v217 : BitVec 32 := Scalar.addi v216 c1_i32_146
  let v218 : BitVec 32 := Scalar.maxsi c0_i32_147 v217
  let v219 : BitVec 32 := Scalar.minsi c15_i32_148 v218
  let v223 : BitVec 32 := Scalar.select v222 v55 v219
  let c512_i32_174 : BitVec 32 := 512#32
  let v247 : BitVec 32 := Scalar.muli v223 c512_i32_174
  v247
def k0_off10 (i : grid0.Coords) (k0_t2 : Fin (k0_t2_loop i).trips) (c1_i32_139 : BitVec 32) : Fin 3 → Nat :=
  let c0_175 : Index := 0#32
  let c2_i32_138 : BitVec 32 := 2#32
  let c0_i32_95 : BitVec 32 := 0#32
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_85 : BitVec 32 := 1#32
  let v114 : BitVec 32 := Scalar.subi v113 c1_i32_85
  let c0_i32_86 : BitVec 32 := 0#32
  let v115 : BitVec 32 := Scalar.maxsi v114 c0_i32_86
  let c0_i32_88 : BitVec 32 := 0#32
  let v117 : BitVec 1 := Scalar.cmpi .sgt v115 c0_i32_88
  let v118 : BitVec 32 := Scalar.extui v117
  let c0_i32_89 : BitVec 32 := 0#32
  let v119 : BitVec 1 := Scalar.cmpi .slt v115 c0_i32_89
  let v120 : BitVec 32 := Scalar.extui v119
  let v121 : BitVec 32 := Scalar.subi v118 v120
  let c2_i32_87 : BitVec 32 := 2#32
  let c0_i32_90 : BitVec 32 := 0#32
  let v122 : BitVec 1 := Scalar.cmpi .sgt c2_i32_87 c0_i32_90
  let v123 : BitVec 32 := Scalar.extui v122
  let c0_i32_91 : BitVec 32 := 0#32
  let v124 : BitVec 1 := Scalar.cmpi .slt c2_i32_87 c0_i32_91
  let v125 : BitVec 32 := Scalar.extui v124
  let v126 : BitVec 32 := Scalar.subi v123 v125
  let v127 : BitVec 1 := Scalar.cmpi .ne v121 v126
  let v128 : BitVec 32 := Scalar.remsi v115 c2_i32_87
  let c0_i32_92 : BitVec 32 := 0#32
  let v129 : BitVec 1 := Scalar.cmpi .ne v128 c0_i32_92
  let v130 : BitVec 1 := Scalar.andi v127 v129
  let v116 : BitVec 32 := Scalar.divsi v115 c2_i32_87
  let c1_i32_93 : BitVec 32 := 1#32
  let v131 : BitVec 32 := Scalar.subi v116 c1_i32_93
  let v132 : BitVec 32 := Scalar.select v130 v131 v116
  let v133 : BitVec 32 := Scalar.subi v132 c0_i32_95
  let c1_i32_96 : BitVec 32 := 1#32
  let v135 : BitVec 32 := Scalar.divsi v133 c1_i32_96
  let v136 : BitVec 32 := Scalar.muli v135 c1_i32_96
  let v137 : BitVec 32 := Scalar.addi c0_i32_95 v136
  let c1_i32_98 : BitVec 32 := 1#32
  let arg23 : BitVec 32 := Scf.iv v137 c1_i32_98 k0_t2
  let v208 : BitVec 32 := Scalar.muli c2_i32_138 arg23
  let v209 : BitVec 32 := Scalar.addi v208 c1_i32_139
  let c0_i32_150 : BitVec 32 := 0#32
  let v222 : BitVec 1 := Scalar.cmpi .eq v209 c0_i32_150
  let c1_i32_28 : BitVec 32 := 1#32
  let v54 : BitVec 32 := Scalar.subi arg2 c1_i32_28
  let c0_i32_29 : BitVec 32 := 0#32
  let v55 : BitVec 32 := Scalar.maxsi v54 c0_i32_29
  let c15_i32_148 : BitVec 32 := 15#32
  let c0_i32_147 : BitVec 32 := 0#32
  let c1_i32_144 : BitVec 32 := 1#32
  let v215 : BitVec 32 := Scalar.subi v209 c1_i32_144
  let c2_i32_145 : BitVec 32 := 2#32
  let v216 : BitVec 32 := Scalar.muli v215 c2_i32_145
  let c1_i32_146 : BitVec 32 := 1#32
  let v217 : BitVec 32 := Scalar.addi v216 c1_i32_146
  let v218 : BitVec 32 := Scalar.maxsi c0_i32_147 v217
  let v219 : BitVec 32 := Scalar.minsi c15_i32_148 v218
  let v223 : BitVec 32 := Scalar.select v222 v55 v219
  let c512_i32_174 : BitVec 32 := 512#32
  let v247 : BitVec 32 := Scalar.muli v223 c512_i32_174
  let v248 : BitVec 32 := v247
  let v249 : Index := Scalar.indexCast v248
  let c0_176 : Index := 0#32
  ![0, v249.toNat, 0]
def k0_off11 (i : grid0.Coords) (k0_t2 : Fin (k0_t2_loop i).trips) : Fin 5 → Nat :=
  let c0_241 : Index := 0#32
  let c0_242 : Index := 0#32
  let c2_i32_138 : BitVec 32 := 2#32
  let c0_i32_95 : BitVec 32 := 0#32
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_85 : BitVec 32 := 1#32
  let v114 : BitVec 32 := Scalar.subi v113 c1_i32_85
  let c0_i32_86 : BitVec 32 := 0#32
  let v115 : BitVec 32 := Scalar.maxsi v114 c0_i32_86
  let c0_i32_88 : BitVec 32 := 0#32
  let v117 : BitVec 1 := Scalar.cmpi .sgt v115 c0_i32_88
  let v118 : BitVec 32 := Scalar.extui v117
  let c0_i32_89 : BitVec 32 := 0#32
  let v119 : BitVec 1 := Scalar.cmpi .slt v115 c0_i32_89
  let v120 : BitVec 32 := Scalar.extui v119
  let v121 : BitVec 32 := Scalar.subi v118 v120
  let c2_i32_87 : BitVec 32 := 2#32
  let c0_i32_90 : BitVec 32 := 0#32
  let v122 : BitVec 1 := Scalar.cmpi .sgt c2_i32_87 c0_i32_90
  let v123 : BitVec 32 := Scalar.extui v122
  let c0_i32_91 : BitVec 32 := 0#32
  let v124 : BitVec 1 := Scalar.cmpi .slt c2_i32_87 c0_i32_91
  let v125 : BitVec 32 := Scalar.extui v124
  let v126 : BitVec 32 := Scalar.subi v123 v125
  let v127 : BitVec 1 := Scalar.cmpi .ne v121 v126
  let v128 : BitVec 32 := Scalar.remsi v115 c2_i32_87
  let c0_i32_92 : BitVec 32 := 0#32
  let v129 : BitVec 1 := Scalar.cmpi .ne v128 c0_i32_92
  let v130 : BitVec 1 := Scalar.andi v127 v129
  let v116 : BitVec 32 := Scalar.divsi v115 c2_i32_87
  let c1_i32_93 : BitVec 32 := 1#32
  let v131 : BitVec 32 := Scalar.subi v116 c1_i32_93
  let v132 : BitVec 32 := Scalar.select v130 v131 v116
  let v133 : BitVec 32 := Scalar.subi v132 c0_i32_95
  let c1_i32_96 : BitVec 32 := 1#32
  let v135 : BitVec 32 := Scalar.divsi v133 c1_i32_96
  let v136 : BitVec 32 := Scalar.muli v135 c1_i32_96
  let v137 : BitVec 32 := Scalar.addi c0_i32_95 v136
  let c1_i32_98 : BitVec 32 := 1#32
  let arg23 : BitVec 32 := Scf.iv v137 c1_i32_98 k0_t2
  let v208 : BitVec 32 := Scalar.muli c2_i32_138 arg23
  let c0_i32_207 : BitVec 32 := 0#32
  let v280 : BitVec 1 := Scalar.cmpi .eq v208 c0_i32_207
  let c15_i32_201 : BitVec 32 := 15#32
  let c0_i32_200 : BitVec 32 := 0#32
  let c1_i32_197 : BitVec 32 := 1#32
  let v270 : BitVec 32 := Scalar.subi v208 c1_i32_197
  let c2_i32_198 : BitVec 32 := 2#32
  let v271 : BitVec 32 := Scalar.muli v270 c2_i32_198
  let c0_i32_199 : BitVec 32 := 0#32
  let v272 : BitVec 32 := Scalar.addi v271 c0_i32_199
  let v273 : BitVec 32 := Scalar.maxsi c0_i32_200 v272
  let v274 : BitVec 32 := Scalar.minsi c15_i32_201 v273
  let v281 : BitVec 32 := Scalar.select v280 arg2 v274
  let v300 : Index := Scalar.indexCast v281
  let c0_243 : Index := 0#32
  let c0_244 : Index := 0#32
  ![0, 0, v300.toNat, 0, 0]
def k0_off12 (i : grid0.Coords) (k0_t2 : Fin (k0_t2_loop i).trips) : Fin 5 → Nat :=
  let c0_245 : Index := 0#32
  let c0_246 : Index := 0#32
  let c2_i32_138 : BitVec 32 := 2#32
  let c0_i32_95 : BitVec 32 := 0#32
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_85 : BitVec 32 := 1#32
  let v114 : BitVec 32 := Scalar.subi v113 c1_i32_85
  let c0_i32_86 : BitVec 32 := 0#32
  let v115 : BitVec 32 := Scalar.maxsi v114 c0_i32_86
  let c0_i32_88 : BitVec 32 := 0#32
  let v117 : BitVec 1 := Scalar.cmpi .sgt v115 c0_i32_88
  let v118 : BitVec 32 := Scalar.extui v117
  let c0_i32_89 : BitVec 32 := 0#32
  let v119 : BitVec 1 := Scalar.cmpi .slt v115 c0_i32_89
  let v120 : BitVec 32 := Scalar.extui v119
  let v121 : BitVec 32 := Scalar.subi v118 v120
  let c2_i32_87 : BitVec 32 := 2#32
  let c0_i32_90 : BitVec 32 := 0#32
  let v122 : BitVec 1 := Scalar.cmpi .sgt c2_i32_87 c0_i32_90
  let v123 : BitVec 32 := Scalar.extui v122
  let c0_i32_91 : BitVec 32 := 0#32
  let v124 : BitVec 1 := Scalar.cmpi .slt c2_i32_87 c0_i32_91
  let v125 : BitVec 32 := Scalar.extui v124
  let v126 : BitVec 32 := Scalar.subi v123 v125
  let v127 : BitVec 1 := Scalar.cmpi .ne v121 v126
  let v128 : BitVec 32 := Scalar.remsi v115 c2_i32_87
  let c0_i32_92 : BitVec 32 := 0#32
  let v129 : BitVec 1 := Scalar.cmpi .ne v128 c0_i32_92
  let v130 : BitVec 1 := Scalar.andi v127 v129
  let v116 : BitVec 32 := Scalar.divsi v115 c2_i32_87
  let c1_i32_93 : BitVec 32 := 1#32
  let v131 : BitVec 32 := Scalar.subi v116 c1_i32_93
  let v132 : BitVec 32 := Scalar.select v130 v131 v116
  let v133 : BitVec 32 := Scalar.subi v132 c0_i32_95
  let c1_i32_96 : BitVec 32 := 1#32
  let v135 : BitVec 32 := Scalar.divsi v133 c1_i32_96
  let v136 : BitVec 32 := Scalar.muli v135 c1_i32_96
  let v137 : BitVec 32 := Scalar.addi c0_i32_95 v136
  let c1_i32_98 : BitVec 32 := 1#32
  let arg23 : BitVec 32 := Scf.iv v137 c1_i32_98 k0_t2
  let v208 : BitVec 32 := Scalar.muli c2_i32_138 arg23
  let c0_i32_208 : BitVec 32 := 0#32
  let v282 : BitVec 1 := Scalar.cmpi .eq v208 c0_i32_208
  let c1_i32_28 : BitVec 32 := 1#32
  let v54 : BitVec 32 := Scalar.subi arg2 c1_i32_28
  let c0_i32_29 : BitVec 32 := 0#32
  let v55 : BitVec 32 := Scalar.maxsi v54 c0_i32_29
  let c15_i32_206 : BitVec 32 := 15#32
  let c0_i32_205 : BitVec 32 := 0#32
  let c1_i32_202 : BitVec 32 := 1#32
  let v275 : BitVec 32 := Scalar.subi v208 c1_i32_202
  let c2_i32_203 : BitVec 32 := 2#32
  let v276 : BitVec 32 := Scalar.muli v275 c2_i32_203
  let c1_i32_204 : BitVec 32 := 1#32
  let v277 : BitVec 32 := Scalar.addi v276 c1_i32_204
  let v278 : BitVec 32 := Scalar.maxsi c0_i32_205 v277
  let v279 : BitVec 32 := Scalar.minsi c15_i32_206 v278
  let v283 : BitVec 32 := Scalar.select v282 v55 v279
  let v303 : Index := Scalar.indexCast v283
  let c0_247 : Index := 0#32
  let c0_248 : Index := 0#32
  ![0, 0, v303.toNat, 0, 0]
def k0_mult9 (i : grid0.Coords) (k0_t2 : Fin (k0_t2_loop i).trips) : BitVec 32 :=
  let c2_i32_138 : BitVec 32 := 2#32
  let c0_i32_95 : BitVec 32 := 0#32
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_85 : BitVec 32 := 1#32
  let v114 : BitVec 32 := Scalar.subi v113 c1_i32_85
  let c0_i32_86 : BitVec 32 := 0#32
  let v115 : BitVec 32 := Scalar.maxsi v114 c0_i32_86
  let c0_i32_88 : BitVec 32 := 0#32
  let v117 : BitVec 1 := Scalar.cmpi .sgt v115 c0_i32_88
  let v118 : BitVec 32 := Scalar.extui v117
  let c0_i32_89 : BitVec 32 := 0#32
  let v119 : BitVec 1 := Scalar.cmpi .slt v115 c0_i32_89
  let v120 : BitVec 32 := Scalar.extui v119
  let v121 : BitVec 32 := Scalar.subi v118 v120
  let c2_i32_87 : BitVec 32 := 2#32
  let c0_i32_90 : BitVec 32 := 0#32
  let v122 : BitVec 1 := Scalar.cmpi .sgt c2_i32_87 c0_i32_90
  let v123 : BitVec 32 := Scalar.extui v122
  let c0_i32_91 : BitVec 32 := 0#32
  let v124 : BitVec 1 := Scalar.cmpi .slt c2_i32_87 c0_i32_91
  let v125 : BitVec 32 := Scalar.extui v124
  let v126 : BitVec 32 := Scalar.subi v123 v125
  let v127 : BitVec 1 := Scalar.cmpi .ne v121 v126
  let v128 : BitVec 32 := Scalar.remsi v115 c2_i32_87
  let c0_i32_92 : BitVec 32 := 0#32
  let v129 : BitVec 1 := Scalar.cmpi .ne v128 c0_i32_92
  let v130 : BitVec 1 := Scalar.andi v127 v129
  let v116 : BitVec 32 := Scalar.divsi v115 c2_i32_87
  let c1_i32_93 : BitVec 32 := 1#32
  let v131 : BitVec 32 := Scalar.subi v116 c1_i32_93
  let v132 : BitVec 32 := Scalar.select v130 v131 v116
  let v133 : BitVec 32 := Scalar.subi v132 c0_i32_95
  let c1_i32_96 : BitVec 32 := 1#32
  let v135 : BitVec 32 := Scalar.divsi v133 c1_i32_96
  let v136 : BitVec 32 := Scalar.muli v135 c1_i32_96
  let v137 : BitVec 32 := Scalar.addi c0_i32_95 v136
  let c1_i32_98 : BitVec 32 := 1#32
  let arg23 : BitVec 32 := Scf.iv v137 c1_i32_98 k0_t2
  let v208 : BitVec 32 := Scalar.muli c2_i32_138 arg23
  let c2_i32_281 : BitVec 32 := 2#32
  let v380 : BitVec 32 := Scalar.addi v208 c2_i32_281
  let c0_i32_292 : BitVec 32 := 0#32
  let v391 : BitVec 1 := Scalar.cmpi .eq v380 c0_i32_292
  let c15_i32_286 : BitVec 32 := 15#32
  let c0_i32_285 : BitVec 32 := 0#32
  let c1_i32_282 : BitVec 32 := 1#32
  let v381 : BitVec 32 := Scalar.subi v380 c1_i32_282
  let c2_i32_283 : BitVec 32 := 2#32
  let v382 : BitVec 32 := Scalar.muli v381 c2_i32_283
  let c0_i32_284 : BitVec 32 := 0#32
  let v383 : BitVec 32 := Scalar.addi v382 c0_i32_284
  let v384 : BitVec 32 := Scalar.maxsi c0_i32_285 v383
  let v385 : BitVec 32 := Scalar.minsi c15_i32_286 v384
  let v392 : BitVec 32 := Scalar.select v391 arg2 v385
  let c512_i32_294 : BitVec 32 := 512#32
  let v395 : BitVec 32 := Scalar.muli v392 c512_i32_294
  v395
def k0_mult10 (i : grid0.Coords) (k0_t2 : Fin (k0_t2_loop i).trips) : BitVec 32 :=
  let c2_i32_138 : BitVec 32 := 2#32
  let c0_i32_95 : BitVec 32 := 0#32
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_85 : BitVec 32 := 1#32
  let v114 : BitVec 32 := Scalar.subi v113 c1_i32_85
  let c0_i32_86 : BitVec 32 := 0#32
  let v115 : BitVec 32 := Scalar.maxsi v114 c0_i32_86
  let c0_i32_88 : BitVec 32 := 0#32
  let v117 : BitVec 1 := Scalar.cmpi .sgt v115 c0_i32_88
  let v118 : BitVec 32 := Scalar.extui v117
  let c0_i32_89 : BitVec 32 := 0#32
  let v119 : BitVec 1 := Scalar.cmpi .slt v115 c0_i32_89
  let v120 : BitVec 32 := Scalar.extui v119
  let v121 : BitVec 32 := Scalar.subi v118 v120
  let c2_i32_87 : BitVec 32 := 2#32
  let c0_i32_90 : BitVec 32 := 0#32
  let v122 : BitVec 1 := Scalar.cmpi .sgt c2_i32_87 c0_i32_90
  let v123 : BitVec 32 := Scalar.extui v122
  let c0_i32_91 : BitVec 32 := 0#32
  let v124 : BitVec 1 := Scalar.cmpi .slt c2_i32_87 c0_i32_91
  let v125 : BitVec 32 := Scalar.extui v124
  let v126 : BitVec 32 := Scalar.subi v123 v125
  let v127 : BitVec 1 := Scalar.cmpi .ne v121 v126
  let v128 : BitVec 32 := Scalar.remsi v115 c2_i32_87
  let c0_i32_92 : BitVec 32 := 0#32
  let v129 : BitVec 1 := Scalar.cmpi .ne v128 c0_i32_92
  let v130 : BitVec 1 := Scalar.andi v127 v129
  let v116 : BitVec 32 := Scalar.divsi v115 c2_i32_87
  let c1_i32_93 : BitVec 32 := 1#32
  let v131 : BitVec 32 := Scalar.subi v116 c1_i32_93
  let v132 : BitVec 32 := Scalar.select v130 v131 v116
  let v133 : BitVec 32 := Scalar.subi v132 c0_i32_95
  let c1_i32_96 : BitVec 32 := 1#32
  let v135 : BitVec 32 := Scalar.divsi v133 c1_i32_96
  let v136 : BitVec 32 := Scalar.muli v135 c1_i32_96
  let v137 : BitVec 32 := Scalar.addi c0_i32_95 v136
  let c1_i32_98 : BitVec 32 := 1#32
  let arg23 : BitVec 32 := Scf.iv v137 c1_i32_98 k0_t2
  let v208 : BitVec 32 := Scalar.muli c2_i32_138 arg23
  let c2_i32_281 : BitVec 32 := 2#32
  let v380 : BitVec 32 := Scalar.addi v208 c2_i32_281
  let c0_i32_293 : BitVec 32 := 0#32
  let v393 : BitVec 1 := Scalar.cmpi .eq v380 c0_i32_293
  let c1_i32_28 : BitVec 32 := 1#32
  let v54 : BitVec 32 := Scalar.subi arg2 c1_i32_28
  let c0_i32_29 : BitVec 32 := 0#32
  let v55 : BitVec 32 := Scalar.maxsi v54 c0_i32_29
  let c15_i32_291 : BitVec 32 := 15#32
  let c0_i32_290 : BitVec 32 := 0#32
  let c1_i32_287 : BitVec 32 := 1#32
  let v386 : BitVec 32 := Scalar.subi v380 c1_i32_287
  let c2_i32_288 : BitVec 32 := 2#32
  let v387 : BitVec 32 := Scalar.muli v386 c2_i32_288
  let c1_i32_289 : BitVec 32 := 1#32
  let v388 : BitVec 32 := Scalar.addi v387 c1_i32_289
  let v389 : BitVec 32 := Scalar.maxsi c0_i32_290 v388
  let v390 : BitVec 32 := Scalar.minsi c15_i32_291 v389
  let v394 : BitVec 32 := Scalar.select v393 v55 v390
  let c512_i32_317 : BitVec 32 := 512#32
  let v418 : BitVec 32 := Scalar.muli v394 c512_i32_317
  v418
def k0_off13 (i : grid0.Coords) (k0_t2 : Fin (k0_t2_loop i).trips) : Fin 5 → Nat :=
  let c0_385 : Index := 0#32
  let c0_386 : Index := 0#32
  let c2_i32_138 : BitVec 32 := 2#32
  let c0_i32_95 : BitVec 32 := 0#32
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_85 : BitVec 32 := 1#32
  let v114 : BitVec 32 := Scalar.subi v113 c1_i32_85
  let c0_i32_86 : BitVec 32 := 0#32
  let v115 : BitVec 32 := Scalar.maxsi v114 c0_i32_86
  let c0_i32_88 : BitVec 32 := 0#32
  let v117 : BitVec 1 := Scalar.cmpi .sgt v115 c0_i32_88
  let v118 : BitVec 32 := Scalar.extui v117
  let c0_i32_89 : BitVec 32 := 0#32
  let v119 : BitVec 1 := Scalar.cmpi .slt v115 c0_i32_89
  let v120 : BitVec 32 := Scalar.extui v119
  let v121 : BitVec 32 := Scalar.subi v118 v120
  let c2_i32_87 : BitVec 32 := 2#32
  let c0_i32_90 : BitVec 32 := 0#32
  let v122 : BitVec 1 := Scalar.cmpi .sgt c2_i32_87 c0_i32_90
  let v123 : BitVec 32 := Scalar.extui v122
  let c0_i32_91 : BitVec 32 := 0#32
  let v124 : BitVec 1 := Scalar.cmpi .slt c2_i32_87 c0_i32_91
  let v125 : BitVec 32 := Scalar.extui v124
  let v126 : BitVec 32 := Scalar.subi v123 v125
  let v127 : BitVec 1 := Scalar.cmpi .ne v121 v126
  let v128 : BitVec 32 := Scalar.remsi v115 c2_i32_87
  let c0_i32_92 : BitVec 32 := 0#32
  let v129 : BitVec 1 := Scalar.cmpi .ne v128 c0_i32_92
  let v130 : BitVec 1 := Scalar.andi v127 v129
  let v116 : BitVec 32 := Scalar.divsi v115 c2_i32_87
  let c1_i32_93 : BitVec 32 := 1#32
  let v131 : BitVec 32 := Scalar.subi v116 c1_i32_93
  let v132 : BitVec 32 := Scalar.select v130 v131 v116
  let v133 : BitVec 32 := Scalar.subi v132 c0_i32_95
  let c1_i32_96 : BitVec 32 := 1#32
  let v135 : BitVec 32 := Scalar.divsi v133 c1_i32_96
  let v136 : BitVec 32 := Scalar.muli v135 c1_i32_96
  let v137 : BitVec 32 := Scalar.addi c0_i32_95 v136
  let c1_i32_98 : BitVec 32 := 1#32
  let arg23 : BitVec 32 := Scf.iv v137 c1_i32_98 k0_t2
  let v208 : BitVec 32 := Scalar.muli c2_i32_138 arg23
  let c1_i32_340 : BitVec 32 := 1#32
  let v441 : BitVec 32 := Scalar.addi v208 c1_i32_340
  let c0_i32_351 : BitVec 32 := 0#32
  let v452 : BitVec 1 := Scalar.cmpi .eq v441 c0_i32_351
  let c15_i32_345 : BitVec 32 := 15#32
  let c0_i32_344 : BitVec 32 := 0#32
  let c1_i32_341 : BitVec 32 := 1#32
  let v442 : BitVec 32 := Scalar.subi v441 c1_i32_341
  let c2_i32_342 : BitVec 32 := 2#32
  let v443 : BitVec 32 := Scalar.muli v442 c2_i32_342
  let c0_i32_343 : BitVec 32 := 0#32
  let v444 : BitVec 32 := Scalar.addi v443 c0_i32_343
  let v445 : BitVec 32 := Scalar.maxsi c0_i32_344 v444
  let v446 : BitVec 32 := Scalar.minsi c15_i32_345 v445
  let v453 : BitVec 32 := Scalar.select v452 arg2 v446
  let v472 : Index := Scalar.indexCast v453
  let c0_387 : Index := 0#32
  let c0_388 : Index := 0#32
  ![0, 0, v472.toNat, 0, 0]
def k0_off14 (i : grid0.Coords) (k0_t2 : Fin (k0_t2_loop i).trips) : Fin 5 → Nat :=
  let c0_389 : Index := 0#32
  let c0_390 : Index := 0#32
  let c2_i32_138 : BitVec 32 := 2#32
  let c0_i32_95 : BitVec 32 := 0#32
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_85 : BitVec 32 := 1#32
  let v114 : BitVec 32 := Scalar.subi v113 c1_i32_85
  let c0_i32_86 : BitVec 32 := 0#32
  let v115 : BitVec 32 := Scalar.maxsi v114 c0_i32_86
  let c0_i32_88 : BitVec 32 := 0#32
  let v117 : BitVec 1 := Scalar.cmpi .sgt v115 c0_i32_88
  let v118 : BitVec 32 := Scalar.extui v117
  let c0_i32_89 : BitVec 32 := 0#32
  let v119 : BitVec 1 := Scalar.cmpi .slt v115 c0_i32_89
  let v120 : BitVec 32 := Scalar.extui v119
  let v121 : BitVec 32 := Scalar.subi v118 v120
  let c2_i32_87 : BitVec 32 := 2#32
  let c0_i32_90 : BitVec 32 := 0#32
  let v122 : BitVec 1 := Scalar.cmpi .sgt c2_i32_87 c0_i32_90
  let v123 : BitVec 32 := Scalar.extui v122
  let c0_i32_91 : BitVec 32 := 0#32
  let v124 : BitVec 1 := Scalar.cmpi .slt c2_i32_87 c0_i32_91
  let v125 : BitVec 32 := Scalar.extui v124
  let v126 : BitVec 32 := Scalar.subi v123 v125
  let v127 : BitVec 1 := Scalar.cmpi .ne v121 v126
  let v128 : BitVec 32 := Scalar.remsi v115 c2_i32_87
  let c0_i32_92 : BitVec 32 := 0#32
  let v129 : BitVec 1 := Scalar.cmpi .ne v128 c0_i32_92
  let v130 : BitVec 1 := Scalar.andi v127 v129
  let v116 : BitVec 32 := Scalar.divsi v115 c2_i32_87
  let c1_i32_93 : BitVec 32 := 1#32
  let v131 : BitVec 32 := Scalar.subi v116 c1_i32_93
  let v132 : BitVec 32 := Scalar.select v130 v131 v116
  let v133 : BitVec 32 := Scalar.subi v132 c0_i32_95
  let c1_i32_96 : BitVec 32 := 1#32
  let v135 : BitVec 32 := Scalar.divsi v133 c1_i32_96
  let v136 : BitVec 32 := Scalar.muli v135 c1_i32_96
  let v137 : BitVec 32 := Scalar.addi c0_i32_95 v136
  let c1_i32_98 : BitVec 32 := 1#32
  let arg23 : BitVec 32 := Scf.iv v137 c1_i32_98 k0_t2
  let v208 : BitVec 32 := Scalar.muli c2_i32_138 arg23
  let c1_i32_340 : BitVec 32 := 1#32
  let v441 : BitVec 32 := Scalar.addi v208 c1_i32_340
  let c0_i32_352 : BitVec 32 := 0#32
  let v454 : BitVec 1 := Scalar.cmpi .eq v441 c0_i32_352
  let c1_i32_28 : BitVec 32 := 1#32
  let v54 : BitVec 32 := Scalar.subi arg2 c1_i32_28
  let c0_i32_29 : BitVec 32 := 0#32
  let v55 : BitVec 32 := Scalar.maxsi v54 c0_i32_29
  let c15_i32_350 : BitVec 32 := 15#32
  let c0_i32_349 : BitVec 32 := 0#32
  let c1_i32_346 : BitVec 32 := 1#32
  let v447 : BitVec 32 := Scalar.subi v441 c1_i32_346
  let c2_i32_347 : BitVec 32 := 2#32
  let v448 : BitVec 32 := Scalar.muli v447 c2_i32_347
  let c1_i32_348 : BitVec 32 := 1#32
  let v449 : BitVec 32 := Scalar.addi v448 c1_i32_348
  let v450 : BitVec 32 := Scalar.maxsi c0_i32_349 v449
  let v451 : BitVec 32 := Scalar.minsi c15_i32_350 v450
  let v455 : BitVec 32 := Scalar.select v454 v55 v451
  let v475 : Index := Scalar.indexCast v455
  let c0_391 : Index := 0#32
  let c0_392 : Index := 0#32
  ![0, 0, v475.toNat, 0, 0]
def k0_cond1 (i : grid0.Coords) : BitVec 1 :=
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_100 : BitVec 32 := 1#32
  let v139 : BitVec 32 := Scalar.andi v113 c1_i32_100
  let c1_i32_101 : BitVec 32 := 1#32
  let v140 : BitVec 1 := Scalar.cmpi .eq v139 c1_i32_101
  let v141 : BitVec 32 := Scalar.extui v140
  let c0_i32_102 : BitVec 32 := 0#32
  let v142 : BitVec 1 := Scalar.cmpi .ne v141 c0_i32_102
  v142

def k0_off15 (i : grid0.Coords) : Fin 5 → Nat :=
  let c0_181 : Index := 0#32
  let c0_182 : Index := 0#32
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_99 : BitVec 32 := 1#32
  let v138 : BitVec 32 := Scalar.subi v113 c1_i32_99
  let c0_i32_147 : BitVec 32 := 0#32
  let v218 : BitVec 1 := Scalar.cmpi .eq v138 c0_i32_147
  let c15_i32 : BitVec 32 := 15#32
  let c0_i32_141 : BitVec 32 := 0#32
  let c1_i32_138 : BitVec 32 := 1#32
  let v208 : BitVec 32 := Scalar.subi v138 c1_i32_138
  let c2_i32_139 : BitVec 32 := 2#32
  let v209 : BitVec 32 := Scalar.muli v208 c2_i32_139
  let c0_i32_140 : BitVec 32 := 0#32
  let v210 : BitVec 32 := Scalar.addi v209 c0_i32_140
  let v211 : BitVec 32 := Scalar.maxsi c0_i32_141 v210
  let v212 : BitVec 32 := Scalar.minsi c15_i32 v211
  let v219 : BitVec 32 := Scalar.select v218 arg2 v212
  let v238 : Index := Scalar.indexCast v219
  let c0_183 : Index := 0#32
  let c0_184 : Index := 0#32
  ![0, 0, v238.toNat, 0, 0]
def k0_off16 (i : grid0.Coords) : Fin 5 → Nat :=
  let c0_185 : Index := 0#32
  let c0_186 : Index := 0#32
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_99 : BitVec 32 := 1#32
  let v138 : BitVec 32 := Scalar.subi v113 c1_i32_99
  let c0_i32_148 : BitVec 32 := 0#32
  let v220 : BitVec 1 := Scalar.cmpi .eq v138 c0_i32_148
  let c1_i32_28 : BitVec 32 := 1#32
  let v54 : BitVec 32 := Scalar.subi arg2 c1_i32_28
  let c0_i32_29 : BitVec 32 := 0#32
  let v55 : BitVec 32 := Scalar.maxsi v54 c0_i32_29
  let c15_i32_146 : BitVec 32 := 15#32
  let c0_i32_145 : BitVec 32 := 0#32
  let c1_i32_142 : BitVec 32 := 1#32
  let v213 : BitVec 32 := Scalar.subi v138 c1_i32_142
  let c2_i32_143 : BitVec 32 := 2#32
  let v214 : BitVec 32 := Scalar.muli v213 c2_i32_143
  let c1_i32_144 : BitVec 32 := 1#32
  let v215 : BitVec 32 := Scalar.addi v214 c1_i32_144
  let v216 : BitVec 32 := Scalar.maxsi c0_i32_145 v215
  let v217 : BitVec 32 := Scalar.minsi c15_i32_146 v216
  let v221 : BitVec 32 := Scalar.select v220 v55 v217
  let v241 : Index := Scalar.indexCast v221
  let c0_187 : Index := 0#32
  let c0_188 : Index := 0#32
  ![0, 0, v241.toNat, 0, 0]
def k0_cond2 (i : grid0.Coords) : BitVec 1 :=
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c0_i32_103 : BitVec 32 := 0#32
  let v143 : BitVec 1 := Scalar.cmpi .sgt v113 c0_i32_103
  let c1_i32_100 : BitVec 32 := 1#32
  let v139 : BitVec 32 := Scalar.andi v113 c1_i32_100
  let c1_i32_101 : BitVec 32 := 1#32
  let v140 : BitVec 1 := Scalar.cmpi .eq v139 c1_i32_101
  let v_true : BitVec 1 := 1#1
  let v144 : BitVec 1 := Scalar.xori v140 v_true
  let v145 : BitVec 1 := Scalar.andi v143 v144
  let v146 : BitVec 32 := Scalar.extui v145
  let c0_i32_104 : BitVec 32 := 0#32
  let v147 : BitVec 1 := Scalar.cmpi .ne v146 c0_i32_104
  v147

def k0_mult11 (i : grid0.Coords) : BitVec 32 :=
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_99 : BitVec 32 := 1#32
  let v138 : BitVec 32 := Scalar.subi v113 c1_i32_99
  let c0_i32_147 : BitVec 32 := 0#32
  let v218 : BitVec 1 := Scalar.cmpi .eq v138 c0_i32_147
  let c15_i32 : BitVec 32 := 15#32
  let c0_i32_141 : BitVec 32 := 0#32
  let c1_i32_138 : BitVec 32 := 1#32
  let v208 : BitVec 32 := Scalar.subi v138 c1_i32_138
  let c2_i32_139 : BitVec 32 := 2#32
  let v209 : BitVec 32 := Scalar.muli v208 c2_i32_139
  let c0_i32_140 : BitVec 32 := 0#32
  let v210 : BitVec 32 := Scalar.addi v209 c0_i32_140
  let v211 : BitVec 32 := Scalar.maxsi c0_i32_141 v210
  let v212 : BitVec 32 := Scalar.minsi c15_i32 v211
  let v219 : BitVec 32 := Scalar.select v218 arg2 v212
  let c512_i32_149 : BitVec 32 := 512#32
  let v222 : BitVec 32 := Scalar.muli v219 c512_i32_149
  v222
def k0_off17 (i : grid0.Coords) : Fin 3 → Nat :=
  let c0_150 : Index := 0#32
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_99 : BitVec 32 := 1#32
  let v138 : BitVec 32 := Scalar.subi v113 c1_i32_99
  let c0_i32_147 : BitVec 32 := 0#32
  let v218 : BitVec 1 := Scalar.cmpi .eq v138 c0_i32_147
  let c15_i32 : BitVec 32 := 15#32
  let c0_i32_141 : BitVec 32 := 0#32
  let c1_i32_138 : BitVec 32 := 1#32
  let v208 : BitVec 32 := Scalar.subi v138 c1_i32_138
  let c2_i32_139 : BitVec 32 := 2#32
  let v209 : BitVec 32 := Scalar.muli v208 c2_i32_139
  let c0_i32_140 : BitVec 32 := 0#32
  let v210 : BitVec 32 := Scalar.addi v209 c0_i32_140
  let v211 : BitVec 32 := Scalar.maxsi c0_i32_141 v210
  let v212 : BitVec 32 := Scalar.minsi c15_i32 v211
  let v219 : BitVec 32 := Scalar.select v218 arg2 v212
  let c512_i32_149 : BitVec 32 := 512#32
  let v222 : BitVec 32 := Scalar.muli v219 c512_i32_149
  let v223 : BitVec 32 := v222
  let v224 : Index := Scalar.indexCast v223
  let c0_151 : Index := 0#32
  ![0, v224.toNat, 0]
def k0_mult12 (i : grid0.Coords) : BitVec 32 :=
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_99 : BitVec 32 := 1#32
  let v138 : BitVec 32 := Scalar.subi v113 c1_i32_99
  let c0_i32_148 : BitVec 32 := 0#32
  let v220 : BitVec 1 := Scalar.cmpi .eq v138 c0_i32_148
  let c1_i32_28 : BitVec 32 := 1#32
  let v54 : BitVec 32 := Scalar.subi arg2 c1_i32_28
  let c0_i32_29 : BitVec 32 := 0#32
  let v55 : BitVec 32 := Scalar.maxsi v54 c0_i32_29
  let c15_i32_146 : BitVec 32 := 15#32
  let c0_i32_145 : BitVec 32 := 0#32
  let c1_i32_142 : BitVec 32 := 1#32
  let v213 : BitVec 32 := Scalar.subi v138 c1_i32_142
  let c2_i32_143 : BitVec 32 := 2#32
  let v214 : BitVec 32 := Scalar.muli v213 c2_i32_143
  let c1_i32_144 : BitVec 32 := 1#32
  let v215 : BitVec 32 := Scalar.addi v214 c1_i32_144
  let v216 : BitVec 32 := Scalar.maxsi c0_i32_145 v215
  let v217 : BitVec 32 := Scalar.minsi c15_i32_146 v216
  let v221 : BitVec 32 := Scalar.select v220 v55 v217
  let c512_i32_172 : BitVec 32 := 512#32
  let v245 : BitVec 32 := Scalar.muli v221 c512_i32_172
  v245
def k0_off18 (i : grid0.Coords) : Fin 3 → Nat :=
  let c0_173 : Index := 0#32
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_99 : BitVec 32 := 1#32
  let v138 : BitVec 32 := Scalar.subi v113 c1_i32_99
  let c0_i32_148 : BitVec 32 := 0#32
  let v220 : BitVec 1 := Scalar.cmpi .eq v138 c0_i32_148
  let c1_i32_28 : BitVec 32 := 1#32
  let v54 : BitVec 32 := Scalar.subi arg2 c1_i32_28
  let c0_i32_29 : BitVec 32 := 0#32
  let v55 : BitVec 32 := Scalar.maxsi v54 c0_i32_29
  let c15_i32_146 : BitVec 32 := 15#32
  let c0_i32_145 : BitVec 32 := 0#32
  let c1_i32_142 : BitVec 32 := 1#32
  let v213 : BitVec 32 := Scalar.subi v138 c1_i32_142
  let c2_i32_143 : BitVec 32 := 2#32
  let v214 : BitVec 32 := Scalar.muli v213 c2_i32_143
  let c1_i32_144 : BitVec 32 := 1#32
  let v215 : BitVec 32 := Scalar.addi v214 c1_i32_144
  let v216 : BitVec 32 := Scalar.maxsi c0_i32_145 v215
  let v217 : BitVec 32 := Scalar.minsi c15_i32_146 v216
  let v221 : BitVec 32 := Scalar.select v220 v55 v217
  let c512_i32_172 : BitVec 32 := 512#32
  let v245 : BitVec 32 := Scalar.muli v221 c512_i32_172
  let v246 : BitVec 32 := v245
  let v247 : Index := Scalar.indexCast v246
  let c0_174 : Index := 0#32
  ![0, v247.toNat, 0]
def k0_off19 (i : grid0.Coords) : Fin 5 → Nat :=
  let c0_240 : Index := 0#32
  let c0_241 : Index := 0#32
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_99 : BitVec 32 := 1#32
  let v138 : BitVec 32 := Scalar.subi v113 c1_i32_99
  let c1_i32_195 : BitVec 32 := 1#32
  let v268 : BitVec 32 := Scalar.subi v138 c1_i32_195
  let c0_i32_206 : BitVec 32 := 0#32
  let v279 : BitVec 1 := Scalar.cmpi .eq v268 c0_i32_206
  let c15_i32_200 : BitVec 32 := 15#32
  let c0_i32_199 : BitVec 32 := 0#32
  let c1_i32_196 : BitVec 32 := 1#32
  let v269 : BitVec 32 := Scalar.subi v268 c1_i32_196
  let c2_i32_197 : BitVec 32 := 2#32
  let v270 : BitVec 32 := Scalar.muli v269 c2_i32_197
  let c0_i32_198 : BitVec 32 := 0#32
  let v271 : BitVec 32 := Scalar.addi v270 c0_i32_198
  let v272 : BitVec 32 := Scalar.maxsi c0_i32_199 v271
  let v273 : BitVec 32 := Scalar.minsi c15_i32_200 v272
  let v280 : BitVec 32 := Scalar.select v279 arg2 v273
  let v299 : Index := Scalar.indexCast v280
  let c0_242 : Index := 0#32
  let c0_243 : Index := 0#32
  ![0, 0, v299.toNat, 0, 0]
def k0_off20 (i : grid0.Coords) : Fin 5 → Nat :=
  let c0_244 : Index := 0#32
  let c0_245 : Index := 0#32
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_99 : BitVec 32 := 1#32
  let v138 : BitVec 32 := Scalar.subi v113 c1_i32_99
  let c1_i32_195 : BitVec 32 := 1#32
  let v268 : BitVec 32 := Scalar.subi v138 c1_i32_195
  let c0_i32_207 : BitVec 32 := 0#32
  let v281 : BitVec 1 := Scalar.cmpi .eq v268 c0_i32_207
  let c1_i32_28 : BitVec 32 := 1#32
  let v54 : BitVec 32 := Scalar.subi arg2 c1_i32_28
  let c0_i32_29 : BitVec 32 := 0#32
  let v55 : BitVec 32 := Scalar.maxsi v54 c0_i32_29
  let c15_i32_205 : BitVec 32 := 15#32
  let c0_i32_204 : BitVec 32 := 0#32
  let c1_i32_201 : BitVec 32 := 1#32
  let v274 : BitVec 32 := Scalar.subi v268 c1_i32_201
  let c2_i32_202 : BitVec 32 := 2#32
  let v275 : BitVec 32 := Scalar.muli v274 c2_i32_202
  let c1_i32_203 : BitVec 32 := 1#32
  let v276 : BitVec 32 := Scalar.addi v275 c1_i32_203
  let v277 : BitVec 32 := Scalar.maxsi c0_i32_204 v276
  let v278 : BitVec 32 := Scalar.minsi c15_i32_205 v277
  let v282 : BitVec 32 := Scalar.select v281 v55 v278
  let v302 : Index := Scalar.indexCast v282
  let c0_246 : Index := 0#32
  let c0_247 : Index := 0#32
  ![0, 0, v302.toNat, 0, 0]
def k0_off21 (i : grid0.Coords) : Fin 5 → Nat :=
  let c0_324 : Index := 0#32
  let c0_325 : Index := 0#32
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_99 : BitVec 32 := 1#32
  let v138 : BitVec 32 := Scalar.subi v113 c1_i32_99
  let c0_i32_290 : BitVec 32 := 0#32
  let v389 : BitVec 1 := Scalar.cmpi .eq v138 c0_i32_290
  let c15_i32_284 : BitVec 32 := 15#32
  let c0_i32_283 : BitVec 32 := 0#32
  let c1_i32_280 : BitVec 32 := 1#32
  let v379 : BitVec 32 := Scalar.subi v138 c1_i32_280
  let c2_i32_281 : BitVec 32 := 2#32
  let v380 : BitVec 32 := Scalar.muli v379 c2_i32_281
  let c0_i32_282 : BitVec 32 := 0#32
  let v381 : BitVec 32 := Scalar.addi v380 c0_i32_282
  let v382 : BitVec 32 := Scalar.maxsi c0_i32_283 v381
  let v383 : BitVec 32 := Scalar.minsi c15_i32_284 v382
  let v390 : BitVec 32 := Scalar.select v389 arg2 v383
  let v409 : Index := Scalar.indexCast v390
  let c0_326 : Index := 0#32
  let c0_327 : Index := 0#32
  ![0, 0, v409.toNat, 0, 0]
def k0_off22 (i : grid0.Coords) : Fin 5 → Nat :=
  let c0_328 : Index := 0#32
  let c0_329 : Index := 0#32
  let c1_i32_84 : BitVec 32 := 1#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let v113 : BitVec 32 := Scalar.addi c1_i32_84 v53
  let c1_i32_99 : BitVec 32 := 1#32
  let v138 : BitVec 32 := Scalar.subi v113 c1_i32_99
  let c0_i32_291 : BitVec 32 := 0#32
  let v391 : BitVec 1 := Scalar.cmpi .eq v138 c0_i32_291
  let c1_i32_28 : BitVec 32 := 1#32
  let v54 : BitVec 32 := Scalar.subi arg2 c1_i32_28
  let c0_i32_29 : BitVec 32 := 0#32
  let v55 : BitVec 32 := Scalar.maxsi v54 c0_i32_29
  let c15_i32_289 : BitVec 32 := 15#32
  let c0_i32_288 : BitVec 32 := 0#32
  let c1_i32_285 : BitVec 32 := 1#32
  let v384 : BitVec 32 := Scalar.subi v138 c1_i32_285
  let c2_i32_286 : BitVec 32 := 2#32
  let v385 : BitVec 32 := Scalar.muli v384 c2_i32_286
  let c1_i32_287 : BitVec 32 := 1#32
  let v386 : BitVec 32 := Scalar.addi v385 c1_i32_287
  let v387 : BitVec 32 := Scalar.maxsi c0_i32_288 v386
  let v388 : BitVec 32 := Scalar.minsi c15_i32_289 v387
  let v392 : BitVec 32 := Scalar.select v391 v55 v388
  let v412 : Index := Scalar.indexCast v392
  let c0_330 : Index := 0#32
  let c0_331 : Index := 0#32
  ![0, 0, v412.toNat, 0, 0]
def k0_cond3 (i : grid0.Coords) : BitVec 1 :=
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let c2_i32_105 : BitVec 32 := 2#32
  let v148 : BitVec 32 := Scalar.muli v53 c2_i32_105
  let c0_i32_106 : BitVec 32 := 0#32
  let v149 : BitVec 32 := Scalar.addi v148 c0_i32_106
  let v150 : BitVec 1 := Scalar.cmpi .slt v149 v36
  let v151 : BitVec 32 := Scalar.extui v150
  let c0_i32_107 : BitVec 32 := 0#32
  let v152 : BitVec 1 := Scalar.cmpi .ne v151 c0_i32_107
  v152

def k0_mult13 (i : grid0.Coords) : BitVec 32 :=
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let c2_i32_105 : BitVec 32 := 2#32
  let v148 : BitVec 32 := Scalar.muli v53 c2_i32_105
  let c0_i32_106 : BitVec 32 := 0#32
  let v149 : BitVec 32 := Scalar.addi v148 c0_i32_106
  let c512_i32_138 : BitVec 32 := 512#32
  let v208 : BitVec 32 := Scalar.muli v149 c512_i32_138
  v208
def k0_off23 (i : grid0.Coords) : Fin 3 → Nat :=
  let c0_139 : Index := 0#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let c2_i32_105 : BitVec 32 := 2#32
  let v148 : BitVec 32 := Scalar.muli v53 c2_i32_105
  let c0_i32_106 : BitVec 32 := 0#32
  let v149 : BitVec 32 := Scalar.addi v148 c0_i32_106
  let c512_i32_138 : BitVec 32 := 512#32
  let v208 : BitVec 32 := Scalar.muli v149 c512_i32_138
  let v209 : BitVec 32 := v208
  let v210 : Index := Scalar.indexCast v209
  let c0_140 : Index := 0#32
  ![0, v210.toNat, 0]
def k0_off24 (i : grid0.Coords) : Fin 5 → Nat :=
  let c0_143 : Index := 0#32
  let c0_144 : Index := 0#32
  let arg2 : BitVec 32 := BitVec.ofNat 32 (i 2).val
  let c1_i32 : BitVec 32 := 1#32
  let v35 : BitVec 32 := Scalar.subi arg2 c1_i32
  let c0_i32 : BitVec 32 := 0#32
  let v36 : BitVec 32 := Scalar.maxsi v35 c0_i32
  let c0_i32_22 : BitVec 32 := 0#32
  let v38 : BitVec 1 := Scalar.cmpi .sgt v36 c0_i32_22
  let v39 : BitVec 32 := Scalar.extui v38
  let c0_i32_23 : BitVec 32 := 0#32
  let v40 : BitVec 1 := Scalar.cmpi .slt v36 c0_i32_23
  let v41 : BitVec 32 := Scalar.extui v40
  let v42 : BitVec 32 := Scalar.subi v39 v41
  let c2_i32 : BitVec 32 := 2#32
  let c0_i32_24 : BitVec 32 := 0#32
  let v43 : BitVec 1 := Scalar.cmpi .sgt c2_i32 c0_i32_24
  let v44 : BitVec 32 := Scalar.extui v43
  let c0_i32_25 : BitVec 32 := 0#32
  let v45 : BitVec 1 := Scalar.cmpi .slt c2_i32 c0_i32_25
  let v46 : BitVec 32 := Scalar.extui v45
  let v47 : BitVec 32 := Scalar.subi v44 v46
  let v48 : BitVec 1 := Scalar.cmpi .ne v42 v47
  let v49 : BitVec 32 := Scalar.remsi v36 c2_i32
  let c0_i32_26 : BitVec 32 := 0#32
  let v50 : BitVec 1 := Scalar.cmpi .ne v49 c0_i32_26
  let v51 : BitVec 1 := Scalar.andi v48 v50
  let v37 : BitVec 32 := Scalar.divsi v36 c2_i32
  let c1_i32_27 : BitVec 32 := 1#32
  let v52 : BitVec 32 := Scalar.subi v37 c1_i32_27
  let v53 : BitVec 32 := Scalar.select v51 v52 v37
  let c2_i32_105 : BitVec 32 := 2#32
  let v148 : BitVec 32 := Scalar.muli v53 c2_i32_105
  let c0_i32_106 : BitVec 32 := 0#32
  let v149 : BitVec 32 := Scalar.addi v148 c0_i32_106
  let v215 : Index := Scalar.indexCast v149
  let c0_145 : Index := 0#32
  let c0_146 : Index := 0#32
  ![0, 0, v215.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Reference6Ideal.lean ====
abbrev S2x8192x1024 : Shape := ⟨3, ![2, 8192, 1024]⟩
abbrev S2x8x16x128x512 : Shape := ⟨5, ![2, 8, 16, 128, 512]⟩
abbrev S8x2x512x512 : Shape := ⟨4, ![8, 2, 512, 512]⟩
abbrev S64 : Shape := ⟨1, ![64]⟩
abbrev S128 : Shape := ⟨1, ![128]⟩
abbrev S2x8192x8x2x64 : Shape := ⟨5, ![2, 8192, 8, 2, 64]⟩
abbrev S2x16x512x8x128 : Shape := ⟨5, ![2, 16, 512, 8, 128]⟩
abbrev S2x8192x8x128 : Shape := ⟨4, ![2, 8192, 8, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S8x1x512x512 : Shape := ⟨4, ![8, 1, 512, 512]⟩
abbrev S8x512x512 : Shape := ⟨3, ![8, 512, 512]⟩
abbrev S1x8x1x512x1x512 : Shape := ⟨6, ![1, 8, 1, 512, 1, 512]⟩
abbrev S1x8x16x512x16x512 : Shape := ⟨6, ![1, 8, 16, 512, 16, 512]⟩
abbrev S8x8192x8192 : Shape := ⟨3, ![8, 8192, 8192]⟩
abbrev S2x8192x8x1x64 : Shape := ⟨5, ![2, 8192, 8, 1, 64]⟩
abbrev S2x8192x8x64 : Shape := ⟨4, ![2, 8192, 8, 64]⟩
abbrev S2x8x8192x8192 : Shape := ⟨4, ![2, 8, 8192, 8192]⟩
abbrev S1x8x8192x8192 : Shape := ⟨4, ![1, 8, 8192, 8192]⟩
abbrev S2x8x8192 : Shape := ⟨3, ![2, 8, 8192]⟩
abbrev S2x8x8192x1 : Shape := ⟨4, ![2, 8, 8192, 1]⟩
abbrev S2x8x8192x128 : Shape := ⟨4, ![2, 8, 8192, 128]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩

abbrev nBuf : Space → Nat
  | .hbm => 161
  | .vmem => 0
  | .smem => 0
  | _ => 0

abbrev hbmTy0_0 (i : Nat) : BufTy := match i % 128 with
  | 0 => ⟨S2x8192x1024, .bf16⟩
  | 1 => ⟨S2x8192x1024, .bf16⟩
  | 2 => ⟨S2x8x16x128x512, .bf16⟩
  | 3 => ⟨S8x2x512x512, .f32⟩
  | 4 => ⟨S64, .f32⟩
  | 5 => ⟨S64, .f32⟩
  | 6 => ⟨S64, .f32⟩
  | 7 => ⟨S64, .f32⟩
  | 8 => ⟨S128, .f32⟩
  | 9 => ⟨S2x8192x1024, .f32⟩
  | 10 => ⟨S2x8192x8x2x64, .f32⟩
  | 11 => ⟨S2x8192x1024, .f32⟩
  | 12 => ⟨S2x8192x8x2x64, .f32⟩
  | 13 => ⟨S2x8x16x128x512, .f32⟩
  | 14 => ⟨S2x16x512x8x128, .f32⟩
  | 15 => ⟨S2x8192x8x128, .f32⟩
  | 16 => ⟨S8192, .i32⟩
  | 17 => ⟨S_, .i32⟩
  | 18 => ⟨S_, .i32⟩
  | 19 => ⟨S8192, .i32⟩
  | 20 => ⟨S8192, .i32⟩
  | 21 => ⟨S8192, .i32⟩
  | 22 => ⟨S_, .i32⟩
  | 23 => ⟨S8192, .i32⟩
  | 24 => ⟨S8192, .i1⟩
  | 25 => ⟨S8192, .i32⟩
  | 26 => ⟨S8192, .i32⟩
  | 27 => ⟨S_, .i32⟩
  | 28 => ⟨S8192, .i32⟩
  | 29 => ⟨S8192, .i1⟩
  | 30 => ⟨S8192, .i1⟩
  | 31 => ⟨S_, .i32⟩
  | 32 => ⟨S8192, .i32⟩
  | 33 => ⟨S8192, .i32⟩
  | 34 => ⟨S8192, .i32⟩
  | 35 => ⟨S8192x1, .i32⟩
  | 36 => ⟨S1x8192, .i32⟩
  | 37 => ⟨S8192x8192, .i32⟩
  | 38 => ⟨S8192x8192, .i32⟩
  | 39 => ⟨S8192x8192, .i32⟩
  | 40 => ⟨S8x1x512x512, .f32⟩
  | 41 => ⟨S8x512x512, .f32⟩
  | 42 => ⟨S8x512x512, .f32⟩
  | 43 => ⟨S1x8x1x512x1x512, .f32⟩
  | 44 => ⟨S1x8x16x512x16x512, .f32⟩
  | 45 => ⟨S8x8192x8192, .f32⟩
  | 46 => ⟨S8x1x512x512, .f32⟩
  | 47 => ⟨S8x512x512, .f32⟩
  | 48 => ⟨S8x512x512, .f32⟩
  | 49 => ⟨S1x8x1x512x1x512, .f32⟩
  | 50 => ⟨S1x8x16x512x16x512, .f32⟩
  | 51 => ⟨S8x8192x8192, .f32⟩
  | 52 => ⟨S_, .i32⟩
  | 53 => ⟨S8192x8192, .i32⟩
  | 54 => ⟨S8192x8192, .i1⟩
  | 55 => ⟨S_, .i32⟩
  | 56 => ⟨S8192x8192, .i32⟩
  | 57 => ⟨S8192x8192, .i1⟩
  | 58 => ⟨S_, .i32⟩
  | 59 => ⟨S8192x8192, .i32⟩
  | 60 => ⟨S8192x8192, .i1⟩
  | 61 => ⟨S_, .f32⟩
  | 62 => ⟨S_, .f32⟩
  | 63 => ⟨S8192x8192, .f32⟩
  | 64 => ⟨S8192x8192, .f32⟩
  | 65 => ⟨S8192x8192, .f32⟩
  | 66 => ⟨S8192x8192, .f32⟩
  | 67 => ⟨S8x8192x8192, .i1⟩
  | 68 => ⟨S8x8192x8192, .f32⟩
  | 69 => ⟨S8x8192x8192, .f32⟩
  | 70 => ⟨S8x8192x8192, .i1⟩
  | 71 => ⟨S8x8192x8192, .f32⟩
  | 72 => ⟨S64, .f32⟩
  | 73 => ⟨S_, .f32⟩
  | 74 => ⟨S_, .f32⟩
  | 75 => ⟨S_, .f32⟩
  | 76 => ⟨S64, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S2x8192x8x1x64, .f32⟩
  | 84 => ⟨S2x8192x8x64, .f32⟩
  | 85 => ⟨S2x8192x8x1x64, .f32⟩
  | 86 => ⟨S2x8192x8x64, .f32⟩
  | 87 => ⟨S2x8x8192x8192, .f32⟩
  | 88 => ⟨S1x8x8192x8192, .f32⟩
  | 89 => ⟨S2x8x8192x8192, .f32⟩
  | 90 => ⟨S2x8x8192x8192, .f32⟩
  | 91 => ⟨S_, .f32⟩
  | 92 => ⟨S2x8x8192, .f32⟩
  | 93 => ⟨S2x8x8192x1, .f32⟩
  | 94 => ⟨S2x8x8192x8192, .f32⟩
  | 95 => ⟨S2x8x8192x8192, .f32⟩
  | 96 => ⟨S_, .f32⟩
  | 97 => ⟨S2x8x8192x8192, .f32⟩
  | 98 => ⟨S2x8x8192x8192, .f32⟩
  | 99 => ⟨S2x8x8192x8192, .f32⟩
  | 100 => ⟨S2x8x8192x128, .f32⟩
  | 101 => ⟨S_, .f32⟩
  | 102 => ⟨S2x8x8192, .f32⟩
  | 103 => ⟨S2x8x8192x1, .f32⟩
  | 104 => ⟨S_, .f32⟩
  | 105 => ⟨S2x8x8192x1, .f32⟩
  | 106 => ⟨S2x8x8192x1, .f32⟩
  | 107 => ⟨S2x8x8192x128, .f32⟩
  | 108 => ⟨S2x8x8192x128, .f32⟩
  | 109 => ⟨S2x8192x8x128, .f32⟩
  | 110 => ⟨S2x8192x8x1x64, .f32⟩
  | 111 => ⟨S2x8192x8x64, .f32⟩
  | 112 => ⟨S2x8192x8x1x64, .f32⟩
  | 113 => ⟨S2x8192x8x64, .f32⟩
  | 114 => ⟨S2x8x8192x8192, .f32⟩
  | 115 => ⟨S1x8x8192x8192, .f32⟩
  | 116 => ⟨S2x8x8192x8192, .f32⟩
  | 117 => ⟨S2x8x8192x8192, .f32⟩
  | 118 => ⟨S_, .f32⟩
  | 119 => ⟨S2x8x8192, .f32⟩
  | 120 => ⟨S2x8x8192x1, .f32⟩
  | 121 => ⟨S2x8x8192x8192, .f32⟩
  | 122 => ⟨S2x8x8192x8192, .f32⟩
  | 123 => ⟨S_, .f32⟩
  | 124 => ⟨S2x8x8192x8192, .f32⟩
  | 125 => ⟨S2x8x8192x8192, .f32⟩
  | 126 => ⟨S2x8x8192x8192, .f32⟩
  | 127 => ⟨S2x8x8192x128, .f32⟩
  | _ => ⟨S2x8192x1024, .bf16⟩

abbrev hbmTy0_1 (i : Nat) : BufTy := match i % 128 with
  | 0 => ⟨S_, .f32⟩
  | 1 => ⟨S2x8x8192, .f32⟩
  | 2 => ⟨S2x8x8192x1, .f32⟩
  | 3 => ⟨S_, .f32⟩
  | 4 => ⟨S2x8x8192x1, .f32⟩
  | 5 => ⟨S2x8x8192x1, .f32⟩
  | 6 => ⟨S2x8x8192x128, .f32⟩
  | 7 => ⟨S2x8x8192x128, .f32⟩
  | 8 => ⟨S2x8192x8x128, .f32⟩
  | 9 => ⟨S2x8192x8x128, .f32⟩
  | 10 => ⟨S2x8192x8x128, .f32⟩
  | 11 => ⟨S2x8192x8x128, .f32⟩
  | 12 => ⟨S2x8192x8x128, .f32⟩
  | 13 => ⟨S_, .f32⟩
  | 14 => ⟨S2x8192x8, .f32⟩
  | 15 => ⟨S2x8192x8x1, .f32⟩
  | 16 => ⟨S_, .f32⟩
  | 17 => ⟨S2x8192x8x1, .f32⟩
  | 18 => ⟨S2x8192x8x1, .f32⟩
  | 19 => ⟨S_, .f32⟩
  | 20 => ⟨S2x8192x8x1, .f32⟩
  | 21 => ⟨S2x8192x8x1, .f32⟩
  | 22 => ⟨S2x8192x8x1, .f32⟩
  | 23 => ⟨S2x8192x8x128, .f32⟩
  | 24 => ⟨S2x8192x8x128, .f32⟩
  | 25 => ⟨S1x1x1x128, .f32⟩
  | 26 => ⟨S2x8192x8x128, .f32⟩
  | 27 => ⟨S2x8192x8x128, .f32⟩
  | 28 => ⟨S_, .f32⟩
  | 29 => ⟨S2x8192x8x128, .f32⟩
  | 30 => ⟨S2x8192x8x128, .f32⟩
  | 31 => ⟨S2x8192x1024, .f32⟩
  | 32 => ⟨S2x8192x1024, .bf16⟩
  | _ => ⟨S2x8192x1024, .bf16⟩

abbrev hbmTy (i : Nat) : BufTy := match i / 128 with
  | 0 => hbmTy0_0 i
  | 1 => hbmTy0_1 i
  | _ => ⟨S2x8192x1024, .bf16⟩

abbrev bufTy : (tb : Table) → Fin (tcTables nBuf tb) → BufTy
  | .hbm, ⟨i, _⟩ => hbmTy i
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_0 : Ref sig .tc := ⟨.hbm, 52, rfl⟩
abbrev main_v26 : Ref sig .tc := ⟨.hbm, 53, rfl⟩
abbrev main_v27 : Ref sig .tc := ⟨.hbm, 54, rfl⟩
abbrev main_c_1 : Ref sig .tc := ⟨.hbm, 55, rfl⟩
abbrev main_v28 : Ref sig .tc := ⟨.hbm, 56, rfl⟩
abbrev main_v29 : Ref sig .tc := ⟨.hbm, 57, rfl⟩
abbrev main_c_2 : Ref sig .tc := ⟨.hbm, 58, rfl⟩
abbrev main_v30 : Ref sig .tc := ⟨.hbm, 59, rfl⟩
abbrev main_v31 : Ref sig .tc := ⟨.hbm, 60, rfl⟩
abbrev main_cst : Ref sig .tc := ⟨.hbm, 61, rfl⟩
abbrev main_cst_3 : Ref sig .tc := ⟨.hbm, 62, rfl⟩
abbrev main_call1_v0 : Ref sig .tc := ⟨.hbm, 63, rfl⟩
abbrev main_call1_v1 : Ref sig .tc := ⟨.hbm, 64, rfl⟩
abbrev main_v32 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v33 : Ref sig .tc := ⟨.hbm, 69, rfl⟩
abbrev main_call3_v0 : Ref sig .tc := ⟨.hbm, 70, rfl⟩
abbrev main_v34 : Ref sig .tc := ⟨.hbm, 71, rfl⟩
abbrev main_v35 : Ref sig .tc := ⟨.hbm, 72, rfl⟩
abbrev main_cst_4 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_5 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_6 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_7 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_8 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_9 : Ref sig .tc := ⟨.hbm, 101, rfl⟩
abbrev main_v59 : Ref sig .tc := ⟨.hbm, 102, rfl⟩
abbrev main_v60 : Ref sig .tc := ⟨.hbm, 103, rfl⟩
abbrev main_cst_10 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_11 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_12 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_13 : Ref sig .tc := ⟨.hbm, 128, rfl⟩
abbrev main_v82 : Ref sig .tc := ⟨.hbm, 129, rfl⟩
abbrev main_v83 : Ref sig .tc := ⟨.hbm, 130, rfl⟩
abbrev main_cst_14 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_15 : Ref sig .tc := ⟨.hbm, 141, rfl⟩
abbrev main_v93 : Ref sig .tc := ⟨.hbm, 142, rfl⟩
abbrev main_v94 : Ref sig .tc := ⟨.hbm, 143, rfl⟩
abbrev main_cst_16 : Ref sig .tc := ⟨.hbm, 144, rfl⟩
abbrev main_v95 : Ref sig .tc := ⟨.hbm, 145, rfl⟩
abbrev main_v96 : Ref sig .tc := ⟨.hbm, 146, rfl⟩
abbrev main_cst_17 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_cst_18 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩

abbrev nD : Nat := 1
abbrev τ : Topo := Topo.v7x

variable {F : FTy → Type} [FloatOps F]
-- ==== Kernel7.lean ====
abbrev S16384x1024 : Shape := ⟨2, ![16384, 1024]⟩
abbrev S64x1024 : Shape := ⟨2, ![64, 1024]⟩
abbrev S2048x1024 : Shape := ⟨2, ![2048, 1024]⟩
abbrev S8x1024 : Shape := ⟨2, ![8, 1024]⟩
abbrev S256x1024 : Shape := ⟨2, ![256, 1024]⟩
abbrev S1024 : Shape := ⟨1, ![1024]⟩
abbrev S1x1024 : Shape := ⟨2, ![1, 1024]⟩

abbrev nBuf : Space → Nat
  | .hbm => 2
  | .vmem => 4
  | .smem => 0
  | _ => 0

abbrev bufTy : (tb : Table) → Fin (tcTables nBuf tb) → BufTy
  | .hbm, ⟨0, _⟩ => ⟨S16384x1024, .f32⟩
  | .hbm, ⟨1, _⟩ => ⟨S64x1024, .f32⟩
  | .local _ .vmem, ⟨0, _⟩ => ⟨S2048x1024, .f32⟩
  | .local _ .vmem, ⟨1, _⟩ => ⟨S2048x1024, .f32⟩
  | .local _ .vmem, ⟨2, _⟩ => ⟨S8x1024, .f32⟩
  | .local _ .vmem, ⟨3, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference7Ideal.lean ====
abbrev S16384x1024 : Shape := ⟨2, ![16384, 1024]⟩
abbrev S64x256x1024 : Shape := ⟨3, ![64, 256, 1024]⟩
abbrev S_ : Shape := ⟨0, ![]⟩
abbrev S64x1024 : Shape := ⟨2, ![64, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S64x256x1024, .f32⟩
  | .hbm, ⟨2, _⟩ => ⟨S_, .f32⟩
  | .hbm, ⟨3, _⟩ => ⟨S64x1024, .f32⟩
  | .hbm, ⟨4, _⟩ => ⟨S_, .f32⟩
  | .hbm, ⟨5, _⟩ => ⟨S64x1024, .f32⟩
  | .hbm, ⟨6, _⟩ => ⟨S64x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.GlaStep.Pure.lean ====
module

public import proofs.«01_k».proof.Proof.Gen.KernelIdeal.Value
public import proofs.«01_k».proof.Proof.Gen.ReferenceIdeal.Run
public import Idealize.ShloMosaic.Lib.Pointwise

/-! One step of the gated linear attention recurrence, read entry by entry.  A head carries a state
    `S` of 128 rows and 256 columns.  Both programs compute, for the head, the new state
    `exp la * S + k v` and the output `q (exp la * S) + (q . k) v`, normalise the output over the head
    and gate it.  Here every stored value of the kernel is brought to the same two scalar functions
    `nextState` and `headOut`, and so is the reference's term. -/

@[expose] public section

set_option maxRecDepth 16384

noncomputable section

namespace Cert.GlaStep

open Idealize.ShloMosaic Idealize.ShloMosaic.TcCoe Idealize.SL.Sem

/-- One entry of the new state from the log decay, the old entry, the key and the value. -/
def nextState (la s k v : EReal) : EReal := Ideal.exp la * s + k * v

/-- The head's output at column `d` before normalisation: the carried state read by the decayed query, and the
    fresh token's own contribution. -/
def rawOut (q k la : Fin 128 → EReal) (v : Fin 256 → EReal) (s : Fin 128 → Fin 256 → EReal) (d : Fin 256) : EReal :=
  (∑ i, q i * Ideal.exp (la i) * s i d) + (∑ i, q i * k i) * v d

/-- The head's output at column `d`, normalised to unit mean square over the head, scaled and gated. -/
def headOut (q k la : Fin 128 → EReal) (v : Fin 256 → EReal) (s : Fin 128 → Fin 256 → EReal) (g r : Fin 256 → EReal)
    (d : Fin 256) : EReal :=
  rawOut q k la v s d
      * Ideal.rsqrt (Ideal.div (∑ e, rawOut q k la v s e * rawOut q k la v s e) (Ideal.ofBits .f32 0x43800000#32)
          + Ideal.ofBits .f32 0x358637BD#32)
      * g d * (r d * Ideal.div 1 (1 + Ideal.exp (-(r d))))

section Kern

open Cert.KernelIdeal Cert.KernelIdeal.Gen

/-- The first head's stored output, entry `d`. -/
theorem out_head0 (x0 x1 x2 : Vec Ideal S1x1x128 .f32) (x3 x4 : Vec Ideal S1x1x256 .f32) (x5 : Vec Ideal S1x256 .f32)
    (x6 : Vec Ideal S1x1x128x256 .f32) (d : Fin 256) :
    k0_pay10 (F := Ideal) (k0_pay2 x5) (k0_pay3 x0) (k0_pay4 x1) (k0_pay6 x3) (k0_pay9 x0 x2 x6) x4 (ix3 0 0 d)
      = headOut (fun i => x0 (ix3 0 0 i)) (fun i => x1 (ix3 0 0 i)) (fun i => x2 (ix3 0 0 i)) (fun e => x3 (ix3 0 0 e))
          (fun i e => x6 (ix4 0 0 i e)) (fun e => x5 (ix2 0 e)) (fun e => x4 (ix3 0 0 e)) d := by
  unfold headOut
  rw [Fin.sum_univ_two_halves 128 128 rfl]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, rawOut]
  simp only [dite_eq_ite, ite_self, zero_sub]

/-- The second head's stored output, entry `d`. -/
theorem out_head1 (x0 x1 x2 : Vec Ideal S1x1x128 .f32) (x3 x4 : Vec Ideal S1x1x256 .f32) (x5 : Vec Ideal S1x256 .f32)
    (x6 : Vec Ideal S1x1x128x256 .f32) (d : Fin 256) :
    k0_pay19 (F := Ideal) (k0_pay2 x5) (k0_pay17 (k0_pay11 x0) (k0_pay12 x1) x2 x3 x6) (k0_pay18 (k0_pay11 x0) (k0_pay12 x1) x2 x3 x6) x4 (ix3 0 0 d)
      = headOut (fun i => x0 (ix3 0 0 i)) (fun i => x1 (ix3 0 0 i)) (fun i => x2 (ix3 0 0 i)) (fun e => x3 (ix3 0 0 e))
          (fun i e => x6 (ix4 0 0 i e)) (fun e => x5 (ix2 0 e)) (fun e => x4 (ix3 0 0 e)) d := by
  unfold headOut
  rw [Fin.sum_univ_two_halves 128 128 rfl]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, rawOut]
  simp only [dite_eq_ite, ite_self, zero_sub]

/-- The third head's stored output, entry `d`. -/
theorem out_head2 (x0 x1 x2 : Vec Ideal S1x1x128 .f32) (x3 x4 : Vec Ideal S1x1x256 .f32) (x5 : Vec Ideal S1x256 .f32)
    (x6 : Vec Ideal S1x1x128x256 .f32) (d : Fin 256) :
    k0_pay31 (F := Ideal) (k0_pay27 (k0_pay2 x5) (k0_pay20 x0) (k0_pay21 x1) (k0_pay22 x2) (k0_pay23 x3) (k0_pay24 x6)) (k0_pay28 x4) (k0_pay29 x4) (k0_pay30 (F := Ideal)) (ix3 0 0 d)
      = headOut (fun i => x0 (ix3 0 0 i)) (fun i => x1 (ix3 0 0 i)) (fun i => x2 (ix3 0 0 i)) (fun e => x3 (ix3 0 0 e))
          (fun i e => x6 (ix4 0 0 i e)) (fun e => x5 (ix2 0 e)) (fun e => x4 (ix3 0 0 e)) d := by
  unfold headOut
  rw [Fin.sum_univ_two_halves 128 128 rfl]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, rawOut]
  simp only [dite_eq_ite, ite_self, zero_sub]

/-- The fourth head's stored output, entry `d`. -/
theorem out_head3 (x0 x1 x2 : Vec Ideal S1x1x128 .f32) (x3 x4 : Vec Ideal S1x1x256 .f32) (x5 : Vec Ideal S1x256 .f32)
    (x6 : Vec Ideal S1x1x128x256 .f32) (d : Fin 256) :
    k0_pay1 (F := Ideal) (k0_pay2 x5) (k0_pay32 x0) (k0_pay33 x1) (k0_pay35 x3) (k0_pay36 x6) (k0_pay38 x0 x2) x4 (ix3 0 0 d)
      = headOut (fun i => x0 (ix3 0 0 i)) (fun i => x1 (ix3 0 0 i)) (fun i => x2 (ix3 0 0 i)) (fun e => x3 (ix3 0 0 e))
          (fun i e => x6 (ix4 0 0 i e)) (fun e => x5 (ix2 0 e)) (fun e => x4 (ix3 0 0 e)) d := by
  unfold headOut
  rw [Fin.sum_univ_two_halves 128 128 rfl]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, rawOut]
  simp only [dite_eq_ite, ite_self, zero_sub]

/-- The first head's stored state, entry `(i, e)`. -/
theorem state_head0 (x1 x2 : Vec Ideal S1x1x128 .f32) (x3 : Vec Ideal S1x1x256 .f32) (x6 : Vec Ideal S1x1x128x256 .f32)
    (i : Fin 128) (e : Fin 256) :
    k0_pay8 (F := Ideal) x1 x2 x3 x6 (ix4 0 0 i e)
      = nextState (x2 (ix3 0 0 i)) (x6 (ix4 0 0 i e)) (x1 (ix3 0 0 i)) (x3 (ix3 0 0 e)) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, nextState]
  simp only [dite_eq_ite, ite_self]

/-- The second head's stored state, entry `(i, e)`. -/
theorem state_head1 (x1 x2 : Vec Ideal S1x1x128 .f32) (x3 : Vec Ideal S1x1x256 .f32) (x6 : Vec Ideal S1x1x128x256 .f32)
    (i : Fin 128) (e : Fin 256) :
    k0_pay16 (F := Ideal) (k0_pay12 x1) x2 x3 x6 (ix4 0 0 i e)
      = nextState (x2 (ix3 0 0 i)) (x6 (ix4 0 0 i e)) (x1 (ix3 0 0 i)) (x3 (ix3 0 0 e)) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, nextState]
  simp only [dite_eq_ite, ite_self]

/-- The third head's stored state, entry `(i, e)`. -/
theorem state_head2 (x1 x2 : Vec Ideal S1x1x128 .f32) (x3 : Vec Ideal S1x1x256 .f32) (x6 : Vec Ideal S1x1x128x256 .f32)
    (i : Fin 128) (e : Fin 256) :
    k0_pay26 (F := Ideal) (k0_pay21 x1) (k0_pay23 x3) (k0_pay24 x6) (k0_pay25 x2) (ix4 0 0 i e)
      = nextState (x2 (ix3 0 0 i)) (x6 (ix4 0 0 i e)) (x1 (ix3 0 0 i)) (x3 (ix3 0 0 e)) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, nextState]
  simp only [dite_eq_ite, ite_self]

/-- The fourth head's stored state, entry `(i, e)`. -/
theorem state_head3 (x1 x2 : Vec Ideal S1x1x128 .f32) (x3 : Vec Ideal S1x1x256 .f32) (x6 : Vec Ideal S1x1x128x256 .f32)
    (i : Fin 128) (e : Fin 256) :
    k0_pay37 (F := Ideal) x1 x2 x3 x6 (ix4 0 0 i e)
      = nextState (x2 (ix3 0 0 i)) (x6 (ix4 0 0 i e)) (x1 (ix3 0 0 i)) (x3 (ix3 0 0 e)) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, nextState]
  simp only [dite_eq_ite, ite_self]

end Kern

section Ref

open Cert.ReferenceIdeal Cert.ReferenceIdeal.Gen

/-- The reference's head outputs before normalisation. -/
def refRaw (Q K LA : FVec Ideal S32x512 .f32) (V : FVec Ideal S32x1024 .f32) (S : FVec Ideal S32x4x128x256 .f32) :
    FVec Ideal S32x4x256 .f32 :=
  addf (mulf (broadcastInDim S32x4x256 ![0, 1, 2] bcast_S32x4x1_S32x4x256_0_1_2
        (broadcastInDim S32x4x1 ![0, 1] bcast_S32x4_S32x4x1_0_1
          (Host.reduceAdd (mulf (shapeCast _ Q shapeCasts_S32x512_S32x4x128) (shapeCast _ K shapeCasts_S32x512_S32x4x128))
            (constant S_ .f32 0x00000000#32) reducesTo_S32x4x128_S32x4_d2 h_S_)))
      (shapeCast _ V shapeCasts_S32x1024_S32x4x256))
    (Host.dotGeneral dot_S32x4x128_S32x4x128x256_S32x4x256_2_2_n_3_01_01 none
      (mulf (shapeCast _ Q shapeCasts_S32x512_S32x4x128) (Host.exp (shapeCast _ LA shapeCasts_S32x512_S32x4x128))) S)

/-- The reference's first result as one term of its arguments. -/
def refOut (Q K LA : FVec Ideal S32x512 .f32) (V R : FVec Ideal S32x1024 .f32) (G : FVec Ideal S256 .f32)
    (S : FVec Ideal S32x4x128x256 .f32) : FVec Ideal S32x1x1024 .bf16 :=
  truncf .bf16 (mulf (shapeCast _ (mulf (mulf (refRaw Q K LA V S)
      (broadcastInDim S32x4x256 ![0, 1, 2] bcast_S32x4x1_S32x4x256_0_1_2
        (Host.rsqrt (addf (Host.divf (broadcastInDim S32x4x1 ![0, 1] bcast_S32x4_S32x4x1_0_1
              (Host.reduceAdd (mulf (refRaw Q K LA V S) (refRaw Q K LA V S)) (constant S_ .f32 0x00000000#32)
                reducesTo_S32x4x256_S32x4_d2 h_S_))
            (broadcastInDim S32x4x1 ![] bcast_S_S32x4x1 (constant S_ .f32 0x43800000#32)))
          (broadcastInDim S32x4x1 ![] bcast_S_S32x4x1 (constant S_ .f32 0x358637BD#32))))))
      (broadcastInDim S32x4x256 ![0, 1, 2] bcast_S1x1x256_S32x4x256_0_1_2
        (broadcastInDim S1x1x256 ![2] bcast_S256_S1x1x256_2 G))) shapeCasts_S32x4x256_S32x1x1024)
    (mulf (shapeCast _ R shapeCasts_S32x1024_S32x1x1024)
      (Host.divf (broadcastInDim S32x1x1024 ![] bcast_S_S32x1x1024 (constant S_ .f32 0x3F800000#32))
        (addf (broadcastInDim S32x1x1024 ![] bcast_S_S32x1x1024 (constant S_ .f32 0x3F800000#32))
          (Host.exp (Host.negf (shapeCast _ R shapeCasts_S32x1024_S32x1x1024))))))) bitsLt_bf16_f32

/-- The reference's second result as one term of its arguments. -/
def refState (K LA : FVec Ideal S32x512 .f32) (V : FVec Ideal S32x1024 .f32) (S : FVec Ideal S32x4x128x256 .f32) :
    FVec Ideal S32x4x128x256 .f32 :=
  addf (mulf (broadcastInDim S32x4x128x256 ![0, 1, 2, 3] bcast_S32x4x128x1_S32x4x128x256_0_1_2_3
        (broadcastInDim S32x4x128x1 ![0, 1, 2] bcast_S32x4x128_S32x4x128x1_0_1_2
          (Host.exp (shapeCast _ LA shapeCasts_S32x512_S32x4x128)))) S)
    (mulf (broadcastInDim S32x4x128x256 ![0, 1, 2, 3] bcast_S32x4x128x1_S32x4x128x256_0_1_2_3
        (broadcastInDim S32x4x128x1 ![0, 1, 2] bcast_S32x4x128_S32x4x128x1_0_1_2
          (shapeCast _ K shapeCasts_S32x512_S32x4x128)))
      (broadcastInDim S32x4x128x256 ![0, 1, 2, 3] bcast_S32x4x1x256_S32x4x128x256_0_1_2_3
        (broadcastInDim S32x4x1x256 ![0, 1, 3] bcast_S32x4x256_S32x4x1x256_0_1_3
          (shapeCast _ V shapeCasts_S32x1024_S32x4x256))))

/-- The reference's head outputs, entry by entry. -/
theorem refRaw_at (Q K LA : FVec Ideal S32x512 .f32) (V : FVec Ideal S32x1024 .f32) (S : FVec Ideal S32x4x128x256 .f32)
    (b : Fin 32) (h : Fin 4) (d : Fin 256) :
    refRaw Q K LA V S (ix3 b h d)
      = rawOut (fun i => Q (ix2 b ⟨h * 128 + i, by omega⟩)) (fun i => K (ix2 b ⟨h * 128 + i, by omega⟩))
          (fun i => LA (ix2 b ⟨h * 128 + i, by omega⟩)) (fun e => V (ix2 b ⟨h * 256 + e, by omega⟩))
          (fun i e => S (ix4 b h i e)) d := by
  pointwise [refRaw, rawOut]
  rw [add_comm]

/-- The reference's first result, entry by entry. -/
theorem refOut_at (Q K LA : FVec Ideal S32x512 .f32) (V R : FVec Ideal S32x1024 .f32) (G : FVec Ideal S256 .f32)
    (S : FVec Ideal S32x4x128x256 .f32) (b : Fin 32) (n : Fin 1024) :
    refOut Q K LA V R G S (ix3 b 0 n)
      = headOut (fun i => Q (ix2 b ⟨n / 256 * 128 + i, by omega⟩)) (fun i => K (ix2 b ⟨n / 256 * 128 + i, by omega⟩))
          (fun i => LA (ix2 b ⟨n / 256 * 128 + i, by omega⟩)) (fun e => V (ix2 b ⟨n / 256 * 256 + e, by omega⟩))
          (fun i e => S (ix4 b ⟨n / 256, by omega⟩ i e)) (fun e => G (ix1 e))
          (fun e => R (ix2 b ⟨n / 256 * 256 + e, by omega⟩)) ⟨n % 256, by omega⟩ := by
  have hn : (⟨n / 256 * 256 + n % 256, by omega⟩ : Fin 1024) = n := Fin.ext (by simp only []; omega)
  pointwise [refOut, headOut]
  simp only [refRaw_at, hn]

/-- The reference's second result, entry by entry. -/
theorem refState_at (K LA : FVec Ideal S32x512 .f32) (V : FVec Ideal S32x1024 .f32) (S : FVec Ideal S32x4x128x256 .f32)
    (b : Fin 32) (h : Fin 4) (i : Fin 128) (e : Fin 256) :
    refState K LA V S (ix4 b h i e)
      = nextState (LA (ix2 b ⟨h * 128 + i, by omega⟩)) (S (ix4 b h i e)) (K (ix2 b ⟨h * 128 + i, by omega⟩))
          (V (ix2 b ⟨h * 256 + e, by omega⟩)) := by
  pointwise [refState, nextState]

end Ref

end Cert.GlaStep

end
-- ==== Proof.GlaStep.Idx.lean ====
module

public import proofs.«01_k».proof.Proof.GlaStep.Pure
public import Idealize.ShloMosaic.Lib.Pipeline.ValueKit

/-! Where the windows of the recurrence step lie at each grid point. -/

@[expose] public section

set_option maxRecDepth 16384

noncomputable section

namespace Cert.GlaStep

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Where each window's block lies at a grid point. -/
theorem idx : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0]
    ∧ win0_5.index t = ![0, 0] ∧ win0_6.index t = ![t.val, 0, 0, 0] ∧ win0_7.index t = ![t.val, 0, 0]
    ∧ win0_8.index t = ![t.val, 0, 0, 0] :=
  (by decide +kernel : ∀ t : Fin grid0.N, _)

end Cert.GlaStep

end
-- ==== Proof.GlaStep.OutArray.lean ====
module

public import proofs.«01_k».proof.Proof.GlaStep.Idx
public import Idealize.ShloMosaic.Lib.Pipeline.ValueKit

/-! The output array of the recurrence step is the reference's first term: grid point `t` writes row `t`, one store
    of 256 columns for each head. -/

@[expose] public section

set_option maxRecDepth 16384

noncomputable section

namespace Cert.GlaStep

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The head's output depends only on the entries of its seven rows. -/
theorem headOut_congr {q q' k k' la la' : Fin 128 → EReal} {v v' g g' r r' : Fin 256 → EReal} {s s' : Fin 128 → Fin 256 → EReal}
    {d d' : Fin 256} (hq : ∀ i, q i = q' i) (hk : ∀ i, k i = k' i) (hla : ∀ i, la i = la' i) (hv : ∀ e, v e = v' e)
    (hs : ∀ i e, s i e = s' i e) (hg : ∀ e, g e = g' e) (hr : ∀ e, r e = r' e) (hd : d = d') :
    headOut q k la v s g r d = headOut q' k' la' v' s' g' r' d' := by
  obtain rfl := funext hq
  obtain rfl := funext hk
  obtain rfl := funext hla
  obtain rfl := funext hv
  obtain rfl := funext fun i => funext (hs i)
  obtain rfl := funext hg
  obtain rfl := funext hr
  rw [hd]

/-- The output array after the launch is the reference's first term. -/
theorem out_final (c : Dev nD) : (dats m 0 c).arrAt 7 (cfgs 0).N
    = refOut (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6)) := by
  refine (dats m 0 c).arrAt_eq_of_covers 7 _ (by decide +kernel) fun t hf y => ?_
  blk_simp
  rw [after0_7]
  unfold_out out0_7
  have ht : t.val < 32 := lt_of_lt_of_eq t.isLt N_0
  canon_tiles x h
  case piece0 =>
    have he : (win0_7.blk t).view.emb y = (ix3 ⟨t.val, ht⟩ 0 ⟨768 + x 2, by omega⟩ : S32x1x1024.Idx) := by
      blk_ext [idx t]
    rw [he, refOut_at]
    have hx : x = ix3 0 0 (x 2) := by blk_ext
    refine (congrArg _ hx).trans ((out_head3 _ _ _ _ _ _ _ (x 2)).trans (headOut_congr ?_ ?_ ?_ ?_ ?_ ?_ ?_ ?_))
    case refine_8 => exact Fin.ext (by simp only []; omega)
    all_goals intros
    all_goals pointwise
    all_goals blk_point [iblk, V, idx t]
  case piece1 =>
    have he : (win0_7.blk t).view.emb y = (ix3 ⟨t.val, ht⟩ 0 ⟨512 + x 2, by omega⟩ : S32x1x1024.Idx) := by
      blk_ext [idx t]
    rw [he, refOut_at]
    have hx : x = ix3 0 0 (x 2) := by blk_ext
    refine (congrArg _ hx).trans ((out_head2 _ _ _ _ _ _ _ (x 2)).trans (headOut_congr ?_ ?_ ?_ ?_ ?_ ?_ ?_ ?_))
    case refine_8 => exact Fin.ext (by simp only []; omega)
    all_goals intros
    all_goals pointwise
    all_goals blk_point [iblk, V, idx t]
  case piece2 =>
    have he : (win0_7.blk t).view.emb y = (ix3 ⟨t.val, ht⟩ 0 ⟨256 + x 2, by omega⟩ : S32x1x1024.Idx) := by
      blk_ext [idx t]
    rw [he, refOut_at]
    have hx : x = ix3 0 0 (x 2) := by blk_ext
    refine (congrArg _ hx).trans ((out_head1 _ _ _ _ _ _ _ (x 2)).trans (headOut_congr ?_ ?_ ?_ ?_ ?_ ?_ ?_ ?_))
    case refine_8 => exact Fin.ext (by simp only []; omega)
    all_goals intros
    all_goals pointwise
    all_goals blk_point [iblk, V, idx t]
  case piece3 =>
    have he : (win0_7.blk t).view.emb y = (ix3 ⟨t.val, ht⟩ 0 ⟨x 2, by omega⟩ : S32x1x1024.Idx) := by
      blk_ext [idx t]
    rw [he, refOut_at]
    have hx : x = ix3 0 0 (x 2) := by blk_ext
    refine (congrArg _ hx).trans ((out_head0 _ _ _ _ _ _ _ (x 2)).trans (headOut_congr ?_ ?_ ?_ ?_ ?_ ?_ ?_ ?_))
    case refine_8 => exact Fin.ext (by simp only []; omega)
    all_goals intros
    all_goals pointwise
    all_goals blk_point [iblk, V, idx t]

end Cert.GlaStep

end
-- ==== Proof.GlaStep.StateArray.lean ====
module

public import proofs.«01_k».proof.Proof.GlaStep.Idx
public import Idealize.ShloMosaic.Lib.Pipeline.ValueKit

/-! The state array of the recurrence step is the reference's second term: grid point `t` writes the four states of
    row `t`, one store for each head. -/

@[expose] public section

set_option maxRecDepth 16384

noncomputable section

namespace Cert.GlaStep

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The state array after the launch is the reference's second term. -/
theorem state_final (c : Dev nD) : (dats m 0 c).arrAt 8 (cfgs 0).N
    = refState (m ((c : Thread nD τ).loc main_arg1))
        (m ((c : Thread nD τ).loc main_arg2))
        (m ((c : Thread nD τ).loc main_arg3))
        (m ((c : Thread nD τ).loc main_arg6)) := by
  refine (dats m 0 c).arrAt_eq_of_covers 8 _ (by decide +kernel) fun t hf y => ?_
  blk_simp
  rw [after0_8]
  unfold_out out0_8
  have ht : t.val < 32 := lt_of_lt_of_eq t.isLt N_0
  canon_tiles x h
  case piece0 =>
    obtain ⟨i, hi⟩ : ∃ i : Fin 128, (i : ℕ) = x 2 := ⟨⟨x 2, x2_lt⟩, rfl⟩
    obtain ⟨e, hee⟩ : ∃ e : Fin 256, (e : ℕ) = x 3 := ⟨⟨x 3, x3_lt⟩, rfl⟩
    have he : (win0_8.blk t).view.emb y = (ix4 ⟨t.val, ht⟩ 3 i e : S32x4x128x256.Idx) := by
      blk_ext [idx t]
    rw [he, refState_at]
    have hx : x = ix4 0 0 i e := by blk_ext
    refine (congrArg _ hx).trans ((state_head3 _ _ _ _ i e).trans ?_)
    unfold nextState
    pointwise
    blk_point [iblk, V, idx t]
  case piece1 =>
    obtain ⟨i, hi⟩ : ∃ i : Fin 128, (i : ℕ) = x 2 := ⟨⟨x 2, x2_lt⟩, rfl⟩
    obtain ⟨e, hee⟩ : ∃ e : Fin 256, (e : ℕ) = x 3 := ⟨⟨x 3, x3_lt⟩, rfl⟩
    have he : (win0_8.blk t).view.emb y = (ix4 ⟨t.val, ht⟩ 2 i e : S32x4x128x256.Idx) := by
      blk_ext [idx t]
    rw [he, refState_at]
    have hx : x = ix4 0 0 i e := by blk_ext
    refine (congrArg _ hx).trans ((state_head2 _ _ _ _ i e).trans ?_)
    unfold nextState
    pointwise
    blk_point [iblk, V, idx t]
  case piece2 =>
    obtain ⟨i, hi⟩ : ∃ i : Fin 128, (i : ℕ) = x 2 := ⟨⟨x 2, x2_lt⟩, rfl⟩
    obtain ⟨e, hee⟩ : ∃ e : Fin 256, (e : ℕ) = x 3 := ⟨⟨x 3, x3_lt⟩, rfl⟩
    have he : (win0_8.blk t).view.emb y = (ix4 ⟨t.val, ht⟩ 1 i e : S32x4x128x256.Idx) := by
      blk_ext [idx t]
    rw [he, refState_at]
    have hx : x = ix4 0 0 i e := by blk_ext
    refine (congrArg _ hx).trans ((state_head1 _ _ _ _ i e).trans ?_)
    unfold nextState
    pointwise
    blk_point [iblk, V, idx t]
  case piece3 =>
    obtain ⟨i, hi⟩ : ∃ i : Fin 128, (i : ℕ) = x 2 := ⟨⟨x 2, x2_lt⟩, rfl⟩
    obtain ⟨e, hee⟩ : ∃ e : Fin 256, (e : ℕ) = x 3 := ⟨⟨x 3, x3_lt⟩, rfl⟩
    have he : (win0_8.blk t).view.emb y = (ix4 ⟨t.val, ht⟩ 0 i e : S32x4x128x256.Idx) := by
      blk_ext [idx t]
    rw [he, refState_at]
    have hx : x = ix4 0 0 i e := by blk_ext
    refine (congrArg _ hx).trans ((state_head0 _ _ _ _ i e).trans ?_)
    unfold nextState
    pointwise
    blk_point [iblk, V, idx t]

end Cert.GlaStep

end
-- ==== Proof.GlaStep.Claims.lean ====
module

public import proofs.«01_k».proof.Defs
public import proofs.«01_k».proof.Proof.Gen.Kernel.Frame
public import proofs.«01_k».proof.Proof.GlaStep.OutArray
public import proofs.«01_k».proof.Proof.GlaStep.StateArray
public import Idealize.ShloMosaic.Lib.Claim
public import Idealize.ShloMosaic.Lib.Quiescent

/-! The claims about the step of the recurrence: the runs of the two kernel programs and of the reference, and the equality of the
    results. -/

@[expose] public section

set_option maxRecDepth 16384

noncomputable section

namespace Cert.GlaStep

open Idealize.ShloMosaic Idealize.SL.Sem

/-- The kernel as printed terminates and leaves its arguments as they were. -/
theorem kernel_frame : Cert.quiescent_Kernel := fun m ρ _ => Cert.Kernel.Gen.frame m ρ

/-- The same for the kernel over the extended reals. -/
theorem kernelIdeal_frame : Cert.quiescent_KernelIdeal := fun m ρ _ => Cert.KernelIdeal.Gen.frame m ρ

set_option maxHeartbeats 1600000 in
/-- The same for the reference over the extended reals. -/
theorem referenceIdeal_frame : Cert.quiescent_ReferenceIdeal := by
  intro m g _
  hlo_run
  · simp only [and_self, implies_true]
  · exact sem_eq_zero_of_no_sems (sig := Cert.ReferenceIdeal.sig) (by decide) _

/-- The idealised kernel is the printed one. -/
theorem preserves : Cert.preserves_Kernel_KernelIdeal := trivial

set_option maxHeartbeats 1600000 in
/-- Over the extended reals the kernel's results are the reference's. -/
theorem algebraic : Cert.algebraic_KernelIdeal_ReferenceIdeal := by
  pair_intro
  · run_from Cert.KernelIdeal.Gen.run_main m g
  · hlo_run
    · exact (out_final m c).symm
    · exact (state_final m c).symm

end Cert.GlaStep

end
-- ==== Proof.Post.Pure.lean ====
module

public import proofs.«01_k».proof.Proof.Gen.Kernel2Ideal.Value
public import proofs.«01_k».proof.Proof.Gen.Reference2Ideal.Run
public import Idealize.ShloMosaic.Lib.Pointwise

/-! The block after a mixer, entry by entry: the output projection added to the residual stream, its normalisation,
    and the two-layer perceptron with the squared positive part.  The kernel adds the perceptron in two halves of the
    hidden width; here each half's stored value and the reference's term are brought to the same scalar functions. -/

@[expose] public section

set_option maxRecDepth 16384

noncomputable section

namespace Cert.Post

open Idealize.ShloMosaic Idealize.ShloMosaic.TcCoe Idealize.SL.Sem

/-- Column `c` of a token after the output projection, from the token's own row `x`, its mixer row `o` and the weights. -/
def mixed (x o : Fin 1024 → EReal) (W : Fin 1024 → Fin 1024 → EReal) (c : Fin 1024) : EReal :=
  x c + ∑ k, o k * W k c

/-- Column `c` of a row normalised to unit mean square and scaled by `g`. -/
def normed (z g : Fin 1024 → EReal) (c : Fin 1024) : EReal :=
  z c * Ideal.rsqrt (Ideal.div (∑ e, z e * z e) (Ideal.ofBits .f32 0x44800000#32) + Ideal.ofBits .f32 0x358637BD#32) * g c

/-- One hidden unit: the positive part of the projection `u` of the normalised row, squared. -/
def hidden (h u : Fin 1024 → EReal) : EReal := max (∑ k, h k * u k) 0 * max (∑ k, h k * u k) 0

/-- Column `c` of a token's result, the hidden width taken in two halves of 2048 units. -/
def rowOut (x o g : Fin 1024 → EReal) (W : Fin 1024 → Fin 1024 → EReal) (U₀ U₁ : Fin 1024 → Fin 2048 → EReal)
    (D₀ D₁ : Fin 2048 → Fin 1024 → EReal) (c : Fin 1024) : EReal :=
  mixed x o W c + ∑ j, hidden (normed (mixed x o W) g) (fun k => U₀ k j) * D₀ j c
    + ∑ j, hidden (normed (mixed x o W) g) (fun k => U₁ k j) * D₁ j c

/-- A token's result depends only on the entries of its rows and of the weights. -/
theorem rowOut_congr {x x' o o' g g' : Fin 1024 → EReal} {W W' : Fin 1024 → Fin 1024 → EReal}
    {U₀ U₀' U₁ U₁' : Fin 1024 → Fin 2048 → EReal} {D₀ D₀' D₁ D₁' : Fin 2048 → Fin 1024 → EReal} (c : Fin 1024)
    (hx : ∀ k, x k = x' k) (ho : ∀ k, o k = o' k) (hg : ∀ k, g k = g' k) (hW : ∀ k l, W k l = W' k l)
    (hU₀ : ∀ k l, U₀ k l = U₀' k l) (hU₁ : ∀ k l, U₁ k l = U₁' k l)
    (hD₀ : ∀ k l, D₀ k l = D₀' k l) (hD₁ : ∀ k l, D₁ k l = D₁' k l) :
    rowOut x o g W U₀ U₁ D₀ D₁ c = rowOut x' o' g' W' U₀' U₁' D₀' D₁' c := by
  obtain rfl := funext hx
  obtain rfl := funext ho
  obtain rfl := funext hg
  obtain rfl := funext fun k => funext (hW k)
  obtain rfl := funext fun k => funext (hU₀ k)
  obtain rfl := funext fun k => funext (hU₁ k)
  obtain rfl := funext fun k => funext (hD₀ k)
  obtain rfl := funext fun k => funext (hD₁ k)
  rfl

section Kern

open Cert.Kernel2Ideal Cert.Kernel2Ideal.Gen

/-- The stored residual stream, entry by entry. -/
theorem mixed_at (x : Vec Ideal S512x1024 .f32) (o : Vec Ideal S512x1024 .bf16) (W : Vec Ideal S1024x1024 .bf16)
    (r : Fin 512) (c : Fin 1024) :
    k0_pay1 (F := Ideal) x o W (ix2 r c)
      = mixed (fun c => x (ix2 r c)) (fun c => o (ix2 r c)) (fun k c => W (ix2 k c)) c := by
  pointwise [k0_pay1, mixed]

/-- The stored normalised rows, entry by entry. -/
theorem normed_at (x : Vec Ideal S512x1024 .f32) (o : Vec Ideal S512x1024 .bf16) (W : Vec Ideal S1024x1024 .bf16)
    (g : Vec Ideal S1x1024 .f32) (r : Fin 512) (c : Fin 1024) :
    k0_pay2 (F := Ideal) x o W g (ix2 r c)
      = normed (mixed (fun c => x (ix2 r c)) (fun c => o (ix2 r c)) (fun k c => W (ix2 k c))) (fun c => g (ix2 0 c)) c := by
  pointwise [k0_pay2, normed, mixed_at]

/-- One half of the hidden width added to what the output holds, entry by entry. -/
theorem half_at (h : Vec Ideal S512x1024 .bf16) (U : Vec Ideal S1024x2048 .bf16) (acc : Vec Ideal S512x1024 .f32)
    (D : Vec Ideal S2048x1024 .bf16) (r : Fin 512) (c : Fin 1024) :
    k0_pay3 (F := Ideal) h U acc D (ix2 r c)
      = acc (ix2 r c) + ∑ j : Fin 2048, hidden (fun k => h (ix2 r k)) (fun k => U (ix2 k j)) * D (ix2 j c) := by
  pointwise [k0_pay3, hidden]

/-- What the second point of a block leaves, entry by entry. -/
theorem block_at (x : Vec Ideal S512x1024 .f32) (o : Vec Ideal S512x1024 .bf16) (W : Vec Ideal S1024x1024 .bf16)
    (g : Vec Ideal S1x1024 .f32) (U₀ U₁ : Vec Ideal S1024x2048 .bf16) (D₀ D₁ : Vec Ideal S2048x1024 .bf16)
    (r : Fin 512) (c : Fin 1024) :
    k0_pay3 (F := Ideal) (k0_pay2 x o W g) U₁ (k0_pay3 (k0_pay2 x o W g) U₀ (k0_pay1 x o W) D₀) D₁ (ix2 r c)
      = rowOut (fun c => x (ix2 r c)) (fun c => o (ix2 r c)) (fun c => g (ix2 0 c)) (fun k c => W (ix2 k c))
          (fun k j => U₀ (ix2 k j)) (fun k j => U₁ (ix2 k j)) (fun j c => D₀ (ix2 j c)) (fun j c => D₁ (ix2 j c)) c := by
  rw [half_at, half_at, mixed_at]
  simp only [normed_at]
  rfl

end Kern

section Ref

open Cert.Reference2Ideal Cert.Reference2Ideal.Gen

/-- The reference's residual stream after the output projection. -/
def refMixed (X : FVec Ideal S16384x1024 .f32) (O : FVec Ideal S16384x1024 .bf16) (W : FVec Ideal S1024x1024 .f32) :
    FVec Ideal S16384x1024 .f32 :=
  addf X (Host.dotGeneral dot_S16384x1024_S1024x1024_S16384x1024_1_0_0_1_n_n none (extf .f32 O bitsLt_bf16_f32) W)

/-- The reference's normalised residual stream. -/
def refNormed (Z : FVec Ideal S16384x1024 .f32) (G : FVec Ideal S1024 .f32) : FVec Ideal S16384x1024 .f32 :=
  mulf (mulf Z (broadcastInDim S16384x1024 ![0, 1] bcast_S16384x1_S16384x1024_0_1
      (Host.rsqrt (addf (Host.divf (broadcastInDim S16384x1 ![0] bcast_S16384_S16384x1_0
          (Host.reduceAdd (mulf Z Z) (constant S_ .f32 0x00000000#32) reducesTo_S16384x1024_S16384_d1 h_S_))
          (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1
      (broadcastInDim S1x1024 ![1] bcast_S1024_S1x1024_1 G))

/-- The positive part of the reference's hidden layer. -/
def refHidden (H : FVec Ideal S16384x1024 .f32) (U : FVec Ideal S1024x4096 .f32) : FVec Ideal S16384x4096 .f32 :=
  maximumf (Host.dotGeneral dot_S16384x1024_S1024x4096_S16384x4096_1_0_0_1_n_n none H U)
    (broadcastInDim S16384x4096 ![] bcast_S_S16384x4096 (constant S_ .f32 0x00000000#32))

/-- The reference's result as one term of its arguments. -/
def refPost (X : FVec Ideal S16384x1024 .f32) (O : FVec Ideal S16384x1024 .bf16) (W : FVec Ideal S1024x1024 .f32)
    (G : FVec Ideal S1024 .f32) (U : FVec Ideal S1024x4096 .f32) (D : FVec Ideal S4096x1024 .f32) :
    FVec Ideal S16384x1024 .f32 :=
  addf (refMixed X O W) (Host.dotGeneral dot_S16384x4096_S4096x1024_S16384x1024_1_0_0_1_n_n none
    (mulf (refHidden (refNormed (refMixed X O W) G) U) (refHidden (refNormed (refMixed X O W) G) U)) D)

/-- The residual stream, entry by entry. -/
theorem refMixed_at (X : FVec Ideal S16384x1024 .f32) (O : FVec Ideal S16384x1024 .bf16) (W : FVec Ideal S1024x1024 .f32)
    (r : Fin 16384) (c : Fin 1024) :
    refMixed X O W (ix2 r c) = mixed (fun c => X (ix2 r c)) (fun c => O (ix2 r c)) (fun k c => W (ix2 k c)) c := by
  pointwise [refMixed, mixed]

/-- The normalised stream, entry by entry. -/
theorem refNormed_at (Z : FVec Ideal S16384x1024 .f32) (G : FVec Ideal S1024 .f32) (r : Fin 16384) (c : Fin 1024) :
    refNormed Z G (ix2 r c) = normed (fun c => Z (ix2 r c)) (fun c => G (ix1 c)) c := by
  pointwise [refNormed, normed]

/-- The reference's result, entry by entry, its hidden width cut in two halves. -/
theorem refPost_at (X : FVec Ideal S16384x1024 .f32) (O : FVec Ideal S16384x1024 .bf16) (W : FVec Ideal S1024x1024 .f32)
    (G : FVec Ideal S1024 .f32) (U : FVec Ideal S1024x4096 .f32) (D : FVec Ideal S4096x1024 .f32)
    (r : Fin 16384) (c : Fin 1024) :
    refPost X O W G U D (ix2 r c)
      = rowOut (fun c => X (ix2 r c)) (fun c => O (ix2 r c)) (fun c => G (ix1 c)) (fun k c => W (ix2 k c))
          (fun k j => U (ix2 k ⟨j, by omega⟩)) (fun k j => U (ix2 k ⟨2048 + j, by omega⟩))
          (fun j c => D (ix2 ⟨j, by omega⟩ c)) (fun j c => D (ix2 ⟨2048 + j, by omega⟩ c)) c := by
  have h : refPost X O W G U D (ix2 r c)
      = mixed (fun c => X (ix2 r c)) (fun c => O (ix2 r c)) (fun k c => W (ix2 k c)) c
        + ∑ j : Fin 4096, hidden (normed (mixed (fun c => X (ix2 r c)) (fun c => O (ix2 r c)) (fun k c => W (ix2 k c)))
            (fun c => G (ix1 c))) (fun k => U (ix2 k j)) * D (ix2 j c) := by
    pointwise [refPost, refHidden, hidden, refNormed_at, refMixed_at]
  rw [h, Fin.sum_univ_two_halves 2048 2048 rfl, ← add_assoc]
  rfl

end Ref

end Cert.Post

end
-- ==== Proof.Post.Array.lean ====
module

public import proofs.«01_k».proof.Proof.Post.Pure
public import Idealize.ShloMosaic.Lib.Pipeline.ValueKit
public import Idealize.ShloMosaic.Lib.Pipeline.ReadBack

/-! The result array of the block after a mixer is the reference's term.  Two grid points serve one block of 512
    tokens: the first stores the residual stream, keeps the normalised rows for the second, and adds the first half of
    the hidden width; the second adds the other half and is the one written back. -/

@[expose] public section

set_option maxRecDepth 16384

noncomputable section

namespace Cert.Post

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- Where each window's block lies at a grid point. -/
theorem idx : ∀ t : Fin cfg0.N, win0_0.index t = ![t.val / 2, 0] ∧ win0_1.index t = ![t.val / 2, 0]
    ∧ win0_2.index t = ![0, 0] ∧ win0_3.index t = ![0, 0] ∧ win0_4.index t = ![0, t.val % 2]
    ∧ win0_5.index t = ![t.val % 2, 0] ∧ win0_6.index t = ![t.val / 2, 0] :=
  (by decide +kernel : ∀ t : Fin grid0.N, _)

/-- The array after the launch is the reference's term. -/
theorem final (c : Dev nD) : (dats m 0 c).arrAt 6 (cfgs 0).N
    = refPost (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  have h1 : t.val % 2 = 1 := (flush0_6 t).mp hf
  have ht : t.val < 64 := lt_of_lt_of_eq t.isLt N_0
  have hp : t.val - 1 < cfg0.N := Nat.lt_of_le_of_lt (Nat.sub_le _ _) t.isLt
  have hA := outsAt0_A m c ⟨t.val - 1, hp⟩ (by simp only []; omega)
  rw [after0_6, outsAt0_B m c t (by omega), hA]
  frame_out
  idx_vars y
  rw [read_unread_whole cc0_scratch0]
  have he : ((View.whole main_v4).slice (win0_6.rect t)).emb (ix2 y0 y1)
      = (ix2 ⟨t.val / 2 * 512 + y0, by omega⟩ y1 : S16384x1024.Idx) := by
    blk_ext [idx t]
  rw [he, refPost_at]
  refine (block_at _ _ _ _ _ _ _ _ y0 y1).trans (rowOut_congr y1 ?_ ?_ ?_ ?_ ?_ ?_ ?_ ?_)
  all_goals intros
  all_goals blk_point [iblk, V, idx t, idx ⟨t.val - 1, hp⟩]

end Cert.Post

end
-- ==== Proof.Post.Claims.lean ====
module

public import proofs.«01_k».proof.Defs
public import proofs.«01_k».proof.Proof.Gen.Kernel2.Frame
public import proofs.«01_k».proof.Proof.Post.Array
public import Idealize.ShloMosaic.Lib.Claim
public import Idealize.ShloMosaic.Lib.Quiescent

/-! The claims about the block after a mixer: the runs of the two kernel programs and of the reference, and the equality of the
    results. -/

@[expose] public section

set_option maxRecDepth 16384

noncomputable section

namespace Cert.Post

open Idealize.ShloMosaic Idealize.SL.Sem

/-- The kernel as printed terminates and leaves its arguments as they were. -/
theorem kernel_frame : Cert.quiescent_Kernel2 := fun m ρ _ => Cert.Kernel2.Gen.frame m ρ

/-- The same for the kernel over the extended reals. -/
theorem kernelIdeal_frame : Cert.quiescent_Kernel2Ideal := fun m ρ _ => Cert.Kernel2Ideal.Gen.frame m ρ

set_option maxHeartbeats 1600000 in
/-- The same for the reference over the extended reals. -/
theorem referenceIdeal_frame : Cert.quiescent_Reference2Ideal := by
  intro m g _
  hlo_run
  · simp only [and_self, implies_true]
  · exact sem_eq_zero_of_no_sems (sig := Cert.Reference2Ideal.sig) (by decide) _

/-- The idealised kernel is the printed one. -/
theorem preserves : Cert.preserves_Kernel2_Kernel2Ideal := trivial

set_option maxHeartbeats 1600000 in
/-- Over the extended reals the kernel's results are the reference's. -/
theorem algebraic : Cert.algebraic_Kernel2Ideal_Reference2Ideal := by
  pair_intro
  · run_from Cert.Kernel2Ideal.Gen.run_main m g
  · hlo_run
    exact (final m c).symm

end Cert.Post

end
-- ==== Proof.Consts.lean ====
module

public import Idealize.ShloMosaic.Lib.Pointwise

/-! The float patterns whose values the proofs use, and the log of the sigmoid in its two forms. -/

@[expose] public section

noncomputable section

namespace Cert.Consts

open Idealize.ShloMosaic

/-- The pattern of 16. -/
theorem sixteen : Ideal.ofBits .f32 0x41800000#32 = ((16 : ℝ) : EReal) := by
  simp [Ideal.ofBits, Ideal.ieee, -EReal.coe_mul]; norm_num

/-- The pattern of a sixteenth. -/
theorem sixteenth : Ideal.ofBits .f32 0x3D800000#32 = ((1 / 16 : ℝ) : EReal) := by
  simp [Ideal.ofBits, Ideal.ieee, -EReal.coe_mul]; norm_num

/-- The pattern of 64. -/
theorem sixtyfour : Ideal.ofBits .f32 0x42800000#32 = ((64 : ℝ) : EReal) := by
  simp [Ideal.ofBits, Ideal.ieee, -EReal.coe_mul]; norm_num

/-- The pattern of a sixty-fourth. -/
theorem sixtyfourth : Ideal.ofBits .f32 0x3C800000#32 = ((1 / 64 : ℝ) : EReal) := by
  simp [Ideal.ofBits, Ideal.ieee, -EReal.coe_mul]; norm_num

/-- The exponential is never below zero. -/
theorem exp_nonneg (x : EReal) : 0 ≤ Ideal.exp x := by
  induction x with
  | bot => exact le_refl _
  | top => exact le_top
  | coe r => exact EReal.coe_nonneg.2 (Real.exp_pos r).le

/-- The log of one plus an exponential is a number or infinity, never minus infinity. -/
theorem log1p_exp_ne_bot (x : EReal) : Ideal.log1p (Ideal.exp x) ≠ ⊥ := by
  have h : ∀ y : EReal, 0 ≤ y → Ideal.log (1 + y) ≠ ⊥ := by
    intro y hy
    induction y with
    | bot => exact absurd hy (by simp)
    | top => rw [show (1 : EReal) + ⊤ = ⊤ from EReal.add_top_of_ne_bot (EReal.coe_ne_bot 1)]; exact top_ne_bot
    | coe r =>
      have hr : 0 ≤ r := EReal.coe_nonneg.1 hy
      have he : (1 : EReal) + (r : EReal) = ((1 + r : ℝ) : EReal) := by push_cast; rfl
      rw [he]
      have : Ideal.log ((1 + r : ℝ) : EReal) = (Real.log (1 + r) : EReal) := by
        show (if 1 + r ≤ 0 then (⊥ : EReal) else (Real.log (1 + r) : EReal)) = _
        rw [if_neg (by linarith)]
      rw [this]
      exact EReal.coe_ne_bot _
  exact h _ (exp_nonneg x)

/-- The log of the sigmoid of `-n`: minus the positive part and the log term, or the lesser with zero less the log
    term. -/
theorem neg_softplus (n : EReal) :
    -(max n 0 + Ideal.log1p (Ideal.exp (-(max n (-n)))))
      = min (-n) 0 - Ideal.log1p (Ideal.exp (0 - max (-n) (-(-n)))) := by
  rw [EReal.neg_add (Or.inl (ne_of_gt (lt_of_lt_of_le EReal.bot_lt_zero (le_max_right _ _)))) (Or.inr (log1p_exp_ne_bot _)),
    zero_sub, neg_neg, max_comm (-n) n]
  congr 1
  rcases le_total n 0 with h | h
  · rw [max_eq_right h, min_eq_right (by simpa using EReal.neg_le_neg_iff.2 h), neg_zero]
  · rw [max_eq_left h, min_eq_left (by simpa using EReal.neg_le_neg_iff.2 h)]

end Cert.Consts

end
-- ==== Proof.GlaPre.Pure.lean ====
module

public import proofs.«01_k».proof.Proof.Gen.Kernel3Ideal.Value
public import proofs.«01_k».proof.Proof.Gen.Reference3Ideal.Run
public import proofs.«01_k».proof.Proof.Consts

/-! What enters the recurrence, entry by entry: the normalised residual stream, its projection to queries, keys, values
    and output gates, and the log decay through the low-rank gate.  The kernel pads the rank from 16 to 128 by zeros,
    takes the log of the sigmoid in another form and multiplies by a sixteenth where the reference divides by 16. -/

@[expose] public section

set_option maxRecDepth 16384

noncomputable section

namespace Cert.GlaPre

open Idealize.ShloMosaic Idealize.ShloMosaic.TcCoe Idealize.SL.Sem

/-- Column `c` of a row normalised to unit mean square and scaled by `g`. -/
def normed (z g : Fin 1024 → EReal) (c : Fin 1024) : EReal :=
  z c * Ideal.rsqrt (Ideal.div (∑ e, z e * z e) (Ideal.ofBits .f32 0x44800000#32) + Ideal.ofBits .f32 0x358637BD#32) * g c

/-- One column of the projection of a normalised row. -/
def projected (z g w : Fin 1024 → EReal) : EReal := ∑ k, normed z g k * w k

/-- The log of the sigmoid as the kernel takes it, divided by 16. -/
def gate (z : EReal) : EReal :=
  (min z 0 - Ideal.log1p (Ideal.exp (0 - max z (-z)))) * Ideal.ofBits .f32 0x3D800000#32

/-- The log decay of one column from the low-rank gate. -/
def decay {n : ℕ} (z g : Fin 1024 → EReal) (a : Fin 1024 → Fin n → EReal) (b : Fin n → EReal) (s : EReal) : EReal :=
  gate ((∑ j, projected z g (fun k => a k j) * b j) + s)

section Kern

open Cert.Kernel3Ideal Cert.Kernel3Ideal.Gen

/-- The normalised rows, entry by entry. -/
theorem normed_at (x : Vec Ideal S512x1024 .f32) (g : Vec Ideal S1x1024 .f32) (r : Fin 512) (c : Fin 1024) :
    k0_pay2 (F := Ideal) x g (ix2 r c) = normed (fun c => x (ix2 r c)) (fun c => g (ix2 0 c)) c := by
  pointwise [k0_pay2, normed]

/-- The projection, entry by entry. -/
theorem proj_at (x : Vec Ideal S512x1024 .f32) (g : Vec Ideal S1x1024 .f32) (w : Vec Ideal S1024x3072 .bf16)
    (r : Fin 512) (c : Fin 3072) :
    k0_pay3 (F := Ideal) x g w (ix2 r c)
      = projected (fun c => x (ix2 r c)) (fun c => g (ix2 0 c)) (fun k => w (ix2 k c)) := by
  pointwise [k0_pay3, normed_at, projected]

/-- The stored queries. -/
theorem q_at (x : Vec Ideal S512x1024 .f32) (g : Vec Ideal S1x1024 .f32) (w : Vec Ideal S1024x3072 .bf16)
    (r : Fin 512) (c : Fin 512) :
    k0_pay4 (F := Ideal) x g w (ix2 r c)
      = projected (fun c => x (ix2 r c)) (fun c => g (ix2 0 c)) (fun k => w (ix2 k ⟨c, by omega⟩))
          * Ideal.ofBits .f32 0x3DB504F3#32 := by
  pointwise [k0_pay4, proj_at]

/-- The stored keys. -/
theorem k_at (x : Vec Ideal S512x1024 .f32) (g : Vec Ideal S1x1024 .f32) (w : Vec Ideal S1024x3072 .bf16)
    (r : Fin 512) (c : Fin 512) :
    k0_pay5 (F := Ideal) x g w (ix2 r c)
      = projected (fun c => x (ix2 r c)) (fun c => g (ix2 0 c)) (fun k => w (ix2 k ⟨512 + c, by omega⟩)) := by
  pointwise [k0_pay5, proj_at]

/-- The stored values. -/
theorem v_at (x : Vec Ideal S512x1024 .f32) (g : Vec Ideal S1x1024 .f32) (w : Vec Ideal S1024x3072 .bf16)
    (r : Fin 512) (c : Fin 1024) :
    k0_pay6 (F := Ideal) x g w (ix2 r c)
      = projected (fun c => x (ix2 r c)) (fun c => g (ix2 0 c)) (fun k => w (ix2 k ⟨1024 + c, by omega⟩)) := by
  pointwise [k0_pay6, proj_at]

/-- The stored output gates. -/
theorem r_at (x : Vec Ideal S512x1024 .f32) (g : Vec Ideal S1x1024 .f32) (w : Vec Ideal S1024x3072 .bf16)
    (r : Fin 512) (c : Fin 1024) :
    k0_pay7 (F := Ideal) x g w (ix2 r c)
      = projected (fun c => x (ix2 r c)) (fun c => g (ix2 0 c)) (fun k => w (ix2 k ⟨2048 + c, by omega⟩)) := by
  pointwise [k0_pay7, proj_at]

/-- The stored log decay. -/
theorem la_at (x : Vec Ideal S512x1024 .f32) (g : Vec Ideal S1x1024 .f32) (a : Vec Ideal S1024x128 .bf16)
    (b : Vec Ideal S128x512 .bf16) (s : Vec Ideal S1x512 .f32) (r : Fin 512) (c : Fin 512) :
    k0_pay1 (F := Ideal) (k0_pay8 x g a) b s (ix2 r c)
      = decay (fun c => x (ix2 r c)) (fun c => g (ix2 0 c)) (fun k j => a (ix2 k j)) (fun j => b (ix2 j c)) (s (ix2 0 c)) := by
  pointwise [k0_pay1, k0_pay8, normed_at, decay, gate, projected]
  rfl

end Kern

section Ref

open Cert.Reference3Ideal Cert.Reference3Ideal.Gen

/-- The reference's normalised residual stream. -/
def refNormed (Z : FVec Ideal S16384x1024 .f32) (G : FVec Ideal S1024 .f32) : FVec Ideal S16384x1024 .f32 :=
  mulf (mulf Z (broadcastInDim S16384x1024 ![0, 1] bcast_S16384x1_S16384x1024_0_1
      (Host.rsqrt (addf (Host.divf (broadcastInDim S16384x1 ![0] bcast_S16384_S16384x1_0
          (Host.reduceAdd (mulf Z Z) (constant S_ .f32 0x00000000#32) reducesTo_S16384x1024_S16384_d1 h_S_))
          (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1
      (broadcastInDim S1x1024 ![1] bcast_S1024_S1x1024_1 G))

/-- The reference's projection. -/
def refProj (Z : FVec Ideal S16384x1024 .f32) (G : FVec Ideal S1024 .f32) (W : FVec Ideal S1024x3072 .f32) :
    FVec Ideal S16384x3072 .f32 :=
  Host.dotGeneral dot_S16384x1024_S1024x3072_S16384x3072_1_0_0_1_n_n none (refNormed Z G) W

/-- The reference's queries. -/
def refQ (Z : FVec Ideal S16384x1024 .f32) (G : FVec Ideal S1024 .f32) (W : FVec Ideal S1024x3072 .f32) :
    FVec Ideal S16384x512 .f32 :=
  mulf (extractStridedSlice S16384x512 ![0, 0] (refProj Z G W) slices_S16384x3072_S16384x512_0_0)
    (broadcastInDim S16384x512 ![] bcast_S_S16384x512 (constant S_ .f32 0x3DB504F3#32))

/-- The reference's keys. -/
def refK (Z : FVec Ideal S16384x1024 .f32) (G : FVec Ideal S1024 .f32) (W : FVec Ideal S1024x3072 .f32) :
    FVec Ideal S16384x512 .f32 :=
  extractStridedSlice S16384x512 ![0, 512] (refProj Z G W) slices_S16384x3072_S16384x512_0_512

/-- The reference's values. -/
def refV (Z : FVec Ideal S16384x1024 .f32) (G : FVec Ideal S1024 .f32) (W : FVec Ideal S1024x3072 .f32) :
    FVec Ideal S16384x1024 .f32 :=
  extractStridedSlice S16384x1024 ![0, 1024] (refProj Z G W) slices_S16384x3072_S16384x1024_0_1024

/-- The reference's output gates. -/
def refR (Z : FVec Ideal S16384x1024 .f32) (G : FVec Ideal S1024 .f32) (W : FVec Ideal S1024x3072 .f32) :
    FVec Ideal S16384x1024 .f32 :=
  extractStridedSlice S16384x1024 ![0, 2048] (refProj Z G W) slices_S16384x3072_S16384x1024_0_2048

/-- The reference's gate before the sigmoid, negated. -/
def refNegLogit (Z : FVec Ideal S16384x1024 .f32) (G : FVec Ideal S1024 .f32) (A : FVec Ideal S1024x16 .f32)
    (B : FVec Ideal S16x512 .f32) (S : FVec Ideal S512 .f32) : FVec Ideal S16384x512 .f32 :=
  Host.negf (addf (Host.dotGeneral dot_S16384x16_S16x512_S16384x512_1_0_0_1_n_n none
      (Host.dotGeneral dot_S16384x1024_S1024x16_S16384x16_1_0_0_1_n_n none (refNormed Z G) A) B)
    (broadcastInDim S16384x512 ![0, 1] bcast_S1x512_S16384x512_0_1 (broadcastInDim S1x512 ![1] bcast_S512_S1x512_1 S)))

/-- The reference's zero of the gate's shape. -/
def refZero : FVec Ideal S16384x512 .f32 :=
  broadcastInDim S16384x512 ![] bcast_S_S16384x512 (constant S_ .f32 0x00000000#32)

/-- The reference's log of the sigmoid, divided by 16, from the negated gate. -/
def refDecay (N : FVec Ideal S16384x512 .f32) : FVec Ideal S16384x512 .f32 :=
  Host.divf (Host.negf (select (cmpf .une (subf N refZero) (subf N refZero)) (addf N refZero)
      (addf (maximumf N refZero) (Host.log1p (Host.exp (Host.negf (Host.absf (subf N refZero))))))))
    (broadcastInDim S16384x512 ![] bcast_S_S16384x512 (constant S_ .f32 0x41800000#32))

/-- The normalised stream, entry by entry. -/
theorem refNormed_at (Z : FVec Ideal S16384x1024 .f32) (G : FVec Ideal S1024 .f32) (r : Fin 16384) (c : Fin 1024) :
    refNormed Z G (ix2 r c) = normed (fun c => Z (ix2 r c)) (fun c => G (ix1 c)) c := by
  pointwise [refNormed, normed]

/-- The projection, entry by entry. -/
theorem refProj_at (Z : FVec Ideal S16384x1024 .f32) (G : FVec Ideal S1024 .f32) (W : FVec Ideal S1024x3072 .f32)
    (r : Fin 16384) (c : Fin 3072) :
    refProj Z G W (ix2 r c) = projected (fun c => Z (ix2 r c)) (fun c => G (ix1 c)) (fun k => W (ix2 k c)) := by
  pointwise [refProj, refNormed_at, projected]

/-- The queries, entry by entry. -/
theorem refQ_at (Z : FVec Ideal S16384x1024 .f32) (G : FVec Ideal S1024 .f32) (W : FVec Ideal S1024x3072 .f32)
    (r : Fin 16384) (c : Fin 512) :
    refQ Z G W (ix2 r c) = projected (fun c => Z (ix2 r c)) (fun c => G (ix1 c)) (fun k => W (ix2 k ⟨c, by omega⟩))
      * Ideal.ofBits .f32 0x3DB504F3#32 := by
  pointwise [refQ, refProj_at]

/-- The keys, entry by entry. -/
theorem refK_at (Z : FVec Ideal S16384x1024 .f32) (G : FVec Ideal S1024 .f32) (W : FVec Ideal S1024x3072 .f32)
    (r : Fin 16384) (c : Fin 512) :
    refK Z G W (ix2 r c) = projected (fun c => Z (ix2 r c)) (fun c => G (ix1 c)) (fun k => W (ix2 k ⟨512 + c, by omega⟩)) := by
  pointwise [refK, refProj_at]

/-- The values, entry by entry. -/
theorem refV_at (Z : FVec Ideal S16384x1024 .f32) (G : FVec Ideal S1024 .f32) (W : FVec Ideal S1024x3072 .f32)
    (r : Fin 16384) (c : Fin 1024) :
    refV Z G W (ix2 r c) = projected (fun c => Z (ix2 r c)) (fun c => G (ix1 c)) (fun k => W (ix2 k ⟨1024 + c, by omega⟩)) := by
  pointwise [refV, refProj_at]

/-- The output gates, entry by entry. -/
theorem refR_at (Z : FVec Ideal S16384x1024 .f32) (G : FVec Ideal S1024 .f32) (W : FVec Ideal S1024x3072 .f32)
    (r : Fin 16384) (c : Fin 1024) :
    refR Z G W (ix2 r c) = projected (fun c => Z (ix2 r c)) (fun c => G (ix1 c)) (fun k => W (ix2 k ⟨2048 + c, by omega⟩)) := by
  pointwise [refR, refProj_at]

/-- The negated gate, entry by entry. -/
theorem refNegLogit_at (Z : FVec Ideal S16384x1024 .f32) (G : FVec Ideal S1024 .f32) (A : FVec Ideal S1024x16 .f32)
    (B : FVec Ideal S16x512 .f32) (S : FVec Ideal S512 .f32) (r : Fin 16384) (c : Fin 512) :
    refNegLogit Z G A B S (ix2 r c)
      = -((∑ j, projected (fun c => Z (ix2 r c)) (fun c => G (ix1 c)) (fun k => A (ix2 k j)) * B (ix2 j c)) + S (ix1 c)) := by
  pointwise [refNegLogit, refNormed_at, projected]

/-- The log decay, entry by entry. -/
theorem refDecay_at (N : FVec Ideal S16384x512 .f32) (r : Fin 16384) (c : Fin 512) :
    refDecay N (ix2 r c) = gate (-(N (ix2 r c))) := by
  pointwise [refDecay, refZero, gate]
  rw [if_neg (fun h => h rfl), Consts.sixteen, Consts.sixteenth, Ideal.div_coe (by norm_num : (16 : ℝ) ≠ 0)]
  exact congrArg (· * _) (Consts.neg_softplus _)

/-- A rank padded from 16 to 128 by zeros changes nothing. -/
theorem decay_padded (z g : Fin 1024 → EReal) (a : Fin 1024 → Fin 16 → EReal) (b : Fin 16 → EReal) (s : EReal)
    (a' : Fin 1024 → Fin 128 → EReal) (b' : Fin 128 → EReal) (ha : ∀ k (j : Fin 16), a' k ⟨j, by omega⟩ = a k j)
    (hb : ∀ j : Fin 16, b' ⟨j, by omega⟩ = b j) (h0 : ∀ j : Fin 112, b' ⟨16 + j, by omega⟩ = 0) :
    decay z g a' b' s = decay z g a b s := by
  unfold decay
  congr 2
  rw [Fin.sum_univ_add (a := 16) (b := 112) (fun j : Fin (16 + 112) => projected z g (fun k => a' k j) * b' j)]
  have h1 : ∀ j : Fin 112, projected z g (fun k => a' k (Fin.natAdd 16 j)) * b' (Fin.natAdd 16 j) = 0 := fun j => by
    rw [show b' (Fin.natAdd 16 j) = 0 from h0 j, mul_zero]
  rw [Finset.sum_congr rfl fun j _ => h1 j, Finset.sum_const_zero, add_zero]
  refine Finset.sum_congr rfl fun j _ => ?_
  rw [show b' (Fin.castAdd 112 j) = b j from hb j]
  congr 2
  exact funext fun k => ha k j

end Ref

end Cert.GlaPre

end
-- ==== Proof.GlaPre.Operands.lean ====
module

public import proofs.«01_k».proof.Proof.GlaPre.Pure
public import Idealize.ShloMosaic.Lib.Pipeline.ValueKit
public import Idealize.ShloMosaic.Lib.StableHlo.Run

/-! What the launch finds in its operands: the scale, the bias and the projection weights as given, and the two
    low-rank factors padded by zeros from 16 to 128. -/

@[expose] public section

set_option maxRecDepth 16384

noncomputable section

namespace Cert.GlaPre

open Idealize.ShloMosaic Idealize.ShloMosaic.TcCoe Idealize.SL.Sem
open Cert.Kernel3Ideal Cert.Kernel3Ideal.Gen

variable (m : (ℓ : Loc nD τ sig) → Buf (Elt Ideal) ℓ)

/-- The scale as one row. -/
theorem V_scale (c : Dev nD) : V m c main_v4 = shapeCast S1x1024 (m ((c : Thread nD τ).loc main_arg1)) shapeCasts_S1024_S1x1024 := by
  simp only [V, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl

/-- The bias as one row. -/
theorem V_bias (c : Dev nD) : V m c main_v6 = shapeCast S1x512 (m ((c : Thread nD τ).loc main_arg5)) shapeCasts_S512_S1x512 := by
  simp only [V, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl

/-- The projection weights. -/
theorem V_proj (c : Dev nD) : V m c main_v5 = (truncf (F := Ideal) .bf16 (m ((c : Thread nD τ).loc main_arg2)) bitsLt_bf16_f32 : FVec Ideal S1024x3072 .bf16) := by
  simp only [V, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp

/-- The first low-rank factor, padded. -/
theorem V_rank (c : Dev nD) : V m c main_v1 = (truncf (F := Ideal) .bf16 (pad S1024x128 ![0, 0] ![0, 112] ![0, 0] (m ((c : Thread nD τ).loc main_arg3))
      (sitofp .f32 (constantI S_ 32 0#32)) pads_S1024x16_S1024x128_000_01120 h_S_) bitsLt_bf16_f32 : FVec Ideal S1024x128 .bf16) := by
  simp only [V, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  try rfl

/-- The second low-rank factor, padded. -/
theorem V_up (c : Dev nD) : V m c main_v3 = (truncf (F := Ideal) .bf16 (pad S128x512 ![0, 0] ![112, 0] ![0, 0] (m ((c : Thread nD τ).loc main_arg4))
      (sitofp .f32 (constantI S_ 32 0#32)) pads_S16x512_S128x512_01120_000 h_S_) bitsLt_bf16_f32 : FVec Ideal S128x512 .bf16) := by
  simp only [V, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  try rfl

/-- The scale, entry by entry. -/
theorem scale_at (c : Dev nD) (k : Fin 1024) : V m c main_v4 (ix2 0 k) = m ((c : Thread nD τ).loc main_arg1) (ix1 k) := by
  rw [V_scale]
  pointwise

/-- The bias, entry by entry. -/
theorem bias_at (c : Dev nD) (k : Fin 512) : V m c main_v6 (ix2 0 k) = m ((c : Thread nD τ).loc main_arg5) (ix1 k) := by
  rw [V_bias]
  pointwise

/-- The projection weights, entry by entry. -/
theorem weight_at (c : Dev nD) (k : Fin 1024) (j : Fin 3072) : V m c main_v5 (ix2 k j) = m ((c : Thread nD τ).loc main_arg2) (ix2 k j) := by
  rw [V_proj]
  pointwise

/-- The first factor within its rank. -/
theorem rank_at (c : Dev nD) (k : Fin 1024) (j : Fin 16) : V m c main_v1 (ix2 k ⟨j, by omega⟩) = m ((c : Thread nD τ).loc main_arg3) (ix2 k j) := by
  rw [V_rank]
  pointwise
  refine dif_pos (Fin.forall_fin_two.2 ⟨⟨Nat.zero_le _, ?_, ?_⟩, ⟨Nat.zero_le _, ?_, ?_⟩⟩)
  all_goals simp [ix2]
  all_goals omega

/-- The second factor within its rank. -/
theorem up_at (c : Dev nD) (j : Fin 16) (k : Fin 512) : V m c main_v3 (ix2 ⟨j, by omega⟩ k) = m ((c : Thread nD τ).loc main_arg4) (ix2 j k) := by
  rw [V_up]
  pointwise
  refine dif_pos (Fin.forall_fin_two.2 ⟨⟨Nat.zero_le _, ?_, ?_⟩, ⟨Nat.zero_le _, ?_, ?_⟩⟩)
  all_goals simp [ix2]
  all_goals omega

/-- The second factor beyond its rank. -/
theorem up_pad (c : Dev nD) (j : Fin 112) (k : Fin 512) : V m c main_v3 (ix2 ⟨16 + j, by omega⟩ k) = (0 : EReal) := by
  rw [V_up]
  pointwise
  rw [dif_neg]
  · show (((0#32).toInt : ℝ) : EReal) = 0
    simp
  · intro h
    have := (h (0 : Fin 2)).2.2
    simp [ix2] at this

end Cert.GlaPre

end
-- ==== Proof.GlaPre.Array.lean ====
module

public import proofs.«01_k».proof.Proof.GlaPre.Operands
public import Idealize.ShloMosaic.Lib.Pipeline.ValueKit

/-! The five result arrays of the projections are the reference's terms: grid point `t` writes the block of 512 tokens
    from token `512 t` on. -/

@[expose] public section

set_option maxRecDepth 16384

noncomputable section

namespace Cert.GlaPre

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- Where each window's block lies at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0]
    ∧ win0_10.index t = ![t.val, 0] :=
  (by decide +kernel : ∀ t : Fin grid0.N, _)

/-- A projected column depends only on the entries of its rows. -/
theorem projected_congr {z z' g g' w w' : Fin 1024 → EReal} (hz : ∀ k, z k = z' k) (hg : ∀ k, g k = g' k)
    (hw : ∀ k, w k = w' k) : projected z g w = projected z' g' w' := by
  obtain rfl := funext hz
  obtain rfl := funext hg
  obtain rfl := funext hw
  rfl

/-- The residual stream's block. -/
theorem blk_x (c : Dev nD) (t : Fin cfg0.N) (ht : t.val < 32) (r : Fin 512) (k : Fin 1024) :
    iblk m c 0 t (ix2 r k) = m ((c : Thread nD τ).loc main_arg0) (ix2 ⟨t.val * 512 + r, by omega⟩ k) := by
  blk_point [iblk, V, idx t]

/-- The scale is one block. -/
theorem blk_g (c : Dev nD) (t : Fin cfg0.N) (k : Fin 1024) : iblk m c 1 t (ix2 0 k) = m ((c : Thread nD τ).loc main_arg1) (ix1 k) := by
  have he : (win0_1.blk t).view.emb (ix2 0 k) = (ix2 0 k : S1x1024.Idx) := by
    blk_ext [idx t]
  exact (congrArg (V m c main_v4) he).trans (scale_at m c k)

/-- The projection weights are one block. -/
theorem blk_w (c : Dev nD) (t : Fin cfg0.N) (k : Fin 1024) (j : Fin 3072) : iblk m c 2 t (ix2 k j) = m ((c : Thread nD τ).loc main_arg2) (ix2 k j) := by
  have he : (win0_2.blk t).view.emb (ix2 k j) = (ix2 k j : S1024x3072.Idx) := by
    blk_ext [idx t]
  exact (congrArg (V m c main_v5) he).trans (weight_at m c k j)

/-- The first low-rank factor is one block. -/
theorem blk_a (c : Dev nD) (t : Fin cfg0.N) (k : Fin 1024) (j : Fin 16) : iblk m c 3 t (ix2 k ⟨j, by omega⟩) = m ((c : Thread nD τ).loc main_arg3) (ix2 k j) := by
  have he : (win0_3.blk t).view.emb (ix2 k ⟨j, by omega⟩) = (ix2 k ⟨j, by omega⟩ : S1024x128.Idx) := by
    blk_ext [idx t]
  exact (congrArg (V m c main_v1) he).trans (rank_at m c k j)

/-- The second low-rank factor is one block. -/
theorem blk_b (c : Dev nD) (t : Fin cfg0.N) (j : Fin 16) (k : Fin 512) : iblk m c 4 t (ix2 ⟨j, by omega⟩ k) = m ((c : Thread nD τ).loc main_arg4) (ix2 j k) := by
  have he : (win0_4.blk t).view.emb (ix2 ⟨j, by omega⟩ k) = (ix2 ⟨j, by omega⟩ k : S128x512.Idx) := by
    blk_ext [idx t]
  exact (congrArg (V m c main_v3) he).trans (up_at m c j k)

/-- The second factor beyond its rank. -/
theorem blk_b_pad (c : Dev nD) (t : Fin cfg0.N) (j : Fin 112) (k : Fin 512) : iblk m c 4 t (ix2 ⟨16 + j, by omega⟩ k) = (0 : EReal) := by
  have he : (win0_4.blk t).view.emb (ix2 ⟨16 + j, by omega⟩ k) = (ix2 ⟨16 + j, by omega⟩ k : S128x512.Idx) := by
    blk_ext [idx t]
  exact (congrArg (V m c main_v3) he).trans (up_pad m c j k)

/-- The bias is one block. -/
theorem blk_s (c : Dev nD) (t : Fin cfg0.N) (k : Fin 512) : iblk m c 5 t (ix2 0 k) = m ((c : Thread nD τ).loc main_arg5) (ix1 k) := by
  have he : (win0_5.blk t).view.emb (ix2 0 k) = (ix2 0 k : S1x512.Idx) := by
    blk_ext [idx t]
  exact (congrArg (V m c main_v6) he).trans (bias_at m c k)

/-- The queries. -/
theorem q_final (c : Dev nD) : (dats m 0 c).arrAt 6 (cfgs 0).N
    = refQ (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  unfold out0_6
  have ht : t.val < 32 := lt_of_lt_of_eq t.isLt N_0
  canon_tiles x h
  idx_vars x
  have he : ((View.whole main_v7_0).slice (win0_6.rect t)).emb y
      = (ix2 ⟨t.val * 512 + x0, by omega⟩ x1 : S16384x512.Idx) := by
    blk_ext [idx t]
  rw [he, refQ_at]
  refine (q_at _ _ _ x0 x1).trans (congrArg (· * _) (projected_congr ?_ ?_ ?_))
  · intro k; pointwise; exact blk_x m c t ht x0 k
  · intro k; pointwise; exact blk_g m c t k
  · intro k; pointwise; exact blk_w m c t k _

/-- The keys. -/
theorem k_final (c : Dev nD) : (dats m 0 c).arrAt 7 (cfgs 0).N
    = refK (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  unfold out0_7
  have ht : t.val < 32 := lt_of_lt_of_eq t.isLt N_0
  canon_tiles x h
  idx_vars x
  have he : ((View.whole main_v7_1).slice (win0_7.rect t)).emb y
      = (ix2 ⟨t.val * 512 + x0, by omega⟩ x1 : S16384x512.Idx) := by
    blk_ext [idx t]
  rw [he, refK_at]
  refine (k_at _ _ _ x0 x1).trans (projected_congr ?_ ?_ ?_)
  · intro k; pointwise; exact blk_x m c t ht x0 k
  · intro k; pointwise; exact blk_g m c t k
  · intro k; pointwise; exact blk_w m c t k _

/-- The values. -/
theorem v_final (c : Dev nD) : (dats m 0 c).arrAt 8 (cfgs 0).N
    = refV (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  unfold out0_8
  have ht : t.val < 32 := lt_of_lt_of_eq t.isLt N_0
  canon_tiles x h
  idx_vars x
  have he : ((View.whole main_v7_2).slice (win0_8.rect t)).emb y
      = (ix2 ⟨t.val * 512 + x0, by omega⟩ x1 : S16384x1024.Idx) := by
    blk_ext [idx t]
  rw [he, refV_at]
  refine (v_at _ _ _ x0 x1).trans (projected_congr ?_ ?_ ?_)
  · intro k; pointwise; exact blk_x m c t ht x0 k
  · intro k; pointwise; exact blk_g m c t k
  · intro k; pointwise; exact blk_w m c t k _

/-- The output gates. -/
theorem r_final (c : Dev nD) : (dats m 0 c).arrAt 9 (cfgs 0).N
    = refR (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  unfold out0_9
  have ht : t.val < 32 := lt_of_lt_of_eq t.isLt N_0
  canon_tiles x h
  idx_vars x
  have he : ((View.whole main_v7_3).slice (win0_9.rect t)).emb y
      = (ix2 ⟨t.val * 512 + x0, by omega⟩ x1 : S16384x1024.Idx) := by
    blk_ext [idx t]
  rw [he, refR_at]
  refine (r_at _ _ _ x0 x1).trans (projected_congr ?_ ?_ ?_)
  · intro k; pointwise; exact blk_x m c t ht x0 k
  · intro k; pointwise; exact blk_g m c t k
  · intro k; pointwise; exact blk_w m c t k _

/-- The log decay depends only on the entries of its rows. -/
theorem decay_congr {z z' g g' : Fin 1024 → EReal} {a : Fin 1024 → Fin 16 → EReal} {b : Fin 16 → EReal} {s s' : EReal}
    (hz : ∀ k, z k = z' k) (hg : ∀ k, g k = g' k) (hs : s = s') : decay z g a b s = decay z' g' a b s' := by
  obtain rfl := funext hz
  obtain rfl := funext hg
  rw [hs]

/-- The log decay. -/
theorem la_final (c : Dev nD) : (dats m 0 c).arrAt 10 (cfgs 0).N
    = refDecay (refNegLogit (m ((c : Thread nD τ).loc main_arg0)) (m ((c : Thread nD τ).loc main_arg1))
        (m ((c : Thread nD τ).loc main_arg3)) (m ((c : Thread nD τ).loc main_arg4)) (m ((c : Thread nD τ).loc main_arg5))) := by
  refine (dats m 0 c).arrAt_eq_of_covers 10 _ (by decide +kernel) fun t hf y => ?_
  blk_simp
  rw [after0_10]
  unfold out0_10
  have ht : t.val < 32 := lt_of_lt_of_eq t.isLt N_0
  canon_tiles x h
  idx_vars x
  have he : ((View.whole main_v7_4).slice (win0_10.rect t)).emb y
      = (ix2 ⟨t.val * 512 + x0, by omega⟩ x1 : S16384x512.Idx) := by
    blk_ext [idx t]
  rw [he, refDecay_at, refNegLogit_at, neg_neg]
  refine (la_at _ _ _ _ _ x0 x1).trans ((decay_padded _ _ _ _ _ _ _ (fun k j => ?_) (fun j => ?_) (fun j => ?_)).trans
    (decay_congr (fun k => ?_) (fun k => ?_) ?_))
  · pointwise; exact blk_a m c t k j
  · pointwise; exact blk_b m c t j x1
  · pointwise; exact blk_b_pad m c t j x1
  · pointwise; exact blk_x m c t ht x0 k
  · pointwise; exact blk_g m c t k
  · pointwise; exact blk_s m c t x1

end Cert.GlaPre

end
-- ==== Proof.GlaPre.Claims.lean ====
module

public import proofs.«01_k».proof.Defs
public import proofs.«01_k».proof.Proof.Gen.Kernel3.Frame
public import proofs.«01_k».proof.Proof.GlaPre.Array
public import Idealize.ShloMosaic.Lib.Claim
public import Idealize.ShloMosaic.Lib.Quiescent

/-! The claims about the projections into the recurrence: the runs of the two kernel programs and of the reference, and the equality of the
    results. -/

@[expose] public section

set_option maxRecDepth 16384

noncomputable section

namespace Cert.GlaPre

open Idealize.ShloMosaic Idealize.SL.Sem

/-- The kernel as printed terminates and leaves its arguments as they were. -/
theorem kernel_frame : Cert.quiescent_Kernel3 := fun m ρ _ => Cert.Kernel3.Gen.frame m ρ

/-- The same for the kernel over the extended reals. -/
theorem kernelIdeal_frame : Cert.quiescent_Kernel3Ideal := fun m ρ _ => Cert.Kernel3Ideal.Gen.frame m ρ

set_option maxHeartbeats 1600000 in
/-- The same for the reference over the extended reals. -/
theorem referenceIdeal_frame : Cert.quiescent_Reference3Ideal := by
  intro m g _
  hlo_run
  · simp only [and_self, implies_true]
  · exact sem_eq_zero_of_no_sems (sig := Cert.Reference3Ideal.sig) (by decide) _

/-- The idealised kernel is the printed one. -/
theorem preserves : Cert.preserves_Kernel3_Kernel3Ideal := trivial

set_option maxHeartbeats 1600000 in
/-- Over the extended reals the kernel's results are the reference's. -/
theorem algebraic : Cert.algebraic_Kernel3Ideal_Reference3Ideal := by
  pair_intro
  · run_from Cert.Kernel3Ideal.Gen.run_main m g
    all_goals first | exact Cert.Kernel3Ideal.Gen.V_main_arg0 m c | exact Cert.Kernel3Ideal.Gen.V_main_arg1 m c | exact Cert.Kernel3Ideal.Gen.V_main_arg2 m c | exact Cert.Kernel3Ideal.Gen.V_main_arg3 m c | exact Cert.Kernel3Ideal.Gen.V_main_arg4 m c | exact Cert.Kernel3Ideal.Gen.V_main_arg5 m c
  · hlo_run
    · exact (q_final m c).symm
    · exact (k_final m c).symm
    · exact (v_final m c).symm
    · exact (r_final m c).symm
    · exact (la_final m c).symm

end Cert.GlaPre

end
-- ==== Proof.DiffPre.Ref.lean ====
module

public import proofs.«01_k».proof.Proof.Gen.Reference4Ideal.Run
public import proofs.«01_k».proof.Proof.Consts

/-! The mathematics of what enters the differential attention, whose heads of 128 lanes are two halves of 64, each normalised by itself: the normalised residual stream, its projection, and
    the normalisation of the heads, entry by entry. -/

@[expose] public section

set_option maxRecDepth 16384

noncomputable section

namespace Cert.DiffPre

open Idealize.ShloMosaic Idealize.ShloMosaic.TcCoe Idealize.SL.Sem

/-- Column `c` of a row normalised to unit mean square and scaled by `g`. -/
def normed (z g : Fin 1024 → EReal) (c : Fin 1024) : EReal :=
  z c * Ideal.rsqrt (Ideal.div (∑ e, z e * z e) (Ideal.ofBits .f32 0x44800000#32) + Ideal.ofBits .f32 0x358637BD#32) * g c

/-- One column of the projection of a normalised row. -/
def projected (z g w : Fin 1024 → EReal) : EReal := ∑ k, normed z g k * w k

/-- Lane `c` of a row, normalised within its segment of 64 lanes and scaled by `s`. -/
def segNorm (y : Fin 1024 → EReal) (s : EReal) (c : Fin 1024) : EReal :=
  y c * Ideal.rsqrt (Ideal.div (∑ e : Fin 64, y ⟨c.val / 64 * 64 + e.val, by omega⟩ * y ⟨c.val / 64 * 64 + e.val, by omega⟩)
    (Ideal.ofBits .f32 0x42800000#32) + Ideal.ofBits .f32 0x358637BD#32) * s

/-- A projected column depends only on the entries of its rows. -/
theorem projected_congr {z z' g g' w w' : Fin 1024 → EReal} (hz : ∀ k, z k = z' k) (hg : ∀ k, g k = g' k)
    (hw : ∀ k, w k = w' k) : projected z g w = projected z' g' w' := by
  obtain rfl := funext hz
  obtain rfl := funext hg
  obtain rfl := funext hw
  rfl

/-- A normalised lane depends only on the entries of its row and its scale. -/
theorem segNorm_congr {y y' : Fin 1024 → EReal} {s s' : EReal} (hy : ∀ k, y k = y' k) (hs : s = s') (c : Fin 1024) :
    segNorm y s c = segNorm y' s' c := by
  obtain rfl := funext hy
  rw [hs]

open Cert.Reference4Ideal Cert.Reference4Ideal.Gen

/-- The reference's normalised residual stream. -/
def refNormed (Z : FVec Ideal S16384x1024 .f32) (G : FVec Ideal S1024 .f32) : FVec Ideal S16384x1024 .f32 :=
  mulf (mulf Z (broadcastInDim S16384x1024 ![0, 1] bcast_S16384x1_S16384x1024_0_1
      (Host.rsqrt (addf (Host.divf (broadcastInDim S16384x1 ![0] bcast_S16384_S16384x1_0
          (Host.reduceAdd (mulf Z Z) (constant S_ .f32 0x00000000#32) reducesTo_S16384x1024_S16384_d1 h_S_))
          (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1
      (broadcastInDim S1x1024 ![1] bcast_S1024_S1x1024_1 G))

/-- The reference's projection. -/
def refProj (Z : FVec Ideal S16384x1024 .f32) (G : FVec Ideal S1024 .f32) (W : FVec Ideal S1024x3072 .f32) :
    FVec Ideal S16384x3072 .f32 :=
  Host.dotGeneral dot_S16384x1024_S1024x3072_S16384x3072_1_0_0_1_n_n none (refNormed Z G) W

/-- The reference's normalisation of the heads. -/
def refSeg (Q : FVec Ideal S16384x1024 .f32) (N : FVec Ideal S64 .f32) : FVec Ideal S16384x1024 .f32 :=
  shapeCast S16384x1024 (mulf (mulf (shapeCast S16384x8x2x64 Q shapeCasts_S16384x1024_S16384x8x2x64) (broadcastInDim S16384x8x2x64 ![0, 1, 2, 3] bcast_S16384x8x2x1_S16384x8x2x64_0_1_2_3
      (Host.rsqrt (addf (Host.divf (broadcastInDim S16384x8x2x1 ![0, 1, 2] bcast_S16384x8x2_S16384x8x2x1_0_1_2
          (Host.reduceAdd (mulf (shapeCast S16384x8x2x64 Q shapeCasts_S16384x1024_S16384x8x2x64) (shapeCast S16384x8x2x64 Q shapeCasts_S16384x1024_S16384x8x2x64))
            (constant S_ .f32 0x00000000#32) reducesTo_S16384x8x2x64_S16384x8x2_d3 h_S_))
          (broadcastInDim S16384x8x2x1 ![] bcast_S_S16384x8x2x1 (constant S_ .f32 0x42800000#32)))
        (broadcastInDim S16384x8x2x1 ![] bcast_S_S16384x8x2x1 (constant S_ .f32 0x358637BD#32))))))
    (broadcastInDim S16384x8x2x64 ![0, 1, 2, 3] bcast_S1x1x1x64_S16384x8x2x64_0_1_2_3
      (broadcastInDim S1x1x1x64 ![3] bcast_S64_S1x1x1x64_3 N))) shapeCasts_S16384x8x2x64_S16384x1024

/-- The reference's queries before their scale. -/
def refQ (Z : FVec Ideal S16384x1024 .f32) (G : FVec Ideal S1024 .f32) (W : FVec Ideal S1024x3072 .f32) (N : FVec Ideal S64 .f32) :
    FVec Ideal S16384x1024 .f32 :=
  refSeg (extractStridedSlice S16384x1024 ![0, 0] (refProj Z G W) slices_S16384x3072_S16384x1024_0_0) N

/-- The reference's queries, scaled and rounded. -/
def refQs (Z : FVec Ideal S16384x1024 .f32) (G : FVec Ideal S1024 .f32) (W : FVec Ideal S1024x3072 .f32) (N : FVec Ideal S64 .f32) :
    FVec Ideal S16384x1024 .bf16 :=
  truncf .bf16 (mulf (refQ Z G W N) (broadcastInDim S16384x1024 ![] bcast_S_S16384x1024 (constant S_ .f32 0x3E38AA3B#32))) bitsLt_bf16_f32

/-- The reference's keys. -/
def refK (Z : FVec Ideal S16384x1024 .f32) (G : FVec Ideal S1024 .f32) (W : FVec Ideal S1024x3072 .f32) (N : FVec Ideal S64 .f32) :
    FVec Ideal S16384x1024 .f32 :=
  refSeg (extractStridedSlice S16384x1024 ![0, 1024] (refProj Z G W) slices_S16384x3072_S16384x1024_0_1024) N

/-- The reference's values. -/
def refV (Z : FVec Ideal S16384x1024 .f32) (G : FVec Ideal S1024 .f32) (W : FVec Ideal S1024x3072 .f32) : FVec Ideal S16384x1024 .f32 :=
  extractStridedSlice S16384x1024 ![0, 2048] (refProj Z G W) slices_S16384x3072_S16384x1024_0_2048

/-- The reference's keys, rounded. -/
def refKb (Z : FVec Ideal S16384x1024 .f32) (G : FVec Ideal S1024 .f32) (W : FVec Ideal S1024x3072 .f32) (N : FVec Ideal S64 .f32) :
    FVec Ideal S16384x1024 .bf16 :=
  truncf .bf16 (refK Z G W N) bitsLt_bf16_f32

/-- The reference's values, transposed block by block and rounded. -/
def refVt (Z : FVec Ideal S16384x1024 .f32) (G : FVec Ideal S1024 .f32) (W : FVec Ideal S1024x3072 .f32) : FVec Ideal S2x8x16x128x512 .bf16 :=
  truncf .bf16 (transpose S2x8x16x128x512 [0, 3, 1, 4, 2] (shapeCast S2x16x512x8x128 (refV Z G W) shapeCasts_S16384x1024_S2x16x512x8x128)
    transposes_S2x16x512x8x128_S2x8x16x128x512_0_3_1_4_2) bitsLt_bf16_f32

/-- The normalised residual stream, entry by entry. -/
theorem refNormed_at (Z : FVec Ideal S16384x1024 .f32) (G : FVec Ideal S1024 .f32) (r : Fin 16384) (c : Fin 1024) :
    refNormed Z G (ix2 r c) = normed (fun c => Z (ix2 r c)) (fun c => G (ix1 c)) c := by
  pointwise [refNormed, normed]

/-- The projection, entry by entry. -/
theorem refProj_at (Z : FVec Ideal S16384x1024 .f32) (G : FVec Ideal S1024 .f32) (W : FVec Ideal S1024x3072 .f32)
    (r : Fin 16384) (c : Fin 3072) :
    refProj Z G W (ix2 r c) = projected (fun c => Z (ix2 r c)) (fun c => G (ix1 c)) (fun k => W (ix2 k c)) := by
  pointwise [refProj, refNormed_at, projected]

/-- The normalisation of the heads, entry by entry. -/
theorem refSeg_at (Q : FVec Ideal S16384x1024 .f32) (N : FVec Ideal S64 .f32) (r : Fin 16384) (c : Fin 1024) :
    refSeg Q N (ix2 r c) = segNorm (fun c => Q (ix2 r c)) (N (ix1 ⟨c.val % 64, by omega⟩)) c := by
  pointwise [refSeg, segNorm]
  have h : c.val / 128 * 128 + c.val / 64 % 2 * 64 = c.val / 64 * 64 := by omega
  simp only [h]

/-- The queries before their scale, entry by entry. -/
theorem refQ_at (Z : FVec Ideal S16384x1024 .f32) (G : FVec Ideal S1024 .f32) (W : FVec Ideal S1024x3072 .f32) (N : FVec Ideal S64 .f32)
    (r : Fin 16384) (c : Fin 1024) :
    refQ Z G W N (ix2 r c)
      = segNorm (fun j => projected (fun c => Z (ix2 r c)) (fun c => G (ix1 c)) (fun k => W (ix2 k ⟨j, by omega⟩)))
          (N (ix1 ⟨c.val % 64, by omega⟩)) c := by
  unfold refQ
  rw [refSeg_at]
  refine segNorm_congr (fun k => ?_) rfl c
  pointwise [refProj_at]

/-- The scaled queries, entry by entry. -/
theorem refQs_at (Z : FVec Ideal S16384x1024 .f32) (G : FVec Ideal S1024 .f32) (W : FVec Ideal S1024x3072 .f32) (N : FVec Ideal S64 .f32)
    (r : Fin 16384) (c : Fin 1024) :
    refQs Z G W N (ix2 r c)
      = segNorm (fun j => projected (fun c => Z (ix2 r c)) (fun c => G (ix1 c)) (fun k => W (ix2 k ⟨j, by omega⟩)))
          (N (ix1 ⟨c.val % 64, by omega⟩)) c * Ideal.ofBits .f32 0x3E38AA3B#32 := by
  pointwise [refQs, refQ_at]

/-- The keys, entry by entry. -/
theorem refK_at (Z : FVec Ideal S16384x1024 .f32) (G : FVec Ideal S1024 .f32) (W : FVec Ideal S1024x3072 .f32) (N : FVec Ideal S64 .f32)
    (r : Fin 16384) (c : Fin 1024) :
    refK Z G W N (ix2 r c)
      = segNorm (fun j => projected (fun c => Z (ix2 r c)) (fun c => G (ix1 c)) (fun k => W (ix2 k ⟨1024 + j, by omega⟩)))
          (N (ix1 ⟨c.val % 64, by omega⟩)) c := by
  unfold refK
  rw [refSeg_at]
  refine segNorm_congr (fun k => ?_) rfl c
  pointwise [refProj_at]

/-- The rounded keys, entry by entry. -/
theorem refKb_at (Z : FVec Ideal S16384x1024 .f32) (G : FVec Ideal S1024 .f32) (W : FVec Ideal S1024x3072 .f32) (N : FVec Ideal S64 .f32)
    (r : Fin 16384) (c : Fin 1024) :
    refKb Z G W N (ix2 r c)
      = segNorm (fun j => projected (fun c => Z (ix2 r c)) (fun c => G (ix1 c)) (fun k => W (ix2 k ⟨1024 + j, by omega⟩)))
          (N (ix1 ⟨c.val % 64, by omega⟩)) c := by
  pointwise [refKb, refK_at]

/-- The values, entry by entry. -/
theorem refV_at (Z : FVec Ideal S16384x1024 .f32) (G : FVec Ideal S1024 .f32) (W : FVec Ideal S1024x3072 .f32)
    (r : Fin 16384) (c : Fin 1024) :
    refV Z G W (ix2 r c) = projected (fun c => Z (ix2 r c)) (fun c => G (ix1 c)) (fun k => W (ix2 k ⟨2048 + c, by omega⟩)) := by
  pointwise [refV, refProj_at]

/-- The transposed values, entry by entry. -/
theorem refVt_at (Z : FVec Ideal S16384x1024 .f32) (G : FVec Ideal S1024 .f32) (W : FVec Ideal S1024x3072 .f32)
    (b : Fin 2) (h : Fin 8) (u : Fin 16) (c : Fin 128) (r : Fin 512) :
    refVt Z G W (ix5 b h u c r) = refV Z G W (ix2 ⟨b * 8192 + u * 512 + r, by omega⟩ ⟨h * 128 + c, by omega⟩) := by
  pointwise [refVt]

end Cert.DiffPre

end
-- ==== Proof.DiffPre.Head.lean ====
module

public import proofs.«01_k».proof.Proof.Gen.Kernel4Ideal.Value
public import proofs.«01_k».proof.Proof.DiffPre.Ref

/-! What the kernel computes: the projection and the normalisation of a head. -/

@[expose] public section

set_option maxRecDepth 16384

noncomputable section

namespace Cert.DiffPre

open Idealize.ShloMosaic Idealize.ShloMosaic.TcCoe Idealize.SL.Sem

/-- The sum over the half of a head that a lane lies in, by masks over all its lanes. -/
theorem half_sum (f : Fin 128 → EReal) (x : Fin 128) :
    Scalar.select (IntOp.cmpi CmpIPredicate.slt (BitVec.ofNat 32 x.val) 64#32)
        (∑ e : Fin 128, Scalar.select (IntOp.cmpi CmpIPredicate.slt (BitVec.ofNat 32 e.val) 64#32) (f e) 0)
        (∑ e : Fin 128, Scalar.select (IntOp.cmpi CmpIPredicate.slt (BitVec.ofNat 32 e.val) 64#32) 0 (f e))
      = ∑ e : Fin 64, f ⟨x.val / 64 * 64 + e.val, by omega⟩ := by
  have hlo : ∀ e : Fin 64, IntOp.cmpi CmpIPredicate.slt (BitVec.ofNat 32 e.val) 64#32 = 1#1 := by decide
  have hhi : ∀ e : Fin 64, IntOp.cmpi CmpIPredicate.slt (BitVec.ofNat 32 (64 + e.val)) 64#32 = 0#1 := by decide
  have s1 : ∀ a b : EReal, Scalar.select 1#1 a b = a := fun _ _ => rfl
  have s0 : ∀ a b : EReal, Scalar.select 0#1 a b = b := fun _ _ => rfl
  rw [Fin.sum_univ_two_halves 64 64 rfl, Fin.sum_univ_two_halves 64 64 rfl]
  simp only [hlo, hhi, s1, s0, Finset.sum_const_zero, add_zero, zero_add]
  rcases lt_or_ge x.val 64 with h | h
  · rw [hlo ⟨x.val, h⟩, s1]
    have hx : x.val / 64 * 64 = 0 := by omega
    simp only [hx, zero_add]
  · have hx : x.val / 64 * 64 = 64 := by omega
    have hc : IntOp.cmpi CmpIPredicate.slt (BitVec.ofNat 32 x.val) 64#32 = 0#1 := by
      have hh := hhi ⟨x.val - 64, by omega⟩
      have e : 64 + (x.val - 64) = x.val := by omega
      simpa only [e] using hh
    rw [hc, s0]
    simp only [hx]

/-- One lane of a head as the kernel normalises it. -/
def headForm (y : Fin 128 → EReal) (s : EReal) (x : Fin 128) : EReal :=
  y x * Ideal.rsqrt (Scalar.select (IntOp.cmpi CmpIPredicate.slt (BitVec.ofNat 32 x.val) 64#32)
        (∑ e : Fin 128, Scalar.select (IntOp.cmpi CmpIPredicate.slt (BitVec.ofNat 32 e.val) 64#32) (y e * y e) 0)
        (∑ e : Fin 128, Scalar.select (IntOp.cmpi CmpIPredicate.slt (BitVec.ofNat 32 e.val) 64#32) 0 (y e * y e))
      * Ideal.ofBits .f32 0x3C800000#32 + Ideal.ofBits .f32 0x358637BD#32) * s

/-- It is the lane of the row of all heads, normalised within its segment. -/
theorem head_eq (yh : Fin 128 → EReal) (y : Fin 1024 → EReal) (s : EReal) (h : ℕ) (x : Fin 128) (c : Fin 1024)
    (hc : c.val = h * 128 + x.val) (hy : ∀ i : Fin 128, yh i = y ⟨h * 128 + i.val, by omega⟩) :
    headForm yh s x = segNorm y s c := by
  have hx : (⟨h * 128 + x.val, by omega⟩ : Fin 1024) = c := Fin.ext hc.symm
  have hs : ∀ e : Fin 64, h * 128 + (x.val / 64 * 64 + e.val) = c.val / 64 * 64 + e.val := fun e => by omega
  unfold headForm segNorm
  rw [half_sum (fun e => yh e * yh e), Consts.sixtyfour, Consts.sixtyfourth, Ideal.div_coe (by norm_num : (64 : ℝ) ≠ 0)]
  simp only [hy, hs, hx]

open Cert.Kernel4Ideal Cert.Kernel4Ideal.Gen

/-- The projection, entry by entry. -/
theorem proj_at (x : Vec Ideal S512x1024 .f32) (g : Vec Ideal S1x1024 .f32) (w : Vec Ideal S1024x3072 .bf16)
    (r : Fin 512) (c : Fin 3072) :
    k0_pay1 (F := Ideal) x g w (ix2 r c)
      = projected (fun c => x (ix2 r c)) (fun c => g (ix2 0 c)) (fun k => w (ix2 k c)) := by
  pointwise [k0_pay1, projected, normed]

end Cert.DiffPre

end
-- ==== Proof.DiffPre.Queries.lean ====
module

public import proofs.«01_k».proof.Proof.DiffPre.Head
public import Idealize.ShloMosaic.Lib.Pipeline.ValueKit

/-! The block of scaled queries a grid point stores, head by head. -/

@[expose] public section

set_option maxRecDepth 16384

noncomputable section

namespace Cert.DiffPre

open Idealize.ShloMosaic Idealize.ShloMosaic.TcCoe Idealize.SL.Sem

open Cert.Kernel4Ideal Cert.Kernel4Ideal.Gen

/-- The scaled queries of a block. -/
theorem qs_at (x0 : Vec Ideal S512x1024 .f32) (x1 : Vec Ideal S1x1024 .f32) (x2 : Vec Ideal S1024x3072 .bf16) (x3 x4 : Vec Ideal S1x1024 .f32) (r : Fin 512) (c : Fin 1024) :
    out0_5 (F := Ideal) x0 x1 x2 x3 x4 (ix2 r c)
      = segNorm (fun j => projected (fun c => x0 (ix2 r c)) (fun c => x1 (ix2 0 c)) (fun k => x2 (ix2 k ⟨j.val, by omega⟩)))
          (x3 (ix2 0 c)) c * Ideal.ofBits .f32 0x3E38AA3B#32 := by
  unfold_out out0_5
  canon_tiles y h
  case piece0 =>
    idx_vars y
    obtain rfl : r = y0 := Fin.ext h0
    refine Eq.trans ?_ (congrArg (· * Ideal.ofBits .f32 0x3E38AA3B#32) (head_eq (fun i => projected (fun c => x0 (ix2 r c)) (fun c => x1 (ix2 0 c)) (fun k => x2 (ix2 k ⟨896 + i.val, by omega⟩)))
      _ (x3 (ix2 0 c)) 7 y1 c (by omega) fun i => by pointwise))
    obtain rfl : c = ⟨896 + y1.val, lt_of_lt_of_le (Nat.add_lt_add_left y1.isLt 896) (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece1 =>
    idx_vars y
    obtain rfl : r = y0 := Fin.ext h0
    refine Eq.trans ?_ (congrArg (· * Ideal.ofBits .f32 0x3E38AA3B#32) (head_eq (fun i => projected (fun c => x0 (ix2 r c)) (fun c => x1 (ix2 0 c)) (fun k => x2 (ix2 k ⟨768 + i.val, by omega⟩)))
      _ (x3 (ix2 0 c)) 6 y1 c (by omega) fun i => by pointwise))
    obtain rfl : c = ⟨768 + y1.val, lt_of_lt_of_le (Nat.add_lt_add_left y1.isLt 768) (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece2 =>
    idx_vars y
    obtain rfl : r = y0 := Fin.ext h0
    refine Eq.trans ?_ (congrArg (· * Ideal.ofBits .f32 0x3E38AA3B#32) (head_eq (fun i => projected (fun c => x0 (ix2 r c)) (fun c => x1 (ix2 0 c)) (fun k => x2 (ix2 k ⟨640 + i.val, by omega⟩)))
      _ (x3 (ix2 0 c)) 5 y1 c (by omega) fun i => by pointwise))
    obtain rfl : c = ⟨640 + y1.val, lt_of_lt_of_le (Nat.add_lt_add_left y1.isLt 640) (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece3 =>
    idx_vars y
    obtain rfl : r = y0 := Fin.ext h0
    refine Eq.trans ?_ (congrArg (· * Ideal.ofBits .f32 0x3E38AA3B#32) (head_eq (fun i => projected (fun c => x0 (ix2 r c)) (fun c => x1 (ix2 0 c)) (fun k => x2 (ix2 k ⟨512 + i.val, by omega⟩)))
      _ (x3 (ix2 0 c)) 4 y1 c (by omega) fun i => by pointwise))
    obtain rfl : c = ⟨512 + y1.val, lt_of_lt_of_le (Nat.add_lt_add_left y1.isLt 512) (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece4 =>
    idx_vars y
    obtain rfl : r = y0 := Fin.ext h0
    refine Eq.trans ?_ (congrArg (· * Ideal.ofBits .f32 0x3E38AA3B#32) (head_eq (fun i => projected (fun c => x0 (ix2 r c)) (fun c => x1 (ix2 0 c)) (fun k => x2 (ix2 k ⟨384 + i.val, by omega⟩)))
      _ (x3 (ix2 0 c)) 3 y1 c (by omega) fun i => by pointwise))
    obtain rfl : c = ⟨384 + y1.val, lt_of_lt_of_le (Nat.add_lt_add_left y1.isLt 384) (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece5 =>
    idx_vars y
    obtain rfl : r = y0 := Fin.ext h0
    refine Eq.trans ?_ (congrArg (· * Ideal.ofBits .f32 0x3E38AA3B#32) (head_eq (fun i => projected (fun c => x0 (ix2 r c)) (fun c => x1 (ix2 0 c)) (fun k => x2 (ix2 k ⟨256 + i.val, by omega⟩)))
      _ (x3 (ix2 0 c)) 2 y1 c (by omega) fun i => by pointwise))
    obtain rfl : c = ⟨256 + y1.val, lt_of_lt_of_le (Nat.add_lt_add_left y1.isLt 256) (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece6 =>
    idx_vars y
    obtain rfl : r = y0 := Fin.ext h0
    refine Eq.trans ?_ (congrArg (· * Ideal.ofBits .f32 0x3E38AA3B#32) (head_eq (fun i => projected (fun c => x0 (ix2 r c)) (fun c => x1 (ix2 0 c)) (fun k => x2 (ix2 k ⟨128 + i.val, by omega⟩)))
      _ (x3 (ix2 0 c)) 1 y1 c (by omega) fun i => by pointwise))
    obtain rfl : c = ⟨128 + y1.val, lt_of_lt_of_le (Nat.add_lt_add_left y1.isLt 128) (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece7 =>
    idx_vars y
    obtain rfl : r = y0 := Fin.ext h0
    refine Eq.trans ?_ (congrArg (· * Ideal.ofBits .f32 0x3E38AA3B#32) (head_eq (fun i => projected (fun c => x0 (ix2 r c)) (fun c => x1 (ix2 0 c)) (fun k => x2 (ix2 k ⟨i.val, by omega⟩)))
      _ (x3 (ix2 0 c)) 0 y1 c (by omega) fun i => by pointwise))
    obtain rfl : c = ⟨y1.val, lt_of_lt_of_le y1.isLt (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]

end Cert.DiffPre

end
-- ==== Proof.DiffPre.Keys.lean ====
module

public import proofs.«01_k».proof.Proof.DiffPre.Head
public import Idealize.ShloMosaic.Lib.Pipeline.ValueKit

/-! The block of keys a grid point stores, head by head. -/

@[expose] public section

set_option maxRecDepth 16384

noncomputable section

namespace Cert.DiffPre

open Idealize.ShloMosaic Idealize.ShloMosaic.TcCoe Idealize.SL.Sem

open Cert.Kernel4Ideal Cert.Kernel4Ideal.Gen

/-- The keys of a block. -/
theorem k_at (x0 : Vec Ideal S512x1024 .f32) (x1 : Vec Ideal S1x1024 .f32) (x2 : Vec Ideal S1024x3072 .bf16) (x3 x4 : Vec Ideal S1x1024 .f32) (r : Fin 512) (c : Fin 1024) :
    out0_6 (F := Ideal) x0 x1 x2 x3 x4 (ix2 r c)
      = segNorm (fun j => projected (fun c => x0 (ix2 r c)) (fun c => x1 (ix2 0 c)) (fun k => x2 (ix2 k ⟨1024 + j.val, by omega⟩)))
          (x4 (ix2 0 c)) c := by
  unfold_out out0_6
  canon_tiles y h
  case piece0 =>
    idx_vars y
    obtain rfl : r = y0 := Fin.ext h0
    refine Eq.trans ?_ ((head_eq (fun i => projected (fun c => x0 (ix2 r c)) (fun c => x1 (ix2 0 c)) (fun k => x2 (ix2 k ⟨1920 + i.val, by omega⟩)))
      _ (x4 (ix2 0 c)) 7 y1 c (by omega) fun i => by pointwise; simp only [← Nat.add_assoc, Nat.reduceAdd]))
    obtain rfl : c = ⟨896 + y1.val, lt_of_lt_of_le (Nat.add_lt_add_left y1.isLt 896) (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece1 =>
    idx_vars y
    obtain rfl : r = y0 := Fin.ext h0
    refine Eq.trans ?_ ((head_eq (fun i => projected (fun c => x0 (ix2 r c)) (fun c => x1 (ix2 0 c)) (fun k => x2 (ix2 k ⟨1792 + i.val, by omega⟩)))
      _ (x4 (ix2 0 c)) 6 y1 c (by omega) fun i => by pointwise; simp only [← Nat.add_assoc, Nat.reduceAdd]))
    obtain rfl : c = ⟨768 + y1.val, lt_of_lt_of_le (Nat.add_lt_add_left y1.isLt 768) (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece2 =>
    idx_vars y
    obtain rfl : r = y0 := Fin.ext h0
    refine Eq.trans ?_ ((head_eq (fun i => projected (fun c => x0 (ix2 r c)) (fun c => x1 (ix2 0 c)) (fun k => x2 (ix2 k ⟨1664 + i.val, by omega⟩)))
      _ (x4 (ix2 0 c)) 5 y1 c (by omega) fun i => by pointwise; simp only [← Nat.add_assoc, Nat.reduceAdd]))
    obtain rfl : c = ⟨640 + y1.val, lt_of_lt_of_le (Nat.add_lt_add_left y1.isLt 640) (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece3 =>
    idx_vars y
    obtain rfl : r = y0 := Fin.ext h0
    refine Eq.trans ?_ ((head_eq (fun i => projected (fun c => x0 (ix2 r c)) (fun c => x1 (ix2 0 c)) (fun k => x2 (ix2 k ⟨1536 + i.val, by omega⟩)))
      _ (x4 (ix2 0 c)) 4 y1 c (by omega) fun i => by pointwise; simp only [← Nat.add_assoc, Nat.reduceAdd]))
    obtain rfl : c = ⟨512 + y1.val, lt_of_lt_of_le (Nat.add_lt_add_left y1.isLt 512) (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece4 =>
    idx_vars y
    obtain rfl : r = y0 := Fin.ext h0
    refine Eq.trans ?_ ((head_eq (fun i => projected (fun c => x0 (ix2 r c)) (fun c => x1 (ix2 0 c)) (fun k => x2 (ix2 k ⟨1408 + i.val, by omega⟩)))
      _ (x4 (ix2 0 c)) 3 y1 c (by omega) fun i => by pointwise; simp only [← Nat.add_assoc, Nat.reduceAdd]))
    obtain rfl : c = ⟨384 + y1.val, lt_of_lt_of_le (Nat.add_lt_add_left y1.isLt 384) (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece5 =>
    idx_vars y
    obtain rfl : r = y0 := Fin.ext h0
    refine Eq.trans ?_ ((head_eq (fun i => projected (fun c => x0 (ix2 r c)) (fun c => x1 (ix2 0 c)) (fun k => x2 (ix2 k ⟨1280 + i.val, by omega⟩)))
      _ (x4 (ix2 0 c)) 2 y1 c (by omega) fun i => by pointwise; simp only [← Nat.add_assoc, Nat.reduceAdd]))
    obtain rfl : c = ⟨256 + y1.val, lt_of_lt_of_le (Nat.add_lt_add_left y1.isLt 256) (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece6 =>
    idx_vars y
    obtain rfl : r = y0 := Fin.ext h0
    refine Eq.trans ?_ ((head_eq (fun i => projected (fun c => x0 (ix2 r c)) (fun c => x1 (ix2 0 c)) (fun k => x2 (ix2 k ⟨1152 + i.val, by omega⟩)))
      _ (x4 (ix2 0 c)) 1 y1 c (by omega) fun i => by pointwise; simp only [← Nat.add_assoc, Nat.reduceAdd]))
    obtain rfl : c = ⟨128 + y1.val, lt_of_lt_of_le (Nat.add_lt_add_left y1.isLt 128) (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece7 =>
    idx_vars y
    obtain rfl : r = y0 := Fin.ext h0
    refine Eq.trans ?_ ((head_eq (fun i => projected (fun c => x0 (ix2 r c)) (fun c => x1 (ix2 0 c)) (fun k => x2 (ix2 k ⟨1024 + i.val, by omega⟩)))
      _ (x4 (ix2 0 c)) 0 y1 c (by omega) fun i => by pointwise))
    obtain rfl : c = ⟨y1.val, lt_of_lt_of_le y1.isLt (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]

end Cert.DiffPre

end
-- ==== Proof.DiffPre.Rounded.lean ====
module

public import proofs.«01_k».proof.Proof.DiffPre.Head
public import Idealize.ShloMosaic.Lib.Pipeline.ValueKit

/-! The block of rounded keys a grid point stores, head by head. -/

@[expose] public section

set_option maxRecDepth 16384

noncomputable section

namespace Cert.DiffPre

open Idealize.ShloMosaic Idealize.ShloMosaic.TcCoe Idealize.SL.Sem

open Cert.Kernel4Ideal Cert.Kernel4Ideal.Gen

/-- The rounded keys of a block. -/
theorem kb_at (x0 : Vec Ideal S512x1024 .f32) (x1 : Vec Ideal S1x1024 .f32) (x2 : Vec Ideal S1024x3072 .bf16) (x3 x4 : Vec Ideal S1x1024 .f32) (r : Fin 512) (c : Fin 1024) :
    out0_8 (F := Ideal) x0 x1 x2 x3 x4 (ix2 r c)
      = segNorm (fun j => projected (fun c => x0 (ix2 r c)) (fun c => x1 (ix2 0 c)) (fun k => x2 (ix2 k ⟨1024 + j.val, by omega⟩)))
          (x4 (ix2 0 c)) c := by
  unfold_out out0_8
  canon_tiles y h
  case piece0 =>
    idx_vars y
    obtain rfl : r = y0 := Fin.ext h0
    refine Eq.trans ?_ ((head_eq (fun i => projected (fun c => x0 (ix2 r c)) (fun c => x1 (ix2 0 c)) (fun k => x2 (ix2 k ⟨1920 + i.val, by omega⟩)))
      _ (x4 (ix2 0 c)) 7 y1 c (by omega) fun i => by pointwise; simp only [← Nat.add_assoc, Nat.reduceAdd]))
    obtain rfl : c = ⟨896 + y1.val, lt_of_lt_of_le (Nat.add_lt_add_left y1.isLt 896) (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece1 =>
    idx_vars y
    obtain rfl : r = y0 := Fin.ext h0
    refine Eq.trans ?_ ((head_eq (fun i => projected (fun c => x0 (ix2 r c)) (fun c => x1 (ix2 0 c)) (fun k => x2 (ix2 k ⟨1792 + i.val, by omega⟩)))
      _ (x4 (ix2 0 c)) 6 y1 c (by omega) fun i => by pointwise; simp only [← Nat.add_assoc, Nat.reduceAdd]))
    obtain rfl : c = ⟨768 + y1.val, lt_of_lt_of_le (Nat.add_lt_add_left y1.isLt 768) (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece2 =>
    idx_vars y
    obtain rfl : r = y0 := Fin.ext h0
    refine Eq.trans ?_ ((head_eq (fun i => projected (fun c => x0 (ix2 r c)) (fun c => x1 (ix2 0 c)) (fun k => x2 (ix2 k ⟨1664 + i.val, by omega⟩)))
      _ (x4 (ix2 0 c)) 5 y1 c (by omega) fun i => by pointwise; simp only [← Nat.add_assoc, Nat.reduceAdd]))
    obtain rfl : c = ⟨640 + y1.val, lt_of_lt_of_le (Nat.add_lt_add_left y1.isLt 640) (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece3 =>
    idx_vars y
    obtain rfl : r = y0 := Fin.ext h0
    refine Eq.trans ?_ ((head_eq (fun i => projected (fun c => x0 (ix2 r c)) (fun c => x1 (ix2 0 c)) (fun k => x2 (ix2 k ⟨1536 + i.val, by omega⟩)))
      _ (x4 (ix2 0 c)) 4 y1 c (by omega) fun i => by pointwise; simp only [← Nat.add_assoc, Nat.reduceAdd]))
    obtain rfl : c = ⟨512 + y1.val, lt_of_lt_of_le (Nat.add_lt_add_left y1.isLt 512) (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece4 =>
    idx_vars y
    obtain rfl : r = y0 := Fin.ext h0
    refine Eq.trans ?_ ((head_eq (fun i => projected (fun c => x0 (ix2 r c)) (fun c => x1 (ix2 0 c)) (fun k => x2 (ix2 k ⟨1408 + i.val, by omega⟩)))
      _ (x4 (ix2 0 c)) 3 y1 c (by omega) fun i => by pointwise; simp only [← Nat.add_assoc, Nat.reduceAdd]))
    obtain rfl : c = ⟨384 + y1.val, lt_of_lt_of_le (Nat.add_lt_add_left y1.isLt 384) (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece5 =>
    idx_vars y
    obtain rfl : r = y0 := Fin.ext h0
    refine Eq.trans ?_ ((head_eq (fun i => projected (fun c => x0 (ix2 r c)) (fun c => x1 (ix2 0 c)) (fun k => x2 (ix2 k ⟨1280 + i.val, by omega⟩)))
      _ (x4 (ix2 0 c)) 2 y1 c (by omega) fun i => by pointwise; simp only [← Nat.add_assoc, Nat.reduceAdd]))
    obtain rfl : c = ⟨256 + y1.val, lt_of_lt_of_le (Nat.add_lt_add_left y1.isLt 256) (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece6 =>
    idx_vars y
    obtain rfl : r = y0 := Fin.ext h0
    refine Eq.trans ?_ ((head_eq (fun i => projected (fun c => x0 (ix2 r c)) (fun c => x1 (ix2 0 c)) (fun k => x2 (ix2 k ⟨1152 + i.val, by omega⟩)))
      _ (x4 (ix2 0 c)) 1 y1 c (by omega) fun i => by pointwise; simp only [← Nat.add_assoc, Nat.reduceAdd]))
    obtain rfl : c = ⟨128 + y1.val, lt_of_lt_of_le (Nat.add_lt_add_left y1.isLt 128) (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece7 =>
    idx_vars y
    obtain rfl : r = y0 := Fin.ext h0
    refine Eq.trans ?_ ((head_eq (fun i => projected (fun c => x0 (ix2 r c)) (fun c => x1 (ix2 0 c)) (fun k => x2 (ix2 k ⟨1024 + i.val, by omega⟩)))
      _ (x4 (ix2 0 c)) 0 y1 c (by omega) fun i => by pointwise))
    obtain rfl : c = ⟨y1.val, lt_of_lt_of_le y1.isLt (by decide)⟩ := Fin.ext (by simpa using h1)
    pointwise [headForm, proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]

end Cert.DiffPre

end
-- ==== Proof.DiffPre.Values.lean ====
module

public import proofs.«01_k».proof.Proof.DiffPre.Head
public import Idealize.ShloMosaic.Lib.Pipeline.ValueKit

/-! The blocks of values a grid point stores, as rows and transposed, head by head. -/

@[expose] public section

set_option maxRecDepth 16384

noncomputable section

namespace Cert.DiffPre

open Idealize.ShloMosaic Idealize.ShloMosaic.TcCoe Idealize.SL.Sem

open Cert.Kernel4Ideal Cert.Kernel4Ideal.Gen

/-- The values of a block. -/
theorem v_at (x0 : Vec Ideal S512x1024 .f32) (x1 : Vec Ideal S1x1024 .f32) (x2 : Vec Ideal S1024x3072 .bf16) (x3 x4 : Vec Ideal S1x1024 .f32) (r : Fin 512) (c : Fin 1024) :
    out0_7 (F := Ideal) x0 x1 x2 x3 x4 (ix2 r c)
      = projected (fun c => x0 (ix2 r c)) (fun c => x1 (ix2 0 c)) (fun k => x2 (ix2 k ⟨2048 + c.val, by omega⟩)) := by
  unfold_out out0_7
  canon_tiles y h
  case piece0 =>
    idx_vars y
    obtain rfl : r = y0 := Fin.ext h0
    obtain rfl : c = ⟨896 + y1.val, lt_of_lt_of_le (Nat.add_lt_add_left y1.isLt 896) (by decide)⟩ := Fin.ext (by simpa using h1)
    pointwise [proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
    simp only [← Nat.add_assoc, Nat.reduceAdd]
  case piece1 =>
    idx_vars y
    obtain rfl : r = y0 := Fin.ext h0
    obtain rfl : c = ⟨768 + y1.val, lt_of_lt_of_le (Nat.add_lt_add_left y1.isLt 768) (by decide)⟩ := Fin.ext (by simpa using h1)
    pointwise [proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
    simp only [← Nat.add_assoc, Nat.reduceAdd]
  case piece2 =>
    idx_vars y
    obtain rfl : r = y0 := Fin.ext h0
    obtain rfl : c = ⟨640 + y1.val, lt_of_lt_of_le (Nat.add_lt_add_left y1.isLt 640) (by decide)⟩ := Fin.ext (by simpa using h1)
    pointwise [proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
    simp only [← Nat.add_assoc, Nat.reduceAdd]
  case piece3 =>
    idx_vars y
    obtain rfl : r = y0 := Fin.ext h0
    obtain rfl : c = ⟨512 + y1.val, lt_of_lt_of_le (Nat.add_lt_add_left y1.isLt 512) (by decide)⟩ := Fin.ext (by simpa using h1)
    pointwise [proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
    simp only [← Nat.add_assoc, Nat.reduceAdd]
  case piece4 =>
    idx_vars y
    obtain rfl : r = y0 := Fin.ext h0
    obtain rfl : c = ⟨384 + y1.val, lt_of_lt_of_le (Nat.add_lt_add_left y1.isLt 384) (by decide)⟩ := Fin.ext (by simpa using h1)
    pointwise [proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
    simp only [← Nat.add_assoc, Nat.reduceAdd]
  case piece5 =>
    idx_vars y
    obtain rfl : r = y0 := Fin.ext h0
    obtain rfl : c = ⟨256 + y1.val, lt_of_lt_of_le (Nat.add_lt_add_left y1.isLt 256) (by decide)⟩ := Fin.ext (by simpa using h1)
    pointwise [proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
    simp only [← Nat.add_assoc, Nat.reduceAdd]
  case piece6 =>
    idx_vars y
    obtain rfl : r = y0 := Fin.ext h0
    obtain rfl : c = ⟨128 + y1.val, lt_of_lt_of_le (Nat.add_lt_add_left y1.isLt 128) (by decide)⟩ := Fin.ext (by simpa using h1)
    pointwise [proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
    simp only [← Nat.add_assoc, Nat.reduceAdd]
  case piece7 =>
    idx_vars y
    obtain rfl : r = y0 := Fin.ext h0
    obtain rfl : c = ⟨y1.val, lt_of_lt_of_le y1.isLt (by decide)⟩ := Fin.ext (by simpa using h1)
    pointwise [proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]

/-- The transposed values of a block. -/
theorem vt_at (x0 : Vec Ideal S512x1024 .f32) (x1 : Vec Ideal S1x1024 .f32) (x2 : Vec Ideal S1024x3072 .bf16) (x3 x4 : Vec Ideal S1x1024 .f32) (a : Fin 1) (h' : Fin 8) (u : Fin 1) (c : Fin 128) (r : Fin 512) :
    out0_9 (F := Ideal) x0 x1 x2 x3 x4 (ix5 a h' u c r)
      = projected (fun c => x0 (ix2 ⟨u.val * 512 + r.val, by omega⟩ c)) (fun c => x1 (ix2 0 c)) (fun k => x2 (ix2 k ⟨2048 + h'.val * 128 + c.val, by omega⟩)) := by
  unfold_out out0_9
  canon_tiles y h
  case piece0 =>
    idx_vars y
    obtain rfl : r = y4 := Fin.ext h4
    obtain rfl : c = y3 := Fin.ext h3
    obtain rfl : u = ⟨0, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨7, by decide⟩ := Fin.ext (by simp only [Fin.val_mk]; omega)
    pointwise [proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece1 =>
    idx_vars y
    obtain rfl : r = y4 := Fin.ext h4
    obtain rfl : c = y3 := Fin.ext h3
    obtain rfl : u = ⟨0, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨6, by decide⟩ := Fin.ext (by simp only [Fin.val_mk]; omega)
    pointwise [proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece2 =>
    idx_vars y
    obtain rfl : r = y4 := Fin.ext h4
    obtain rfl : c = y3 := Fin.ext h3
    obtain rfl : u = ⟨0, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨5, by decide⟩ := Fin.ext (by simp only [Fin.val_mk]; omega)
    pointwise [proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece3 =>
    idx_vars y
    obtain rfl : r = y4 := Fin.ext h4
    obtain rfl : c = y3 := Fin.ext h3
    obtain rfl : u = ⟨0, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨4, by decide⟩ := Fin.ext (by simp only [Fin.val_mk]; omega)
    pointwise [proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece4 =>
    idx_vars y
    obtain rfl : r = y4 := Fin.ext h4
    obtain rfl : c = y3 := Fin.ext h3
    obtain rfl : u = ⟨0, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨3, by decide⟩ := Fin.ext (by simp only [Fin.val_mk]; omega)
    pointwise [proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece5 =>
    idx_vars y
    obtain rfl : r = y4 := Fin.ext h4
    obtain rfl : c = y3 := Fin.ext h3
    obtain rfl : u = ⟨0, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨2, by decide⟩ := Fin.ext (by simp only [Fin.val_mk]; omega)
    pointwise [proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece6 =>
    idx_vars y
    obtain rfl : r = y4 := Fin.ext h4
    obtain rfl : c = y3 := Fin.ext h3
    obtain rfl : u = ⟨0, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨1, by decide⟩ := Fin.ext (by simp only [Fin.val_mk]; omega)
    pointwise [proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]
  case piece7 =>
    idx_vars y
    obtain rfl : r = y4 := Fin.ext h4
    obtain rfl : c = y3 := Fin.ext h3
    obtain rfl : u = ⟨0, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨0, by decide⟩ := Fin.ext (by simp only [Fin.val_mk]; omega)
    pointwise [proj_at, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86]

end Cert.DiffPre

end
-- ==== Proof.DiffPre.Operands.lean ====
module

public import proofs.«01_k».proof.Proof.Gen.Kernel4Ideal.Value
public import proofs.«01_k».proof.Proof.DiffPre.Ref
public import Idealize.ShloMosaic.Lib.Pipeline.ValueKit
public import Idealize.ShloMosaic.Lib.StableHlo.Run

/-! What the launch finds in its operands: the scale of the residual stream, the projection weights, and the scales of
    the queries and keys repeated over the heads. -/

@[expose] public section

set_option maxRecDepth 16384

noncomputable section

namespace Cert.DiffPre

open Idealize.ShloMosaic Idealize.ShloMosaic.TcCoe Idealize.SL.Sem

open Cert.Kernel4Ideal Cert.Kernel4Ideal.Gen

variable (m : (ℓ : Loc nD τ sig) → Buf (Elt Ideal) ℓ)

/-- The scale of the residual stream as one row. -/
theorem V_scale (c : Dev nD) : V m c main_v0 = shapeCast S1x1024 (m ((c : Thread nD τ).loc main_arg1)) shapeCasts_S1024_S1x1024 := by
  simp only [V]
  after_results_simp
  rfl

/-- The projection weights. -/
theorem V_proj (c : Dev nD) : V m c main_v1 = (truncf (F := Ideal) .bf16 (m ((c : Thread nD τ).loc main_arg2)) bitsLt_bf16_f32 : FVec Ideal S1024x3072 .bf16) := by
  simp only [V]
  after_results_simp

/-- The queries' scale, repeated over the heads. -/
theorem V_qn (c : Dev nD) : V m c main_v5 = shapeCast S1x1024 (shapeCast S1024 (broadcastInDim S16x64 ![0, 1] bcast_S1x64_S16x64_0_1
      (shapeCast S1x64 (m ((c : Thread nD τ).loc main_arg3)) shapeCasts_S64_S1x64)) shapeCasts_S16x64_S1024) shapeCasts_S1024_S1x1024 := by
  simp only [V]
  after_results_simp
  rfl

/-- The keys' scale, repeated over the heads. -/
theorem V_kn (c : Dev nD) : V m c main_v9 = shapeCast S1x1024 (shapeCast S1024 (broadcastInDim S16x64 ![0, 1] bcast_S1x64_S16x64_0_1
      (shapeCast S1x64 (m ((c : Thread nD τ).loc main_arg4)) shapeCasts_S64_S1x64)) shapeCasts_S16x64_S1024) shapeCasts_S1024_S1x1024 := by
  simp only [V]
  after_results_simp
  rfl

/-- The scale, entry by entry. -/
theorem scale_at (c : Dev nD) (k : Fin 1024) : V m c main_v0 (ix2 0 k) = m ((c : Thread nD τ).loc main_arg1) (ix1 k) := by
  rw [V_scale]
  pointwise

/-- The projection weights, entry by entry. -/
theorem weight_at (c : Dev nD) (k : Fin 1024) (j : Fin 3072) : V m c main_v1 (ix2 k j) = m ((c : Thread nD τ).loc main_arg2) (ix2 k j) := by
  rw [V_proj]
  pointwise

/-- The queries' scale, entry by entry. -/
theorem qn_at (c : Dev nD) (k : Fin 1024) : V m c main_v5 (ix2 0 k) = m ((c : Thread nD τ).loc main_arg3) (ix1 ⟨k.val % 64, by omega⟩) := by
  rw [V_qn]
  pointwise

/-- The keys' scale, entry by entry. -/
theorem kn_at (c : Dev nD) (k : Fin 1024) : V m c main_v9 (ix2 0 k) = m ((c : Thread nD τ).loc main_arg4) (ix1 ⟨k.val % 64, by omega⟩) := by
  rw [V_kn]
  pointwise

end Cert.DiffPre

end
-- ==== Proof.DiffPre.Array.lean ====
module

public import proofs.«01_k».proof.Proof.DiffPre.Queries
public import proofs.«01_k».proof.Proof.DiffPre.Keys
public import proofs.«01_k».proof.Proof.DiffPre.Rounded
public import proofs.«01_k».proof.Proof.DiffPre.Values
public import proofs.«01_k».proof.Proof.DiffPre.Operands
public import Idealize.ShloMosaic.Lib.Pipeline.ValueKit

/-! The result arrays are the reference's terms: grid point `t` writes the block of 512 tokens from token `512 t` on. -/

@[expose] public section

set_option maxRecDepth 16384

noncomputable section

namespace Cert.DiffPre

open Idealize.ShloMosaic Idealize.ShloMosaic.TcCoe Idealize.SL.Sem

open Idealize.ShloMosaic.Pipeline (Dat)
open Cert.Kernel4Ideal Cert.Kernel4Ideal.Gen

variable (m : (ℓ : Loc nD τ sig) → Buf (Elt Ideal) ℓ)

/-- Where each window's block lies at a grid point. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0] ∧ win0_8.index t = ![t.val, 0] ∧ win0_9.index t = ![t.val / 16, 0, t.val % 16, 0, 0] :=
  (by decide +kernel : ∀ t : Fin grid0.N, _)

/-- The residual stream's block. -/
theorem blk_x (c : Dev nD) (t : Fin cfg0.N) (ht : t.val < 32) (r : Fin 512) (k : Fin 1024) :
    iblk m c 0 t (ix2 r k) = m ((c : Thread nD τ).loc main_arg0) (ix2 ⟨t.val * 512 + r, by omega⟩ k) := by
  blk_point [iblk, V, idx t]

/-- The scale is one block. -/
theorem blk_g (c : Dev nD) (t : Fin cfg0.N) (k : Fin 1024) : iblk m c 1 t (ix2 0 k) = m ((c : Thread nD τ).loc main_arg1) (ix1 k) := by
  have he : (win0_1.blk t).view.emb (ix2 0 k) = (ix2 0 k : S1x1024.Idx) := by
    blk_ext [idx t]
  exact (congrArg (V m c main_v0) he).trans (scale_at m c k)

/-- The queries' scale is one block. -/
theorem blk_q (c : Dev nD) (t : Fin cfg0.N) (k : Fin 1024) : iblk m c 3 t (ix2 0 k) = m ((c : Thread nD τ).loc main_arg3) (ix1 ⟨k.val % 64, by omega⟩) := by
  have he : (win0_3.blk t).view.emb (ix2 0 k) = (ix2 0 k : S1x1024.Idx) := by
    blk_ext [idx t]
  exact (congrArg (V m c main_v5) he).trans (qn_at m c k)

/-- The keys' scale is one block. -/
theorem blk_k (c : Dev nD) (t : Fin cfg0.N) (k : Fin 1024) : iblk m c 4 t (ix2 0 k) = m ((c : Thread nD τ).loc main_arg4) (ix1 ⟨k.val % 64, by omega⟩) := by
  have he : (win0_4.blk t).view.emb (ix2 0 k) = (ix2 0 k : S1x1024.Idx) := by
    blk_ext [idx t]
  exact (congrArg (V m c main_v9) he).trans (kn_at m c k)

/-- The projection weights are one block. -/
theorem blk_w (c : Dev nD) (t : Fin cfg0.N) (k : Fin 1024) (j : Fin 3072) : iblk m c 2 t (ix2 k j) = m ((c : Thread nD τ).loc main_arg2) (ix2 k j) := by
  have he : (win0_2.blk t).view.emb (ix2 k j) = (ix2 k j : S1024x3072.Idx) := by
    blk_ext [idx t]
  exact (congrArg (V m c main_v1) he).trans (weight_at m c k j)

/-- The scaled queries. -/
theorem qs_final (c : Dev nD) : (dats m 0 c).arrAt 5 (cfgs 0).N
    = refQs (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have ht : t.val < 32 := lt_of_lt_of_eq t.isLt N_0
  idx_vars y
  have he : ((View.whole main_v10_0).slice (win0_5.rect t)).emb (ix2 y0 y1)
      = (ix2 ⟨t.val * 512 + y0.val, by omega⟩ y1 : S16384x1024.Idx) := by
    blk_ext [idx t]
  rw [he, refQs_at]
  refine (qs_at _ _ _ _ _ y0 y1).trans (congrArg (· * Ideal.ofBits .f32 0x3E38AA3B#32) (segNorm_congr (fun j => projected_congr ?_ ?_ ?_) (blk_q m c t y1) y1))
  · intro k; exact blk_x m c t ht y0 k
  · intro k; exact blk_g m c t k
  · intro k; exact blk_w m c t k _

/-- The keys. -/
theorem k_final (c : Dev nD) : (dats m 0 c).arrAt 6 (cfgs 0).N
    = refK (m ((c : Thread nD τ).loc main_arg0)) (m ((c : Thread nD τ).loc main_arg1)) (m ((c : Thread nD τ).loc main_arg2)) (m ((c : Thread nD τ).loc main_arg4)) := by
  refine (dats m 0 c).arrAt_eq_of_covers 6 _ (by decide +kernel) fun t hf y => ?_
  blk_simp
  rw [after0_6]
  have ht : t.val < 32 := lt_of_lt_of_eq t.isLt N_0
  idx_vars y
  have he : ((View.whole main_v10_1).slice (win0_6.rect t)).emb (ix2 y0 y1)
      = (ix2 ⟨t.val * 512 + y0.val, by omega⟩ y1 : S16384x1024.Idx) := by
    blk_ext [idx t]
  rw [he, refK_at]
  refine (k_at _ _ _ _ _ y0 y1).trans (segNorm_congr (fun j => projected_congr ?_ ?_ ?_) (blk_k m c t y1) y1)
  · intro k; exact blk_x m c t ht y0 k
  · intro k; exact blk_g m c t k
  · intro k; exact blk_w m c t k _

/-- The values. -/
theorem v_final (c : Dev nD) : (dats m 0 c).arrAt 7 (cfgs 0).N
    = refV (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  have ht : t.val < 32 := lt_of_lt_of_eq t.isLt N_0
  idx_vars y
  have he : ((View.whole main_v10_2).slice (win0_7.rect t)).emb (ix2 y0 y1)
      = (ix2 ⟨t.val * 512 + y0.val, by omega⟩ y1 : S16384x1024.Idx) := by
    blk_ext [idx t]
  rw [he, refV_at]
  refine (v_at _ _ _ _ _ y0 y1).trans (projected_congr ?_ ?_ ?_)
  · intro k; exact blk_x m c t ht y0 k
  · intro k; exact blk_g m c t k
  · intro k; exact blk_w m c t k _

/-- The rounded keys. -/
theorem kb_final (c : Dev nD) : (dats m 0 c).arrAt 8 (cfgs 0).N
    = refKb (m ((c : Thread nD τ).loc main_arg0)) (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]
  have ht : t.val < 32 := lt_of_lt_of_eq t.isLt N_0
  idx_vars y
  have he : ((View.whole main_v10_3).slice (win0_8.rect t)).emb (ix2 y0 y1)
      = (ix2 ⟨t.val * 512 + y0.val, by omega⟩ y1 : S16384x1024.Idx) := by
    blk_ext [idx t]
  rw [he, refKb_at]
  refine (kb_at _ _ _ _ _ y0 y1).trans (segNorm_congr (fun j => projected_congr ?_ ?_ ?_) (blk_k m c t y1) y1)
  · intro k; exact blk_x m c t ht y0 k
  · intro k; exact blk_g m c t k
  · intro k; exact blk_w m c t k _

/-- The transposed values. -/
theorem vt_final (c : Dev nD) : (dats m 0 c).arrAt 9 (cfgs 0).N
    = refVt (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  have ht : t.val < 32 := lt_of_lt_of_eq t.isLt N_0
  idx_vars y
  have he : ((View.whole main_v10_4).slice (win0_9.rect t)).emb (ix5 y0 y1 y2 y3 y4)
      = (ix5 ⟨t.val / 16, by omega⟩ y1 ⟨t.val % 16 * 1 + y2.val, by omega⟩ y3 y4 : S2x8x16x128x512.Idx) := by
    blk_ext [idx t]
  rw [he, refVt_at, refV_at]
  have hr : t.val / 16 * 8192 + (t.val % 16 * 1 + y2.val) * 512 + y4.val = t.val * 512 + (y2.val * 512 + y4.val) := by omega
  refine (vt_at _ _ _ _ _ y0 y1 y2 y3 y4).trans (projected_congr ?_ ?_ ?_)
  · intro k
    refine (blk_x m c t ht _ k).trans ?_
    simp only [hr]
  · intro k; exact blk_g m c t k
  · intro k
    refine (blk_w m c t k _).trans ?_
    simp only [Nat.add_assoc]

end Cert.DiffPre

end
-- ==== Proof.DiffPre.Claims.lean ====
module

public import proofs.«01_k».proof.Defs
public import proofs.«01_k».proof.Proof.Gen.Kernel4.Frame
public import proofs.«01_k».proof.Proof.DiffPre.Array
public import Idealize.ShloMosaic.Lib.Claim
public import Idealize.ShloMosaic.Lib.Quiescent

/-! The claims about what enters the differential attention: the runs of the two kernel programs and of the reference, and the equality of the
    results. -/

@[expose] public section

set_option maxRecDepth 16384

noncomputable section

namespace Cert.DiffPre

open Idealize.ShloMosaic Idealize.SL.Sem

/-- The kernel as printed terminates and leaves its arguments as they were. -/
theorem kernel_frame : Cert.quiescent_Kernel4 := fun m ρ _ => Cert.Kernel4.Gen.frame m ρ

/-- The same for the kernel over the extended reals. -/
theorem kernelIdeal_frame : Cert.quiescent_Kernel4Ideal := fun m ρ _ => Cert.Kernel4Ideal.Gen.frame m ρ

set_option maxHeartbeats 1600000 in
/-- The same for the reference over the extended reals. -/
theorem referenceIdeal_frame : Cert.quiescent_Reference4Ideal := by
  intro m g _
  hlo_run
  · simp only [and_self, implies_true]
  · exact sem_eq_zero_of_no_sems (sig := Cert.Reference4Ideal.sig) (by decide) _

/-- The idealised kernel is the printed one. -/
theorem preserves : Cert.preserves_Kernel4_Kernel4Ideal := trivial

set_option maxHeartbeats 1600000 in
/-- Over the extended reals the kernel's results are the reference's. -/
theorem algebraic : Cert.algebraic_Kernel4Ideal_Reference4Ideal := by
  pair_intro
  · run_from Cert.Kernel4Ideal.Gen.run_main m g
    all_goals first | exact Cert.Kernel4Ideal.Gen.V_main_arg0 m c | exact Cert.Kernel4Ideal.Gen.V_main_arg1 m c | exact Cert.Kernel4Ideal.Gen.V_main_arg2 m c | exact Cert.Kernel4Ideal.Gen.V_main_arg3 m c | exact Cert.Kernel4Ideal.Gen.V_main_arg4 m c
  · hlo_run
    · exact (qs_final m c).symm
    · exact (k_final m c).symm
    · exact (v_final m c).symm
    · exact (kb_final m c).symm
    · exact (vt_final m c).symm

end Cert.DiffPre

end
-- ==== Proof.MobaPre.Ref.lean ====
module

public import proofs.«01_k».proof.Proof.Gen.Reference5Ideal.Run
public import proofs.«01_k».proof.Proof.Consts

/-! The mathematics of what enters the block attention, whose heads of 128 lanes are normalised one by one: the normalised residual stream, its projection, and
    the normalisation of the heads, entry by entry. -/

@[expose] public section

set_option maxRecDepth 16384

noncomputable section

namespace Cert.MobaPre

open Idealize.ShloMosaic Idealize.ShloMosaic.TcCoe Idealize.SL.Sem

/-- Column `c` of a row normalised to unit mean square and scaled by `g`. -/
def normed (z g : Fin 1024 → EReal) (c : Fin 1024) : EReal :=
  z c * Ideal.rsqrt (Ideal.div (∑ e, z e * z e) (Ideal.ofBits .f32 0x44800000#32) + Ideal.ofBits .f32 0x358637BD#32) * g c

/-- One column of the projection of a normalised row. -/
def projected (z g w : Fin 1024 → EReal) : EReal := ∑ k, normed z g k * w k

/-- Lane `c` of a row, normalised within its segment of 128 lanes and scaled by `s`. -/
def segNorm (y : Fin 1024 → EReal) (s : EReal) (c : Fin 1024) : EReal :=
  y c * Ideal.rsqrt (Ideal.div (∑ e : Fin 128, y ⟨c.val / 128 * 128 + e.val, by omega⟩ * y ⟨c.val / 128 * 128 + e.val, by omega⟩)
    (Ideal.ofBits .f32 0x43000000#32) + Ideal.ofBits .f32 0x358637BD#32) * s

/-- A projected column depends only on the entries of its rows. -/
theorem projected_congr {z z' g g' w w' : Fin 1024 → EReal} (hz : ∀ k, z k = z' k) (hg : ∀ k, g k = g' k)
    (hw : ∀ k, w k = w' k) : projected z g w = projected z' g' w' := by
  obtain rfl := funext hz
  obtain rfl := funext hg
  obtain rfl := funext hw
  rfl

/-- A normalised lane depends only on the entries of its row and its scale. -/
theorem segNorm_congr {y y' : Fin 1024 → EReal} {s s' : EReal} (hy : ∀ k, y k = y' k) (hs : s = s') (c : Fin 1024) :
    segNorm y s c = segNorm y' s' c := by
  obtain rfl := funext hy
  rw [hs]

open Cert.Reference5Ideal Cert.Reference5Ideal.Gen

/-- The reference's normalised residual stream. -/
def refNormed (Z : FVec Ideal S16384x1024 .f32) (G : FVec Ideal S1024 .f32) : FVec Ideal S16384x1024 .f32 :=
  mulf (mulf Z (broadcastInDim S16384x1024 ![0, 1] bcast_S16384x1_S16384x1024_0_1
      (Host.rsqrt (addf (Host.divf (broadcastInDim S16384x1 ![0] bcast_S16384_S16384x1_0
          (Host.reduceAdd (mulf Z Z) (constant S_ .f32 0x00000000#32) reducesTo_S16384x1024_S16384_d1 h_S_))
          (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1
      (broadcastInDim S1x1024 ![1] bcast_S1024_S1x1024_1 G))

/-- The reference's projection. -/
def refProj (Z : FVec Ideal S16384x1024 .f32) (G : FVec Ideal S1024 .f32) (W : FVec Ideal S1024x3072 .f32) :
    FVec Ideal S16384x3072 .f32 :=
  Host.dotGeneral dot_S16384x1024_S1024x3072_S16384x3072_1_0_0_1_n_n none (refNormed Z G) W

/-- The reference's normalisation of the heads. -/
def refSeg (Q : FVec Ideal S16384x1024 .f32) (N : FVec Ideal S128 .f32) : FVec Ideal S16384x1024 .f32 :=
  shapeCast S16384x1024 (mulf (mulf (shapeCast S16384x8x128 Q shapeCasts_S16384x1024_S16384x8x128) (broadcastInDim S16384x8x128 ![0, 1, 2] bcast_S16384x8x1_S16384x8x128_0_1_2
      (Host.rsqrt (addf (Host.divf (broadcastInDim S16384x8x1 ![0, 1] bcast_S16384x8_S16384x8x1_0_1
          (Host.reduceAdd (mulf (shapeCast S16384x8x128 Q shapeCasts_S16384x1024_S16384x8x128) (shapeCast S16384x8x128 Q shapeCasts_S16384x1024_S16384x8x128))
            (constant S_ .f32 0x00000000#32) reducesTo_S16384x8x128_S16384x8_d2 h_S_))
          (broadcastInDim S16384x8x1 ![] bcast_S_S16384x8x1 (constant S_ .f32 0x43000000#32)))
        (broadcastInDim S16384x8x1 ![] bcast_S_S16384x8x1 (constant S_ .f32 0x358637BD#32))))))
    (broadcastInDim S16384x8x128 ![0, 1, 2] bcast_S1x1x128_S16384x8x128_0_1_2
      (broadcastInDim S1x1x128 ![2] bcast_S128_S1x1x128_2 N))) shapeCasts_S16384x8x128_S16384x1024

/-- The reference's queries before their scale. -/
def refQ (Z : FVec Ideal S16384x1024 .f32) (G : FVec Ideal S1024 .f32) (W : FVec Ideal S1024x3072 .f32) (N : FVec Ideal S128 .f32) :
    FVec Ideal S16384x1024 .f32 :=
  refSeg (extractStridedSlice S16384x1024 ![0, 0] (refProj Z G W) slices_S16384x3072_S16384x1024_0_0) N

/-- The reference's queries, scaled and rounded. -/
def refQs (Z : FVec Ideal S16384x1024 .f32) (G : FVec Ideal S1024 .f32) (W : FVec Ideal S1024x3072 .f32) (N : FVec Ideal S128 .f32) :
    FVec Ideal S16384x1024 .bf16 :=
  truncf .bf16 (mulf (refQ Z G W N) (broadcastInDim S16384x1024 ![] bcast_S_S16384x1024 (constant S_ .f32 0x3E0293EE#32))) bitsLt_bf16_f32

/-- The reference's keys. -/
def refK (Z : FVec Ideal S16384x1024 .f32) (G : FVec Ideal S1024 .f32) (W : FVec Ideal S1024x3072 .f32) (N : FVec Ideal S128 .f32) :
    FVec Ideal S16384x1024 .f32 :=
  refSeg (extractStridedSlice S16384x1024 ![0, 1024] (refProj Z G W) slices_S16384x3072_S16384x1024_0_1024) N

/-- The reference's values. -/
def refV (Z : FVec Ideal S16384x1024 .f32) (G : FVec Ideal S1024 .f32) (W : FVec Ideal S1024x3072 .f32) : FVec Ideal S16384x1024 .f32 :=
  extractStridedSlice S16384x1024 ![0, 2048] (refProj Z G W) slices_S16384x3072_S16384x1024_0_2048

/-- The reference's keys, rounded. -/
def refKb (Z : FVec Ideal S16384x1024 .f32) (G : FVec Ideal S1024 .f32) (W : FVec Ideal S1024x3072 .f32) (N : FVec Ideal S128 .f32) :
    FVec Ideal S16384x1024 .bf16 :=
  truncf .bf16 (refK Z G W N) bitsLt_bf16_f32

/-- The reference's values, transposed block by block and rounded. -/
def refVt (Z : FVec Ideal S16384x1024 .f32) (G : FVec Ideal S1024 .f32) (W : FVec Ideal S1024x3072 .f32) : FVec Ideal S2x8x32x128x256 .bf16 :=
  truncf .bf16 (transpose S2x8x32x128x256 [0, 3, 1, 4, 2] (shapeCast S2x32x256x8x128 (refV Z G W) shapeCasts_S16384x1024_S2x32x256x8x128)
    transposes_S2x32x256x8x128_S2x8x32x128x256_0_3_1_4_2) bitsLt_bf16_f32

/-- The normalised residual stream, entry by entry. -/
theorem refNormed_at (Z : FVec Ideal S16384x1024 .f32) (G : FVec Ideal S1024 .f32) (r : Fin 16384) (c : Fin 1024) :
    refNormed Z G (ix2 r c) = normed (fun c => Z (ix2 r c)) (fun c => G (ix1 c)) c := by
  pointwise [refNormed, normed]

/-- The projection, entry by entry. -/
theorem refProj_at (Z : FVec Ideal S16384x1024 .f32) (G : FVec Ideal S1024 .f32) (W : FVec Ideal S1024x3072 .f32)
    (r : Fin 16384) (c : Fin 3072) :
    refProj Z G W (ix2 r c) = projected (fun c => Z (ix2 r c)) (fun c => G (ix1 c)) (fun k => W (ix2 k c)) := by
  pointwise [refProj, refNormed_at, projected]

/-- The normalisation of the heads, entry by entry. -/
theorem refSeg_at (Q : FVec Ideal S16384x1024 .f32) (N : FVec Ideal S128 .f32) (r : Fin 16384) (c : Fin 1024) :
    refSeg Q N (ix2 r c) = segNorm (fun c => Q (ix2 r c)) (N (ix1 ⟨c.val % 128, by omega⟩)) c := by
  pointwise [refSeg, segNorm]

/-- The queries before their scale, entry by entry. -/
theorem refQ_at (Z : FVec Ideal S16384x1024 .f32) (G : FVec Ideal S1024 .f32) (W : FVec Ideal S1024x3072 .f32) (N : FVec Ideal S128 .f32)
    (r : Fin 16384) (c : Fin 1024) :
    refQ Z G W N (ix2 r c)
      = segNorm (fun j => projected (fun c => Z (ix2 r c)) (fun c => G (ix1 c)) (fun k => W (ix2 k ⟨j, by omega⟩)))
          (N (ix1 ⟨c.val % 128, by omega⟩)) c := by
  unfold refQ
  rw [refSeg_at]
  refine segNorm_congr (fun k => ?_) rfl c
  pointwise [refProj_at]

/-- The scaled queries, entry by entry. -/
theorem refQs_at (Z : FVec Ideal S16384x1024 .f32) (G : FVec Ideal S1024 .f32) (W : FVec Ideal S1024x3072 .f32) (N : FVec Ideal S128 .f32)
    (r : Fin 16384) (c : Fin 1024) :
    refQs Z G W N (ix2 r c)
      = segNorm (fun j => projected (fun c => Z (ix2 r c)) (fun c => G (ix1 c)) (fun k => W (ix2 k ⟨j, by omega⟩)))
          (N (ix1 ⟨c.val % 128, by omega⟩)) c * Ideal.ofBits .f32 0x3E0293EE#32 := by
  pointwise [refQs, refQ_at]

/-- The keys, entry by entry. -/
theorem refK_at (Z : FVec Ideal S16384x1024 .f32) (G : FVec Ideal S1024 .f32) (W : FVec Ideal S1024x3072 .f32) (N : FVec Ideal S128 .f32)
    (r : Fin 16384) (c : Fin 1024) :
    refK Z G W N (ix2 r c)
      = segNorm (fun j => projected (fun c => Z (ix2 r c)) (fun c => G (ix1 c)) (fun k => W (ix2 k ⟨1024 + j, by omega⟩)))
          (N (ix1 ⟨c.val % 128, by omega⟩)) c := by
  unfold refK
  rw [refSeg_at]
  refine segNorm_congr (fun k => ?_) rfl c
  pointwise [refProj_at]

/-- The rounded keys, entry by entry. -/
theorem refKb_at (Z : FVec Ideal S16384x1024 .f32) (G : FVec Ideal S1024 .f32) (W : FVec Ideal S1024x3072 .f32) (N : FVec Ideal S128 .f32)
    (r : Fin 16384) (c : Fin 1024) :
    refKb Z G W N (ix2 r c)
      = segNorm (fun j => projected (fun c => Z (ix2 r c)) (fun c => G (ix1 c)) (fun k => W (ix2 k ⟨1024 + j, by omega⟩)))
          (N (ix1 ⟨c.val % 128, by omega⟩)) c := by
  pointwise [refKb, refK_at]

/-- The values, entry by entry. -/
theorem refV_at (Z : FVec Ideal S16384x1024 .f32) (G : FVec Ideal S1024 .f32) (W : FVec Ideal S1024x3072 .f32)
    (r : Fin 16384) (c : Fin 1024) :
    refV Z G W (ix2 r c) = projected (fun c => Z (ix2 r c)) (fun c => G (ix1 c)) (fun k => W (ix2 k ⟨2048 + c, by omega⟩)) := by
  pointwise [refV, refProj_at]

/-- The transposed values, entry by entry. -/
theorem refVt_at (Z : FVec Ideal S16384x1024 .f32) (G : FVec Ideal S1024 .f32) (W : FVec Ideal S1024x3072 .f32)
    (b : Fin 2) (h : Fin 8) (u : Fin 32) (c : Fin 128) (r : Fin 256) :
    refVt Z G W (ix5 b h u c r) = refV Z G W (ix2 ⟨b * 8192 + u * 256 + r, by omega⟩ ⟨h * 128 + c, by omega⟩) := by
  pointwise [refVt]

end Cert.MobaPre

end
-- ==== Proof.MobaPre.Head.lean ====
module

public import proofs.«01_k».proof.Proof.Gen.Kernel5Ideal.Value
public import proofs.«01_k».proof.Proof.MobaPre.Ref

/-! What the kernel computes: the projection and the normalisation of a head. -/

@[expose] public section

set_option maxRecDepth 16384

noncomputable section

namespace Cert.MobaPre

open Idealize.ShloMosaic Idealize.ShloMosaic.TcCoe Idealize.SL.Sem

/-- One lane of a head as the kernel normalises it. -/
def headForm (y : Fin 128 → EReal) (s : EReal) (x : Fin 128) : EReal :=
  y x * Ideal.rsqrt (Ideal.div (∑ e : Fin 128, y e * y e) (Ideal.ofBits .f32 0x43000000#32) + Ideal.ofBits .f32 0x358637BD#32) * s

/-- It is the lane of the row of all heads, normalised within its segment. -/
theorem head_eq (yh : Fin 128 → EReal) (y : Fin 1024 → EReal) (s : EReal) (h : ℕ) (x : Fin 128) (c : Fin 1024)
    (hc : c.val = h * 128 + x.val) (hy : ∀ i : Fin 128, yh i = y ⟨h * 128 + i.val, by omega⟩) :
    headForm yh s x = segNorm y s c := by
  have hx : (⟨h * 128 + x.val, by omega⟩ : Fin 1024) = c := Fin.ext hc.symm
  have hs : ∀ e : Fin 128, h * 128 + e.val = c.val / 128 * 128 + e.val := fun e => by omega
  unfold headForm segNorm
  rw [hy x, hx]
  simp only [hy, hs]

open Cert.Kernel5Ideal Cert.Kernel5Ideal.Gen

/-- The projection, entry by entry. -/
theorem proj_at (x : Vec Ideal S512x1024 .f32) (g : Vec Ideal S1x1024 .f32) (w : Vec Ideal S1024x3072 .bf16)
    (r : Fin 512) (c : Fin 3072) :
    k0_pay4 (F := Ideal) x g w (ix2 r c)
      = projected (fun c => x (ix2 r c)) (fun c => g (ix2 0 c)) (fun k => w (ix2 k c)) := by
  pointwise [k0_pay4, projected, normed]

end Cert.MobaPre

end
-- ==== Proof.MobaPre.Queries.lean ====
module

public import proofs.«01_k».proof.Proof.MobaPre.Head
public import Idealize.ShloMosaic.Lib.Pipeline.ValueKit

/-! The block of scaled queries a grid point stores, head by head. -/

@[expose] public section

set_option maxRecDepth 16384

noncomputable section

namespace Cert.MobaPre

open Idealize.ShloMosaic Idealize.ShloMosaic.TcCoe Idealize.SL.Sem

open Cert.Kernel5Ideal Cert.Kernel5Ideal.Gen

/-- The scaled queries of a block. -/
theorem qs_at (x0 : Vec Ideal S512x1024 .f32) (x1 : Vec Ideal S1x1024 .f32) (x2 : Vec Ideal S1024x3072 .bf16) (x3 x4 : Vec Ideal S1x1024 .f32) (r : Fin 512) (c : Fin 1024) :
    out0_5 (F := Ideal) x0 x1 x2 x3 x4 (ix2 r c)
      = segNorm (fun j => projected (fun c => x0 (ix2 r c)) (fun c => x1 (ix2 0 c)) (fun k => x2 (ix2 k ⟨j.val, by omega⟩)))
          (x3 (ix2 0 c)) c * Ideal.ofBits .f32 0x3E0293EE#32 := by
  unfold_out out0_5
  canon_tiles y h
  case piece0 =>
    idx_vars y
    obtain rfl : r = y0 := Fin.ext h0
    refine Eq.trans ?_ (congrArg (· * Ideal.ofBits .f32 0x3E0293EE#32) (head_eq (fun i => projected (fun c => x0 (ix2 r c)) (fun c => x1 (ix2 0 c)) (fun k => x2 (ix2 k ⟨896 + i.val, by omega⟩)))
      _ (x3 (ix2 0 c)) 7 y1 c (by omega) fun i => by pointwise))
    obtain rfl : c = ⟨896 + y1.val, lt_of_lt_of_le (Nat.add_lt_add_left y1.isLt 896) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece1 =>
    idx_vars y
    obtain rfl : r = y0 := Fin.ext h0
    refine Eq.trans ?_ (congrArg (· * Ideal.ofBits .f32 0x3E0293EE#32) (head_eq (fun i => projected (fun c => x0 (ix2 r c)) (fun c => x1 (ix2 0 c)) (fun k => x2 (ix2 k ⟨768 + i.val, by omega⟩)))
      _ (x3 (ix2 0 c)) 6 y1 c (by omega) fun i => by pointwise))
    obtain rfl : c = ⟨768 + y1.val, lt_of_lt_of_le (Nat.add_lt_add_left y1.isLt 768) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece2 =>
    idx_vars y
    obtain rfl : r = y0 := Fin.ext h0
    refine Eq.trans ?_ (congrArg (· * Ideal.ofBits .f32 0x3E0293EE#32) (head_eq (fun i => projected (fun c => x0 (ix2 r c)) (fun c => x1 (ix2 0 c)) (fun k => x2 (ix2 k ⟨640 + i.val, by omega⟩)))
      _ (x3 (ix2 0 c)) 5 y1 c (by omega) fun i => by pointwise))
    obtain rfl : c = ⟨640 + y1.val, lt_of_lt_of_le (Nat.add_lt_add_left y1.isLt 640) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece3 =>
    idx_vars y
    obtain rfl : r = y0 := Fin.ext h0
    refine Eq.trans ?_ (congrArg (· * Ideal.ofBits .f32 0x3E0293EE#32) (head_eq (fun i => projected (fun c => x0 (ix2 r c)) (fun c => x1 (ix2 0 c)) (fun k => x2 (ix2 k ⟨512 + i.val, by omega⟩)))
      _ (x3 (ix2 0 c)) 4 y1 c (by omega) fun i => by pointwise))
    obtain rfl : c = ⟨512 + y1.val, lt_of_lt_of_le (Nat.add_lt_add_left y1.isLt 512) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece4 =>
    idx_vars y
    obtain rfl : r = y0 := Fin.ext h0
    refine Eq.trans ?_ (congrArg (· * Ideal.ofBits .f32 0x3E0293EE#32) (head_eq (fun i => projected (fun c => x0 (ix2 r c)) (fun c => x1 (ix2 0 c)) (fun k => x2 (ix2 k ⟨384 + i.val, by omega⟩)))
      _ (x3 (ix2 0 c)) 3 y1 c (by omega) fun i => by pointwise))
    obtain rfl : c = ⟨384 + y1.val, lt_of_lt_of_le (Nat.add_lt_add_left y1.isLt 384) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece5 =>
    idx_vars y
    obtain rfl : r = y0 := Fin.ext h0
    refine Eq.trans ?_ (congrArg (· * Ideal.ofBits .f32 0x3E0293EE#32) (head_eq (fun i => projected (fun c => x0 (ix2 r c)) (fun c => x1 (ix2 0 c)) (fun k => x2 (ix2 k ⟨256 + i.val, by omega⟩)))
      _ (x3 (ix2 0 c)) 2 y1 c (by omega) fun i => by pointwise))
    obtain rfl : c = ⟨256 + y1.val, lt_of_lt_of_le (Nat.add_lt_add_left y1.isLt 256) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece6 =>
    idx_vars y
    obtain rfl : r = y0 := Fin.ext h0
    refine Eq.trans ?_ (congrArg (· * Ideal.ofBits .f32 0x3E0293EE#32) (head_eq (fun i => projected (fun c => x0 (ix2 r c)) (fun c => x1 (ix2 0 c)) (fun k => x2 (ix2 k ⟨128 + i.val, by omega⟩)))
      _ (x3 (ix2 0 c)) 1 y1 c (by omega) fun i => by pointwise))
    obtain rfl : c = ⟨128 + y1.val, lt_of_lt_of_le (Nat.add_lt_add_left y1.isLt 128) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece7 =>
    idx_vars y
    obtain rfl : r = y0 := Fin.ext h0
    refine Eq.trans ?_ (congrArg (· * Ideal.ofBits .f32 0x3E0293EE#32) (head_eq (fun i => projected (fun c => x0 (ix2 r c)) (fun c => x1 (ix2 0 c)) (fun k => x2 (ix2 k ⟨i.val, by omega⟩)))
      _ (x3 (ix2 0 c)) 0 y1 c (by omega) fun i => by pointwise))
    obtain rfl : c = ⟨y1.val, lt_of_lt_of_le y1.isLt (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]

end Cert.MobaPre

end
-- ==== Proof.MobaPre.Keys.lean ====
module

public import proofs.«01_k».proof.Proof.MobaPre.Head
public import Idealize.ShloMosaic.Lib.Pipeline.ValueKit

/-! The block of keys a grid point stores, head by head. -/

@[expose] public section

set_option maxRecDepth 16384

noncomputable section

namespace Cert.MobaPre

open Idealize.ShloMosaic Idealize.ShloMosaic.TcCoe Idealize.SL.Sem

open Cert.Kernel5Ideal Cert.Kernel5Ideal.Gen

/-- The keys of a block. -/
theorem k_at (x0 : Vec Ideal S512x1024 .f32) (x1 : Vec Ideal S1x1024 .f32) (x2 : Vec Ideal S1024x3072 .bf16) (x3 x4 : Vec Ideal S1x1024 .f32) (r : Fin 512) (c : Fin 1024) :
    out0_6 (F := Ideal) x0 x1 x2 x3 x4 (ix2 r c)
      = segNorm (fun j => projected (fun c => x0 (ix2 r c)) (fun c => x1 (ix2 0 c)) (fun k => x2 (ix2 k ⟨1024 + j.val, by omega⟩)))
          (x4 (ix2 0 c)) c := by
  unfold_out out0_6
  canon_tiles y h
  case piece0 =>
    idx_vars y
    obtain rfl : r = y0 := Fin.ext h0
    refine Eq.trans ?_ ((head_eq (fun i => projected (fun c => x0 (ix2 r c)) (fun c => x1 (ix2 0 c)) (fun k => x2 (ix2 k ⟨1920 + i.val, by omega⟩)))
      _ (x4 (ix2 0 c)) 7 y1 c (by omega) fun i => by pointwise; simp only [← Nat.add_assoc, Nat.reduceAdd]))
    obtain rfl : c = ⟨896 + y1.val, lt_of_lt_of_le (Nat.add_lt_add_left y1.isLt 896) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece1 =>
    idx_vars y
    obtain rfl : r = y0 := Fin.ext h0
    refine Eq.trans ?_ ((head_eq (fun i => projected (fun c => x0 (ix2 r c)) (fun c => x1 (ix2 0 c)) (fun k => x2 (ix2 k ⟨1792 + i.val, by omega⟩)))
      _ (x4 (ix2 0 c)) 6 y1 c (by omega) fun i => by pointwise; simp only [← Nat.add_assoc, Nat.reduceAdd]))
    obtain rfl : c = ⟨768 + y1.val, lt_of_lt_of_le (Nat.add_lt_add_left y1.isLt 768) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece2 =>
    idx_vars y
    obtain rfl : r = y0 := Fin.ext h0
    refine Eq.trans ?_ ((head_eq (fun i => projected (fun c => x0 (ix2 r c)) (fun c => x1 (ix2 0 c)) (fun k => x2 (ix2 k ⟨1664 + i.val, by omega⟩)))
      _ (x4 (ix2 0 c)) 5 y1 c (by omega) fun i => by pointwise; simp only [← Nat.add_assoc, Nat.reduceAdd]))
    obtain rfl : c = ⟨640 + y1.val, lt_of_lt_of_le (Nat.add_lt_add_left y1.isLt 640) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece3 =>
    idx_vars y
    obtain rfl : r = y0 := Fin.ext h0
    refine Eq.trans ?_ ((head_eq (fun i => projected (fun c => x0 (ix2 r c)) (fun c => x1 (ix2 0 c)) (fun k => x2 (ix2 k ⟨1536 + i.val, by omega⟩)))
      _ (x4 (ix2 0 c)) 4 y1 c (by omega) fun i => by pointwise; simp only [← Nat.add_assoc, Nat.reduceAdd]))
    obtain rfl : c = ⟨512 + y1.val, lt_of_lt_of_le (Nat.add_lt_add_left y1.isLt 512) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece4 =>
    idx_vars y
    obtain rfl : r = y0 := Fin.ext h0
    refine Eq.trans ?_ ((head_eq (fun i => projected (fun c => x0 (ix2 r c)) (fun c => x1 (ix2 0 c)) (fun k => x2 (ix2 k ⟨1408 + i.val, by omega⟩)))
      _ (x4 (ix2 0 c)) 3 y1 c (by omega) fun i => by pointwise; simp only [← Nat.add_assoc, Nat.reduceAdd]))
    obtain rfl : c = ⟨384 + y1.val, lt_of_lt_of_le (Nat.add_lt_add_left y1.isLt 384) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece5 =>
    idx_vars y
    obtain rfl : r = y0 := Fin.ext h0
    refine Eq.trans ?_ ((head_eq (fun i => projected (fun c => x0 (ix2 r c)) (fun c => x1 (ix2 0 c)) (fun k => x2 (ix2 k ⟨1280 + i.val, by omega⟩)))
      _ (x4 (ix2 0 c)) 2 y1 c (by omega) fun i => by pointwise; simp only [← Nat.add_assoc, Nat.reduceAdd]))
    obtain rfl : c = ⟨256 + y1.val, lt_of_lt_of_le (Nat.add_lt_add_left y1.isLt 256) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece6 =>
    idx_vars y
    obtain rfl : r = y0 := Fin.ext h0
    refine Eq.trans ?_ ((head_eq (fun i => projected (fun c => x0 (ix2 r c)) (fun c => x1 (ix2 0 c)) (fun k => x2 (ix2 k ⟨1152 + i.val, by omega⟩)))
      _ (x4 (ix2 0 c)) 1 y1 c (by omega) fun i => by pointwise; simp only [← Nat.add_assoc, Nat.reduceAdd]))
    obtain rfl : c = ⟨128 + y1.val, lt_of_lt_of_le (Nat.add_lt_add_left y1.isLt 128) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece7 =>
    idx_vars y
    obtain rfl : r = y0 := Fin.ext h0
    refine Eq.trans ?_ ((head_eq (fun i => projected (fun c => x0 (ix2 r c)) (fun c => x1 (ix2 0 c)) (fun k => x2 (ix2 k ⟨1024 + i.val, by omega⟩)))
      _ (x4 (ix2 0 c)) 0 y1 c (by omega) fun i => by pointwise))
    obtain rfl : c = ⟨y1.val, lt_of_lt_of_le y1.isLt (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]

end Cert.MobaPre

end
-- ==== Proof.MobaPre.Rounded.lean ====
module

public import proofs.«01_k».proof.Proof.MobaPre.Head
public import Idealize.ShloMosaic.Lib.Pipeline.ValueKit

/-! The block of rounded keys a grid point stores, head by head. -/

@[expose] public section

set_option maxRecDepth 16384

noncomputable section

namespace Cert.MobaPre

open Idealize.ShloMosaic Idealize.ShloMosaic.TcCoe Idealize.SL.Sem

open Cert.Kernel5Ideal Cert.Kernel5Ideal.Gen

/-- The rounded keys of a block. -/
theorem kb_at (x0 : Vec Ideal S512x1024 .f32) (x1 : Vec Ideal S1x1024 .f32) (x2 : Vec Ideal S1024x3072 .bf16) (x3 x4 : Vec Ideal S1x1024 .f32) (r : Fin 512) (c : Fin 1024) :
    out0_9 (F := Ideal) x0 x1 x2 x3 x4 (ix2 r c)
      = segNorm (fun j => projected (fun c => x0 (ix2 r c)) (fun c => x1 (ix2 0 c)) (fun k => x2 (ix2 k ⟨1024 + j.val, by omega⟩)))
          (x4 (ix2 0 c)) c := by
  unfold_out out0_9
  canon_tiles y h
  case piece0 =>
    idx_vars y
    obtain rfl : r = y0 := Fin.ext h0
    refine Eq.trans ?_ ((head_eq (fun i => projected (fun c => x0 (ix2 r c)) (fun c => x1 (ix2 0 c)) (fun k => x2 (ix2 k ⟨1920 + i.val, by omega⟩)))
      _ (x4 (ix2 0 c)) 7 y1 c (by omega) fun i => by pointwise; simp only [← Nat.add_assoc, Nat.reduceAdd]))
    obtain rfl : c = ⟨896 + y1.val, lt_of_lt_of_le (Nat.add_lt_add_left y1.isLt 896) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece1 =>
    idx_vars y
    obtain rfl : r = y0 := Fin.ext h0
    refine Eq.trans ?_ ((head_eq (fun i => projected (fun c => x0 (ix2 r c)) (fun c => x1 (ix2 0 c)) (fun k => x2 (ix2 k ⟨1792 + i.val, by omega⟩)))
      _ (x4 (ix2 0 c)) 6 y1 c (by omega) fun i => by pointwise; simp only [← Nat.add_assoc, Nat.reduceAdd]))
    obtain rfl : c = ⟨768 + y1.val, lt_of_lt_of_le (Nat.add_lt_add_left y1.isLt 768) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece2 =>
    idx_vars y
    obtain rfl : r = y0 := Fin.ext h0
    refine Eq.trans ?_ ((head_eq (fun i => projected (fun c => x0 (ix2 r c)) (fun c => x1 (ix2 0 c)) (fun k => x2 (ix2 k ⟨1664 + i.val, by omega⟩)))
      _ (x4 (ix2 0 c)) 5 y1 c (by omega) fun i => by pointwise; simp only [← Nat.add_assoc, Nat.reduceAdd]))
    obtain rfl : c = ⟨640 + y1.val, lt_of_lt_of_le (Nat.add_lt_add_left y1.isLt 640) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece3 =>
    idx_vars y
    obtain rfl : r = y0 := Fin.ext h0
    refine Eq.trans ?_ ((head_eq (fun i => projected (fun c => x0 (ix2 r c)) (fun c => x1 (ix2 0 c)) (fun k => x2 (ix2 k ⟨1536 + i.val, by omega⟩)))
      _ (x4 (ix2 0 c)) 4 y1 c (by omega) fun i => by pointwise; simp only [← Nat.add_assoc, Nat.reduceAdd]))
    obtain rfl : c = ⟨512 + y1.val, lt_of_lt_of_le (Nat.add_lt_add_left y1.isLt 512) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece4 =>
    idx_vars y
    obtain rfl : r = y0 := Fin.ext h0
    refine Eq.trans ?_ ((head_eq (fun i => projected (fun c => x0 (ix2 r c)) (fun c => x1 (ix2 0 c)) (fun k => x2 (ix2 k ⟨1408 + i.val, by omega⟩)))
      _ (x4 (ix2 0 c)) 3 y1 c (by omega) fun i => by pointwise; simp only [← Nat.add_assoc, Nat.reduceAdd]))
    obtain rfl : c = ⟨384 + y1.val, lt_of_lt_of_le (Nat.add_lt_add_left y1.isLt 384) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece5 =>
    idx_vars y
    obtain rfl : r = y0 := Fin.ext h0
    refine Eq.trans ?_ ((head_eq (fun i => projected (fun c => x0 (ix2 r c)) (fun c => x1 (ix2 0 c)) (fun k => x2 (ix2 k ⟨1280 + i.val, by omega⟩)))
      _ (x4 (ix2 0 c)) 2 y1 c (by omega) fun i => by pointwise; simp only [← Nat.add_assoc, Nat.reduceAdd]))
    obtain rfl : c = ⟨256 + y1.val, lt_of_lt_of_le (Nat.add_lt_add_left y1.isLt 256) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece6 =>
    idx_vars y
    obtain rfl : r = y0 := Fin.ext h0
    refine Eq.trans ?_ ((head_eq (fun i => projected (fun c => x0 (ix2 r c)) (fun c => x1 (ix2 0 c)) (fun k => x2 (ix2 k ⟨1152 + i.val, by omega⟩)))
      _ (x4 (ix2 0 c)) 1 y1 c (by omega) fun i => by pointwise; simp only [← Nat.add_assoc, Nat.reduceAdd]))
    obtain rfl : c = ⟨128 + y1.val, lt_of_lt_of_le (Nat.add_lt_add_left y1.isLt 128) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece7 =>
    idx_vars y
    obtain rfl : r = y0 := Fin.ext h0
    refine Eq.trans ?_ ((head_eq (fun i => projected (fun c => x0 (ix2 r c)) (fun c => x1 (ix2 0 c)) (fun k => x2 (ix2 k ⟨1024 + i.val, by omega⟩)))
      _ (x4 (ix2 0 c)) 0 y1 c (by omega) fun i => by pointwise))
    obtain rfl : c = ⟨y1.val, lt_of_lt_of_le y1.isLt (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]

end Cert.MobaPre

end
-- ==== Proof.MobaPre.Values.lean ====
module

public import proofs.«01_k».proof.Proof.MobaPre.Head
public import Idealize.ShloMosaic.Lib.Pipeline.ValueKit

/-! The blocks of values a grid point stores, as rows and transposed, head by head. -/

@[expose] public section

set_option maxRecDepth 16384

noncomputable section

namespace Cert.MobaPre

open Idealize.ShloMosaic Idealize.ShloMosaic.TcCoe Idealize.SL.Sem

open Cert.Kernel5Ideal Cert.Kernel5Ideal.Gen

/-- The values of a block. -/
theorem v_at (x0 : Vec Ideal S512x1024 .f32) (x1 : Vec Ideal S1x1024 .f32) (x2 : Vec Ideal S1024x3072 .bf16) (x3 x4 : Vec Ideal S1x1024 .f32) (r : Fin 512) (c : Fin 1024) :
    out0_7 (F := Ideal) x0 x1 x2 x3 x4 (ix2 r c)
      = projected (fun c => x0 (ix2 r c)) (fun c => x1 (ix2 0 c)) (fun k => x2 (ix2 k ⟨2048 + c.val, by omega⟩)) := by
  unfold_out out0_7
  canon_tiles y h
  case piece0 =>
    idx_vars y
    obtain rfl : r = y0 := Fin.ext h0
    obtain rfl : c = ⟨896 + y1.val, lt_of_lt_of_le (Nat.add_lt_add_left y1.isLt 896) (by decide)⟩ := Fin.ext (by simpa using h1)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
    simp only [← Nat.add_assoc, Nat.reduceAdd]
  case piece1 =>
    idx_vars y
    obtain rfl : r = y0 := Fin.ext h0
    obtain rfl : c = ⟨768 + y1.val, lt_of_lt_of_le (Nat.add_lt_add_left y1.isLt 768) (by decide)⟩ := Fin.ext (by simpa using h1)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
    simp only [← Nat.add_assoc, Nat.reduceAdd]
  case piece2 =>
    idx_vars y
    obtain rfl : r = y0 := Fin.ext h0
    obtain rfl : c = ⟨640 + y1.val, lt_of_lt_of_le (Nat.add_lt_add_left y1.isLt 640) (by decide)⟩ := Fin.ext (by simpa using h1)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
    simp only [← Nat.add_assoc, Nat.reduceAdd]
  case piece3 =>
    idx_vars y
    obtain rfl : r = y0 := Fin.ext h0
    obtain rfl : c = ⟨512 + y1.val, lt_of_lt_of_le (Nat.add_lt_add_left y1.isLt 512) (by decide)⟩ := Fin.ext (by simpa using h1)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
    simp only [← Nat.add_assoc, Nat.reduceAdd]
  case piece4 =>
    idx_vars y
    obtain rfl : r = y0 := Fin.ext h0
    obtain rfl : c = ⟨384 + y1.val, lt_of_lt_of_le (Nat.add_lt_add_left y1.isLt 384) (by decide)⟩ := Fin.ext (by simpa using h1)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
    simp only [← Nat.add_assoc, Nat.reduceAdd]
  case piece5 =>
    idx_vars y
    obtain rfl : r = y0 := Fin.ext h0
    obtain rfl : c = ⟨256 + y1.val, lt_of_lt_of_le (Nat.add_lt_add_left y1.isLt 256) (by decide)⟩ := Fin.ext (by simpa using h1)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
    simp only [← Nat.add_assoc, Nat.reduceAdd]
  case piece6 =>
    idx_vars y
    obtain rfl : r = y0 := Fin.ext h0
    obtain rfl : c = ⟨128 + y1.val, lt_of_lt_of_le (Nat.add_lt_add_left y1.isLt 128) (by decide)⟩ := Fin.ext (by simpa using h1)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
    simp only [← Nat.add_assoc, Nat.reduceAdd]
  case piece7 =>
    idx_vars y
    obtain rfl : r = y0 := Fin.ext h0
    obtain rfl : c = ⟨y1.val, lt_of_lt_of_le y1.isLt (by decide)⟩ := Fin.ext (by simpa using h1)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]

/-- The transposed values of a block. -/
theorem vt_at (x0 : Vec Ideal S512x1024 .f32) (x1 : Vec Ideal S1x1024 .f32) (x2 : Vec Ideal S1024x3072 .bf16) (x3 x4 : Vec Ideal S1x1024 .f32) (a : Fin 1) (h' : Fin 8) (u : Fin 2) (c : Fin 128) (r : Fin 256) :
    out0_10 (F := Ideal) x0 x1 x2 x3 x4 (ix5 a h' u c r)
      = projected (fun c => x0 (ix2 ⟨u.val * 256 + r.val, by omega⟩ c)) (fun c => x1 (ix2 0 c)) (fun k => x2 (ix2 k ⟨2048 + h'.val * 128 + c.val, by omega⟩)) := by
  unfold_out out0_10
  canon_tiles y h
  case piece0 =>
    idx_vars y
    obtain rfl : r = y4 := Fin.ext h4
    obtain rfl : c = y3 := Fin.ext h3
    obtain rfl : u = ⟨1, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨7, by decide⟩ := Fin.ext (by simp only [Fin.val_mk]; omega)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece1 =>
    idx_vars y
    obtain rfl : r = y4 := Fin.ext h4
    obtain rfl : c = y3 := Fin.ext h3
    obtain rfl : u = ⟨0, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨7, by decide⟩ := Fin.ext (by simp only [Fin.val_mk]; omega)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece2 =>
    idx_vars y
    obtain rfl : r = y4 := Fin.ext h4
    obtain rfl : c = y3 := Fin.ext h3
    obtain rfl : u = ⟨1, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨6, by decide⟩ := Fin.ext (by simp only [Fin.val_mk]; omega)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece3 =>
    idx_vars y
    obtain rfl : r = y4 := Fin.ext h4
    obtain rfl : c = y3 := Fin.ext h3
    obtain rfl : u = ⟨0, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨6, by decide⟩ := Fin.ext (by simp only [Fin.val_mk]; omega)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece4 =>
    idx_vars y
    obtain rfl : r = y4 := Fin.ext h4
    obtain rfl : c = y3 := Fin.ext h3
    obtain rfl : u = ⟨1, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨5, by decide⟩ := Fin.ext (by simp only [Fin.val_mk]; omega)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece5 =>
    idx_vars y
    obtain rfl : r = y4 := Fin.ext h4
    obtain rfl : c = y3 := Fin.ext h3
    obtain rfl : u = ⟨0, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨5, by decide⟩ := Fin.ext (by simp only [Fin.val_mk]; omega)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece6 =>
    idx_vars y
    obtain rfl : r = y4 := Fin.ext h4
    obtain rfl : c = y3 := Fin.ext h3
    obtain rfl : u = ⟨1, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨4, by decide⟩ := Fin.ext (by simp only [Fin.val_mk]; omega)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece7 =>
    idx_vars y
    obtain rfl : r = y4 := Fin.ext h4
    obtain rfl : c = y3 := Fin.ext h3
    obtain rfl : u = ⟨0, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨4, by decide⟩ := Fin.ext (by simp only [Fin.val_mk]; omega)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece8 =>
    idx_vars y
    obtain rfl : r = y4 := Fin.ext h4
    obtain rfl : c = y3 := Fin.ext h3
    obtain rfl : u = ⟨1, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨3, by decide⟩ := Fin.ext (by simp only [Fin.val_mk]; omega)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece9 =>
    idx_vars y
    obtain rfl : r = y4 := Fin.ext h4
    obtain rfl : c = y3 := Fin.ext h3
    obtain rfl : u = ⟨0, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨3, by decide⟩ := Fin.ext (by simp only [Fin.val_mk]; omega)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece10 =>
    idx_vars y
    obtain rfl : r = y4 := Fin.ext h4
    obtain rfl : c = y3 := Fin.ext h3
    obtain rfl : u = ⟨1, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨2, by decide⟩ := Fin.ext (by simp only [Fin.val_mk]; omega)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece11 =>
    idx_vars y
    obtain rfl : r = y4 := Fin.ext h4
    obtain rfl : c = y3 := Fin.ext h3
    obtain rfl : u = ⟨0, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨2, by decide⟩ := Fin.ext (by simp only [Fin.val_mk]; omega)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece12 =>
    idx_vars y
    obtain rfl : r = y4 := Fin.ext h4
    obtain rfl : c = y3 := Fin.ext h3
    obtain rfl : u = ⟨1, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨1, by decide⟩ := Fin.ext (by simp only [Fin.val_mk]; omega)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece13 =>
    idx_vars y
    obtain rfl : r = y4 := Fin.ext h4
    obtain rfl : c = y3 := Fin.ext h3
    obtain rfl : u = ⟨0, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨1, by decide⟩ := Fin.ext (by simp only [Fin.val_mk]; omega)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece14 =>
    idx_vars y
    obtain rfl : r = y4 := Fin.ext h4
    obtain rfl : c = y3 := Fin.ext h3
    obtain rfl : u = ⟨1, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨0, by decide⟩ := Fin.ext (by simp only [Fin.val_mk]; omega)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece15 =>
    idx_vars y
    obtain rfl : r = y4 := Fin.ext h4
    obtain rfl : c = y3 := Fin.ext h3
    obtain rfl : u = ⟨0, by decide⟩ := Fin.ext (by simp only [Fin.val_mk]; omega)
    obtain rfl : y0 = 0 := Subsingleton.elim _ _
    obtain rfl : y1 = 0 := Subsingleton.elim _ _
    obtain rfl : y2 = 0 := Subsingleton.elim _ _
    obtain rfl : h' = ⟨0, by decide⟩ := Fin.ext (by simp only [Fin.val_mk]; omega)
    pointwise [proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]

end Cert.MobaPre

end
-- ==== Proof.MobaPre.Plain.lean ====
module

public import proofs.«01_k».proof.Proof.MobaPre.Head
public import Idealize.ShloMosaic.Lib.Pipeline.ValueKit

/-! The block of unscaled queries a grid point stores, head by head. -/

@[expose] public section

set_option maxRecDepth 16384

noncomputable section

namespace Cert.MobaPre

open Idealize.ShloMosaic Idealize.ShloMosaic.TcCoe Idealize.SL.Sem

open Cert.Kernel5Ideal Cert.Kernel5Ideal.Gen

/-- The queries of a block. -/
theorem q_at (x0 : Vec Ideal S512x1024 .f32) (x1 : Vec Ideal S1x1024 .f32) (x2 : Vec Ideal S1024x3072 .bf16) (x3 x4 : Vec Ideal S1x1024 .f32) (r : Fin 512) (c : Fin 1024) :
    out0_8 (F := Ideal) x0 x1 x2 x3 x4 (ix2 r c)
      = segNorm (fun j => projected (fun c => x0 (ix2 r c)) (fun c => x1 (ix2 0 c)) (fun k => x2 (ix2 k ⟨j.val, by omega⟩)))
          (x3 (ix2 0 c)) c := by
  unfold_out out0_8
  canon_tiles y h
  case piece0 =>
    idx_vars y
    obtain rfl : r = y0 := Fin.ext h0
    refine Eq.trans ?_ ((head_eq (fun i => projected (fun c => x0 (ix2 r c)) (fun c => x1 (ix2 0 c)) (fun k => x2 (ix2 k ⟨896 + i.val, by omega⟩)))
      _ (x3 (ix2 0 c)) 7 y1 c (by omega) fun i => by pointwise))
    obtain rfl : c = ⟨896 + y1.val, lt_of_lt_of_le (Nat.add_lt_add_left y1.isLt 896) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece1 =>
    idx_vars y
    obtain rfl : r = y0 := Fin.ext h0
    refine Eq.trans ?_ ((head_eq (fun i => projected (fun c => x0 (ix2 r c)) (fun c => x1 (ix2 0 c)) (fun k => x2 (ix2 k ⟨768 + i.val, by omega⟩)))
      _ (x3 (ix2 0 c)) 6 y1 c (by omega) fun i => by pointwise))
    obtain rfl : c = ⟨768 + y1.val, lt_of_lt_of_le (Nat.add_lt_add_left y1.isLt 768) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece2 =>
    idx_vars y
    obtain rfl : r = y0 := Fin.ext h0
    refine Eq.trans ?_ ((head_eq (fun i => projected (fun c => x0 (ix2 r c)) (fun c => x1 (ix2 0 c)) (fun k => x2 (ix2 k ⟨640 + i.val, by omega⟩)))
      _ (x3 (ix2 0 c)) 5 y1 c (by omega) fun i => by pointwise))
    obtain rfl : c = ⟨640 + y1.val, lt_of_lt_of_le (Nat.add_lt_add_left y1.isLt 640) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece3 =>
    idx_vars y
    obtain rfl : r = y0 := Fin.ext h0
    refine Eq.trans ?_ ((head_eq (fun i => projected (fun c => x0 (ix2 r c)) (fun c => x1 (ix2 0 c)) (fun k => x2 (ix2 k ⟨512 + i.val, by omega⟩)))
      _ (x3 (ix2 0 c)) 4 y1 c (by omega) fun i => by pointwise))
    obtain rfl : c = ⟨512 + y1.val, lt_of_lt_of_le (Nat.add_lt_add_left y1.isLt 512) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece4 =>
    idx_vars y
    obtain rfl : r = y0 := Fin.ext h0
    refine Eq.trans ?_ ((head_eq (fun i => projected (fun c => x0 (ix2 r c)) (fun c => x1 (ix2 0 c)) (fun k => x2 (ix2 k ⟨384 + i.val, by omega⟩)))
      _ (x3 (ix2 0 c)) 3 y1 c (by omega) fun i => by pointwise))
    obtain rfl : c = ⟨384 + y1.val, lt_of_lt_of_le (Nat.add_lt_add_left y1.isLt 384) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece5 =>
    idx_vars y
    obtain rfl : r = y0 := Fin.ext h0
    refine Eq.trans ?_ ((head_eq (fun i => projected (fun c => x0 (ix2 r c)) (fun c => x1 (ix2 0 c)) (fun k => x2 (ix2 k ⟨256 + i.val, by omega⟩)))
      _ (x3 (ix2 0 c)) 2 y1 c (by omega) fun i => by pointwise))
    obtain rfl : c = ⟨256 + y1.val, lt_of_lt_of_le (Nat.add_lt_add_left y1.isLt 256) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece6 =>
    idx_vars y
    obtain rfl : r = y0 := Fin.ext h0
    refine Eq.trans ?_ ((head_eq (fun i => projected (fun c => x0 (ix2 r c)) (fun c => x1 (ix2 0 c)) (fun k => x2 (ix2 k ⟨128 + i.val, by omega⟩)))
      _ (x3 (ix2 0 c)) 1 y1 c (by omega) fun i => by pointwise))
    obtain rfl : c = ⟨128 + y1.val, lt_of_lt_of_le (Nat.add_lt_add_left y1.isLt 128) (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  case piece7 =>
    idx_vars y
    obtain rfl : r = y0 := Fin.ext h0
    refine Eq.trans ?_ ((head_eq (fun i => projected (fun c => x0 (ix2 r c)) (fun c => x1 (ix2 0 c)) (fun k => x2 (ix2 k ⟨i.val, by omega⟩)))
      _ (x3 (ix2 0 c)) 0 y1 c (by omega) fun i => by pointwise))
    obtain rfl : c = ⟨y1.val, lt_of_lt_of_le y1.isLt (by decide)⟩ := Fin.ext (by simpa using h1)
    pointwise [headForm, proj_at, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]

end Cert.MobaPre

end
-- ==== Proof.MobaPre.Operands.lean ====
module

public import proofs.«01_k».proof.Proof.Gen.Kernel5Ideal.Value
public import proofs.«01_k».proof.Proof.MobaPre.Ref
public import Idealize.ShloMosaic.Lib.Pipeline.ValueKit
public import Idealize.ShloMosaic.Lib.StableHlo.Run

/-! What the launch finds in its operands: the scale of the residual stream, the projection weights, and the scales of
    the queries and keys repeated over the heads. -/

@[expose] public section

set_option maxRecDepth 16384

noncomputable section

namespace Cert.MobaPre

open Idealize.ShloMosaic Idealize.ShloMosaic.TcCoe Idealize.SL.Sem

open Cert.Kernel5Ideal Cert.Kernel5Ideal.Gen

variable (m : (ℓ : Loc nD τ sig) → Buf (Elt Ideal) ℓ)

/-- The scale of the residual stream as one row. -/
theorem V_scale (c : Dev nD) : V m c main_v0 = shapeCast S1x1024 (m ((c : Thread nD τ).loc main_arg1)) shapeCasts_S1024_S1x1024 := by
  simp only [V]
  after_results_simp
  rfl

/-- The projection weights. -/
theorem V_proj (c : Dev nD) : V m c main_v1 = (truncf (F := Ideal) .bf16 (m ((c : Thread nD τ).loc main_arg2)) bitsLt_bf16_f32 : FVec Ideal S1024x3072 .bf16) := by
  simp only [V]
  after_results_simp

/-- The queries' scale, repeated over the heads. -/
theorem V_qn (c : Dev nD) : V m c main_v5 = shapeCast S1x1024 (shapeCast S1024 (broadcastInDim S8x128 ![0, 1] bcast_S1x128_S8x128_0_1
      (shapeCast S1x128 (m ((c : Thread nD τ).loc main_arg3)) shapeCasts_S128_S1x128)) shapeCasts_S8x128_S1024) shapeCasts_S1024_S1x1024 := by
  simp only [V]
  after_results_simp
  rfl

/-- The keys' scale, repeated over the heads. -/
theorem V_kn (c : Dev nD) : V m c main_v9 = shapeCast S1x1024 (shapeCast S1024 (broadcastInDim S8x128 ![0, 1] bcast_S1x128_S8x128_0_1
      (shapeCast S1x128 (m ((c : Thread nD τ).loc main_arg4)) shapeCasts_S128_S1x128)) shapeCasts_S8x128_S1024) shapeCasts_S1024_S1x1024 := by
  simp only [V]
  after_results_simp
  rfl

/-- The scale, entry by entry. -/
theorem scale_at (c : Dev nD) (k : Fin 1024) : V m c main_v0 (ix2 0 k) = m ((c : Thread nD τ).loc main_arg1) (ix1 k) := by
  rw [V_scale]
  pointwise

/-- The projection weights, entry by entry. -/
theorem weight_at (c : Dev nD) (k : Fin 1024) (j : Fin 3072) : V m c main_v1 (ix2 k j) = m ((c : Thread nD τ).loc main_arg2) (ix2 k j) := by
  rw [V_proj]
  pointwise

/-- The queries' scale, entry by entry. -/
theorem qn_at (c : Dev nD) (k : Fin 1024) : V m c main_v5 (ix2 0 k) = m ((c : Thread nD τ).loc main_arg3) (ix1 ⟨k.val % 128, by omega⟩) := by
  rw [V_qn]
  pointwise

/-- The keys' scale, entry by entry. -/
theorem kn_at (c : Dev nD) (k : Fin 1024) : V m c main_v9 (ix2 0 k) = m ((c : Thread nD τ).loc main_arg4) (ix1 ⟨k.val % 128, by omega⟩) := by
  rw [V_kn]
  pointwise

end Cert.MobaPre

end
-- ==== Proof.MobaPre.Array.lean ====
module

public import proofs.«01_k».proof.Proof.MobaPre.Queries
public import proofs.«01_k».proof.Proof.MobaPre.Keys
public import proofs.«01_k».proof.Proof.MobaPre.Rounded
public import proofs.«01_k».proof.Proof.MobaPre.Values
public import proofs.«01_k».proof.Proof.MobaPre.Plain
public import proofs.«01_k».proof.Proof.MobaPre.Operands
public import Idealize.ShloMosaic.Lib.Pipeline.ValueKit

/-! The result arrays are the reference's terms: grid point `t` writes the block of 512 tokens from token `512 t` on. -/

@[expose] public section

set_option maxRecDepth 16384

noncomputable section

namespace Cert.MobaPre

open Idealize.ShloMosaic Idealize.ShloMosaic.TcCoe Idealize.SL.Sem

open Idealize.ShloMosaic.Pipeline (Dat)
open Cert.Kernel5Ideal Cert.Kernel5Ideal.Gen

variable (m : (ℓ : Loc nD τ sig) → Buf (Elt Ideal) ℓ)

/-- Where each window's block lies at a grid point. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val / 16, 0, t.val % 16, 0, 0] :=
  (by decide +kernel : ∀ t : Fin grid0.N, _)

/-- The residual stream's block. -/
theorem blk_x (c : Dev nD) (t : Fin cfg0.N) (ht : t.val < 32) (r : Fin 512) (k : Fin 1024) :
    iblk m c 0 t (ix2 r k) = m ((c : Thread nD τ).loc main_arg0) (ix2 ⟨t.val * 512 + r, by omega⟩ k) := by
  blk_point [iblk, V, idx t]

/-- The scale is one block. -/
theorem blk_g (c : Dev nD) (t : Fin cfg0.N) (k : Fin 1024) : iblk m c 1 t (ix2 0 k) = m ((c : Thread nD τ).loc main_arg1) (ix1 k) := by
  have he : (win0_1.blk t).view.emb (ix2 0 k) = (ix2 0 k : S1x1024.Idx) := by
    blk_ext [idx t]
  exact (congrArg (V m c main_v0) he).trans (scale_at m c k)

/-- The queries' scale is one block. -/
theorem blk_q (c : Dev nD) (t : Fin cfg0.N) (k : Fin 1024) : iblk m c 3 t (ix2 0 k) = m ((c : Thread nD τ).loc main_arg3) (ix1 ⟨k.val % 128, by omega⟩) := by
  have he : (win0_3.blk t).view.emb (ix2 0 k) = (ix2 0 k : S1x1024.Idx) := by
    blk_ext [idx t]
  exact (congrArg (V m c main_v5) he).trans (qn_at m c k)

/-- The keys' scale is one block. -/
theorem blk_k (c : Dev nD) (t : Fin cfg0.N) (k : Fin 1024) : iblk m c 4 t (ix2 0 k) = m ((c : Thread nD τ).loc main_arg4) (ix1 ⟨k.val % 128, by omega⟩) := by
  have he : (win0_4.blk t).view.emb (ix2 0 k) = (ix2 0 k : S1x1024.Idx) := by
    blk_ext [idx t]
  exact (congrArg (V m c main_v9) he).trans (kn_at m c k)

/-- The projection weights are one block. -/
theorem blk_w (c : Dev nD) (t : Fin cfg0.N) (k : Fin 1024) (j : Fin 3072) : iblk m c 2 t (ix2 k j) = m ((c : Thread nD τ).loc main_arg2) (ix2 k j) := by
  have he : (win0_2.blk t).view.emb (ix2 k j) = (ix2 k j : S1024x3072.Idx) := by
    blk_ext [idx t]
  exact (congrArg (V m c main_v1) he).trans (weight_at m c k j)

/-- The scaled queries. -/
theorem qs_final (c : Dev nD) : (dats m 0 c).arrAt 5 (cfgs 0).N
    = refQs (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have ht : t.val < 32 := lt_of_lt_of_eq t.isLt N_0
  idx_vars y
  have he : ((View.whole main_v10_0).slice (win0_5.rect t)).emb (ix2 y0 y1)
      = (ix2 ⟨t.val * 512 + y0.val, by omega⟩ y1 : S16384x1024.Idx) := by
    blk_ext [idx t]
  rw [he, refQs_at]
  refine (qs_at _ _ _ _ _ y0 y1).trans (congrArg (· * Ideal.ofBits .f32 0x3E0293EE#32) (segNorm_congr (fun j => projected_congr ?_ ?_ ?_) (blk_q m c t y1) y1))
  · intro k; exact blk_x m c t ht y0 k
  · intro k; exact blk_g m c t k
  · intro k; exact blk_w m c t k _

/-- The keys. -/
theorem k_final (c : Dev nD) : (dats m 0 c).arrAt 6 (cfgs 0).N
    = refK (m ((c : Thread nD τ).loc main_arg0)) (m ((c : Thread nD τ).loc main_arg1)) (m ((c : Thread nD τ).loc main_arg2)) (m ((c : Thread nD τ).loc main_arg4)) := by
  refine (dats m 0 c).arrAt_eq_of_covers 6 _ (by decide +kernel) fun t hf y => ?_
  blk_simp
  rw [after0_6]
  have ht : t.val < 32 := lt_of_lt_of_eq t.isLt N_0
  idx_vars y
  have he : ((View.whole main_v10_1).slice (win0_6.rect t)).emb (ix2 y0 y1)
      = (ix2 ⟨t.val * 512 + y0.val, by omega⟩ y1 : S16384x1024.Idx) := by
    blk_ext [idx t]
  rw [he, refK_at]
  refine (k_at _ _ _ _ _ y0 y1).trans (segNorm_congr (fun j => projected_congr ?_ ?_ ?_) (blk_k m c t y1) y1)
  · intro k; exact blk_x m c t ht y0 k
  · intro k; exact blk_g m c t k
  · intro k; exact blk_w m c t k _

/-- The values. -/
theorem v_final (c : Dev nD) : (dats m 0 c).arrAt 7 (cfgs 0).N
    = refV (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  have ht : t.val < 32 := lt_of_lt_of_eq t.isLt N_0
  idx_vars y
  have he : ((View.whole main_v10_2).slice (win0_7.rect t)).emb (ix2 y0 y1)
      = (ix2 ⟨t.val * 512 + y0.val, by omega⟩ y1 : S16384x1024.Idx) := by
    blk_ext [idx t]
  rw [he, refV_at]
  refine (v_at _ _ _ _ _ y0 y1).trans (projected_congr ?_ ?_ ?_)
  · intro k; exact blk_x m c t ht y0 k
  · intro k; exact blk_g m c t k
  · intro k; exact blk_w m c t k _

/-- The queries. -/
theorem q_final (c : Dev nD) : (dats m 0 c).arrAt 8 (cfgs 0).N
    = refQ (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  have ht : t.val < 32 := lt_of_lt_of_eq t.isLt N_0
  idx_vars y
  have he : ((View.whole main_v10_3).slice (win0_8.rect t)).emb (ix2 y0 y1)
      = (ix2 ⟨t.val * 512 + y0.val, by omega⟩ y1 : S16384x1024.Idx) := by
    blk_ext [idx t]
  rw [he, refQ_at]
  refine (q_at _ _ _ _ _ y0 y1).trans (segNorm_congr (fun j => projected_congr ?_ ?_ ?_) (blk_q m c t y1) y1)
  · intro k; exact blk_x m c t ht y0 k
  · intro k; exact blk_g m c t k
  · intro k; exact blk_w m c t k _

/-- The rounded keys. -/
theorem kb_final (c : Dev nD) : (dats m 0 c).arrAt 9 (cfgs 0).N
    = refKb (m ((c : Thread nD τ).loc main_arg0)) (m ((c : Thread nD τ).loc main_arg1)) (m ((c : Thread nD τ).loc main_arg2)) (m ((c : Thread nD τ).loc main_arg4)) := by
  refine (dats m 0 c).arrAt_eq_of_covers 9 _ (by decide +kernel) fun t hf y => ?_
  blk_simp
  rw [after0_9]
  have ht : t.val < 32 := lt_of_lt_of_eq t.isLt N_0
  idx_vars y
  have he : ((View.whole main_v10_4).slice (win0_9.rect t)).emb (ix2 y0 y1)
      = (ix2 ⟨t.val * 512 + y0.val, by omega⟩ y1 : S16384x1024.Idx) := by
    blk_ext [idx t]
  rw [he, refKb_at]
  refine (kb_at _ _ _ _ _ y0 y1).trans (segNorm_congr (fun j => projected_congr ?_ ?_ ?_) (blk_k m c t y1) y1)
  · intro k; exact blk_x m c t ht y0 k
  · intro k; exact blk_g m c t k
  · intro k; exact blk_w m c t k _

/-- The transposed values. -/
theorem vt_final (c : Dev nD) : (dats m 0 c).arrAt 10 (cfgs 0).N
    = refVt (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  have ht : t.val < 32 := lt_of_lt_of_eq t.isLt N_0
  idx_vars y
  have he : ((View.whole main_v10_5).slice (win0_10.rect t)).emb (ix5 y0 y1 y2 y3 y4)
      = (ix5 ⟨t.val / 16, by omega⟩ y1 ⟨t.val % 16 * 2 + y2.val, by omega⟩ y3 y4 : S2x8x32x128x256.Idx) := by
    blk_ext [idx t]
  rw [he, refVt_at, refV_at]
  have hr : t.val / 16 * 8192 + (t.val % 16 * 2 + y2.val) * 256 + y4.val = t.val * 512 + (y2.val * 256 + y4.val) := by omega
  refine (vt_at _ _ _ _ _ y0 y1 y2 y3 y4).trans (projected_congr ?_ ?_ ?_)
  · intro k
    refine (blk_x m c t ht _ k).trans ?_
    simp only [hr]
  · intro k; exact blk_g m c t k
  · intro k
    refine (blk_w m c t k _).trans ?_
    simp only [Nat.add_assoc]

end Cert.MobaPre

end
-- ==== Proof.MobaPre.Claims.lean ====
module

public import proofs.«01_k».proof.Defs
public import proofs.«01_k».proof.Proof.Gen.Kernel5.Frame
public import proofs.«01_k».proof.Proof.MobaPre.Array
public import Idealize.ShloMosaic.Lib.Claim
public import Idealize.ShloMosaic.Lib.Quiescent

/-! The claims about what enters the block attention: the runs of the two kernel programs and of the reference, and the equality of the
    results. -/

@[expose] public section

set_option maxRecDepth 16384

noncomputable section

namespace Cert.MobaPre

open Idealize.ShloMosaic Idealize.SL.Sem

/-- The kernel as printed terminates and leaves its arguments as they were. -/
theorem kernel_frame : Cert.quiescent_Kernel5 := fun m ρ _ => Cert.Kernel5.Gen.frame m ρ

/-- The same for the kernel over the extended reals. -/
theorem kernelIdeal_frame : Cert.quiescent_Kernel5Ideal := fun m ρ _ => Cert.Kernel5Ideal.Gen.frame m ρ

set_option maxHeartbeats 1600000 in
/-- The same for the reference over the extended reals. -/
theorem referenceIdeal_frame : Cert.quiescent_Reference5Ideal := by
  intro m g _
  hlo_run
  · simp only [and_self, implies_true]
  · exact sem_eq_zero_of_no_sems (sig := Cert.Reference5Ideal.sig) (by decide) _

/-- The idealised kernel is the printed one. -/
theorem preserves : Cert.preserves_Kernel5_Kernel5Ideal := trivial

set_option maxHeartbeats 1600000 in
/-- Over the extended reals the kernel's results are the reference's. -/
theorem algebraic : Cert.algebraic_Kernel5Ideal_Reference5Ideal := by
  pair_intro
  · run_from Cert.Kernel5Ideal.Gen.run_main m g
    all_goals first | exact Cert.Kernel5Ideal.Gen.V_main_arg0 m c | exact Cert.Kernel5Ideal.Gen.V_main_arg1 m c | exact Cert.Kernel5Ideal.Gen.V_main_arg2 m c | exact Cert.Kernel5Ideal.Gen.V_main_arg3 m c | exact Cert.Kernel5Ideal.Gen.V_main_arg4 m c
  · hlo_run
    · exact (qs_final m c).symm
    · exact (k_final m c).symm
    · exact (v_final m c).symm
    · exact (q_final m c).symm
    · exact (kb_final m c).symm
    · exact (vt_final m c).symm

end Cert.MobaPre

end
-- ==== Proof.DiffAttn.State.lean ====
/- The body's scratch between its phases, and the buffers as separation-logic resources. -/
module

public import proofs.«01_k».proof.Defs
public import proofs.«01_k».proof.Proof.Gen.Kernel6Ideal.Frame
public import proofs.«01_k».proof.Proof.Gen.Kernel6Ideal.Loops
public import proofs.«01_k».proof.Proof.Gen.Kernel6Ideal.Points

@[expose] public section

set_option maxRecDepth 16384

noncomputable section

namespace Cert.Proof.DiffAttn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the scratch buffers hold between phases: the scores and column maxima of the first group buffer, and each map's running
    maximum, denominator and accumulator. -/
structure St (F : FTy → Type) where
  sA : Vec F S2x2x512x512 .f32
  mA : Vec F S2x2x1x512 .f32
  m1 : Vec F S1x512 .f32
  l1 : Vec F S1x512 .f32
  a1 : Vec F S128x512 .f32
  m2 : Vec F S1x512 .f32
  l2 : Vec F S1x512 .f32
  a2 : Vec F S128x512 .f32

/-- The scratch buffers at the contents `s`; the second group buffer holds anything. -/
def scrP (c : Dev nD) (arg13 : Memref sig .tc .vmem S2x2x512x512 .f32) (arg14 : Memref sig .tc .vmem S2x2x512x512 .f32) (arg15 : Memref sig .tc .vmem S2x2x1x512 .f32) (arg16 : Memref sig .tc .vmem S2x2x1x512 .f32) (arg17 : Memref sig .tc .vmem S1x512 .f32) (arg18 : Memref sig .tc .vmem S1x512 .f32) (arg19 : Memref sig .tc .vmem S128x512 .f32) (arg20 : Memref sig .tc .vmem S1x512 .f32) (arg21 : Memref sig .tc .vmem S1x512 .f32) (arg22 : Memref sig .tc .vmem S128x512 .f32) (s : St F) : sProp 𝕄 :=
  iprop(owns (c : Thread nD τ) arg13 fullShare s.sA ∗ (∃ d, owns (c : Thread nD τ) arg14 fullShare d) ∗ owns (c : Thread nD τ) arg15 fullShare s.mA ∗ (∃ d, owns (c : Thread nD τ) arg16 fullShare d) ∗ owns (c : Thread nD τ) arg17 fullShare s.m1 ∗ owns (c : Thread nD τ) arg18 fullShare s.l1 ∗ owns (c : Thread nD τ) arg19 fullShare s.a1 ∗ owns (c : Thread nD τ) arg20 fullShare s.m2 ∗ owns (c : Thread nD τ) arg21 fullShare s.l2 ∗ owns (c : Thread nD τ) arg22 fullShare s.a2)

end Cert.Proof.DiffAttn

end
-- ==== Proof.DiffAttn.Pre.lean ====
/- The body before the main loop: the query tiles read, the states set, the scores of the first group. -/
module

public import proofs.«01_k».proof.Defs
public import proofs.«01_k».proof.Proof.Gen.Kernel6Ideal.Frame
public import proofs.«01_k».proof.Proof.Gen.Kernel6Ideal.Loops
public import proofs.«01_k».proof.Proof.Gen.Kernel6Ideal.Points
public import proofs.«01_k».proof.Proof.DiffAttn.State

@[expose] public section

set_option maxRecDepth 16384

noncomputable section

namespace Cert.Proof.DiffAttn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body up to the main loop, before the rest `K`. -/
noncomputable def preProg (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x2x512x512 .f32) (harg13 : arg13.IsWhole) (arg14 : Memref sig .tc .vmem S2x2x512x512 .f32) (harg14 : arg14.IsWhole) (arg15 : Memref sig .tc .vmem S2x2x1x512 .f32) (harg15 : arg15.IsWhole) (arg16 : Memref sig .tc .vmem S2x2x1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole) {α : Type} (K : BitVec 32 → FVec F S512x128 .bf16 → FVec F S512x128 .bf16 → BitVec 32 → BitVec 32 → BitVec 32 → BitVec 32 → BitVec 32 → BitVec 32 → BitVec 32 → BitVec 32 → BitVec 32 → Prog (TpuEff nD τ sig (Elt F) Λ₀ .tc) α) :
    Prog (TpuEff nD τ sig (Elt F) Λ₀ .tc) α := do
  let ⟨arg2, v6, v10, v30⟩ : Σ' (arg2 : BitVec 32) (v6 : FVec F S512x128 .bf16) (v10 : FVec F S512x128 .bf16), FVec F S1x512 .f32 ← k0_part35 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
  let ⟨v36, v53, v55, v60, v62, v63⟩ : Σ' (v36 : BitVec 32) (v53 : BitVec 32) (v55 : BitVec 32) (v60 : FVec F S512x512 .f32) (v62 : FVec F S512x512 .f32), BitVec 32 ← k0_part36 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v30
  let ⟨v92, v93⟩ : Σ' (v92 : FVec F S512x128 .bf16), FVec F S512x512 .f32 ← k0_part37 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v6 v10 v55 v62 v63
  let ⟨v113, v115, c2_i32_87, v116, v121, v123⟩ : Σ' (v113 : BitVec 32) (v115 : BitVec 32) (c2_i32_87 : BitVec 32) (v116 : BitVec 32) (v121 : BitVec 32), BitVec 32 ← k0_part38 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v10 v53 v60 v92 v93
  K arg2 v6 v10 v36 v53 v55 v113 v115 c2_i32_87 v116 v121 v123

variable (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x2x512x512 .f32) (harg13 : arg13.IsWhole) (arg14 : Memref sig .tc .vmem S2x2x512x512 .f32) (harg14 : arg14.IsWhole) (arg15 : Memref sig .tc .vmem S2x2x1x512 .f32) (harg15 : arg15.IsWhole) (arg16 : Memref sig .tc .vmem S2x2x1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole)
  (x0 : Vec F S1x512x128 .bf16) (x1 : Vec F S1x8192x128 .bf16) (x3 : Vec F S1x2x512x512 .f32)

set_option maxHeartbeats 1600000 in
/-- The body up to the main loop: the contents it leaves are found by the run. -/
def preRun :
    Σ' (u6 : FVec F S512x128 .bf16), Σ' (u10 : FVec F S512x128 .bf16), Σ' (u36 : BitVec 32), Σ' (u53 : BitVec 32), Σ' (u55 : BitVec 32), Σ' (u113 : BitVec 32), Σ' (u115 : BitVec 32), Σ' (u116 : BitVec 32), Σ' (u121 : BitVec 32), Σ' (p13 : List (View.Piece (Elt F) S2x2x512x512 .f32)), Σ' (p15 : List (View.Piece (Elt F) S2x2x1x512 .f32)), Σ' (p17 : List (View.Piece (Elt F) S1x512 .f32)), Σ' (p18 : List (View.Piece (Elt F) S1x512 .f32)), Σ' (p19 : List (View.Piece (Elt F) S128x512 .f32)), Σ' (p20 : List (View.Piece (Elt F) S1x512 .f32)), Σ' (p21 : List (View.Piece (Elt F) S1x512 .f32)), Σ' (p22 : List (View.Piece (Elt F) S128x512 .f32)), ∀ (E : Set ℕ) {α : Type} (K : BitVec 32 → FVec F S512x128 .bf16 → FVec F S512x128 .bf16 → BitVec 32 → BitVec 32 → BitVec 32 → BitVec 32 → BitVec 32 → BitVec 32 → BitVec 32 → BitVec 32 → BitVec 32 → Prog (TpuEff nD τ sig (Elt F) Λ₀ .tc) α) (Q : α → sProp 𝕄),
    iprop(owns (c : Thread nD τ) arg3 fullShare x0 ∗ owns (c : Thread nD τ) arg4 fullShare x1 ∗ owns (c : Thread nD τ) arg6 fullShare x3 ∗
      (∃ d, owns (c : Thread nD τ) arg13 fullShare d) ∗ (∃ d, owns (c : Thread nD τ) arg15 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗
      (owns (c : Thread nD τ) arg3 fullShare x0 -∗ owns (c : Thread nD τ) arg4 fullShare x1 -∗ owns (c : Thread nD τ) arg6 fullShare x3 -∗
        (∃ e, (arg13.view.loc (c : Thread nD τ) ↦[arg13.view.set]{fullShare} arg13.view.writes (Elt F) e p13)) -∗ (∃ e, (arg15.view.loc (c : Thread nD τ) ↦[arg15.view.set]{fullShare} arg15.view.writes (Elt F) e p15)) -∗ (∃ e, (arg17.view.loc (c : Thread nD τ) ↦[arg17.view.set]{fullShare} arg17.view.writes (Elt F) e p17)) -∗ (∃ e, (arg18.view.loc (c : Thread nD τ) ↦[arg18.view.set]{fullShare} arg18.view.writes (Elt F) e p18)) -∗ (∃ e, (arg19.view.loc (c : Thread nD τ) ↦[arg19.view.set]{fullShare} arg19.view.writes (Elt F) e p19)) -∗ (∃ e, (arg20.view.loc (c : Thread nD τ) ↦[arg20.view.set]{fullShare} arg20.view.writes (Elt F) e p20)) -∗ (∃ e, (arg21.view.loc (c : Thread nD τ) ↦[arg21.view.set]{fullShare} arg21.view.writes (Elt F) e p21)) -∗ (∃ e, (arg22.view.loc (c : Thread nD τ) ↦[arg22.view.set]{fullShare} arg22.view.writes (Elt F) e p22)) -∗
        wp frame (wpE (defs₀ (F := F)) Variants.none (c : Thread nD τ) none) E (K (BitVec.ofNat 32 (i 2).val) u6 u10 u36 u53 u55 u113 u115 (2#32) u116 u121 (1#32)) Q))
      ⊢ wp frame (wpE (defs₀ (F := F)) Variants.none (c : Thread nD τ) none) E (preProg (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 K) Q := by
  refine ⟨?_, ?_, ?_, ?_, ?_, ?_, ?_, ?_, ?_, ?_, ?_, ?_, ?_, ?_, ?_, ?_, ?_, fun E α K Q => ?run⟩
  case run =>
    unfold preProg
    simp only [k0_part35_eq_skeleton, k0_part36_eq_skeleton, k0_part37_eq_skeleton, k0_part38_eq_skeleton]
    unfold owns
    iintro ⟨⟨%f3, %hf3, H3⟩, ⟨%f4, %hf4, H4⟩, ⟨%f6, %hf6, H6⟩, ⟨%d13, %f13, %hf13, H13⟩, ⟨%d15, %f15, %hf15, H15⟩, ⟨%d17, %f17, %hf17, H17⟩, ⟨%d18, %f18, %hf18, H18⟩, ⟨%d19, %f19, %hf19, H19⟩, ⟨%d20, %f20, %hf20, H20⟩, ⟨%d21, %f21, %hf21, H21⟩, ⟨%d22, %f22, %hf22, H22⟩, HK⟩
    obtain rfl := harg3.eq_unread hf3; obtain rfl := harg4.eq_unread hf4; obtain rfl := harg6.eq_unread hf6
    sl_exec
    iapply HK $$ [H3] [H4] [H6] [H13] [H15] [H17] [H18] [H19] [H20] [H21] [H22]
    · iexists _; isplitr; swap; · iexact H3
      ipureintro; exact harg3.read_unread _
    · iexists _; isplitr; swap; · iexact H4
      ipureintro; exact harg4.read_unread _
    · iexists _; isplitr; swap; · iexact H6
      ipureintro; exact harg6.read_unread _
    · iexists _; iexact H13
    · iexists _; iexact H15
    · iexists _; iexact H17
    · iexists _; iexact H18
    · iexists _; iexact H19
    · iexists _; iexact H20
    · iexists _; iexact H21
    · iexists _; iexact H22

/-! The words and tiles the rest of the body reads. -/

/-- The value `6` handed to the rest of the body. -/
def pre_u6 : FVec F S512x128 .bf16 :=
  (preRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3).1

/-- The value `10` handed to the rest of the body. -/
def pre_u10 : FVec F S512x128 .bf16 :=
  (preRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3).2.1

/-- The value `36` handed to the rest of the body. -/
def pre_u36 : BitVec 32 :=
  (preRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3).2.2.1

/-- The value `53` handed to the rest of the body. -/
def pre_u53 : BitVec 32 :=
  (preRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3).2.2.2.1

/-- The value `55` handed to the rest of the body. -/
def pre_u55 : BitVec 32 :=
  (preRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3).2.2.2.2.1

/-- The value `113` handed to the rest of the body. -/
def pre_u113 : BitVec 32 :=
  (preRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3).2.2.2.2.2.1

/-- The value `115` handed to the rest of the body. -/
def pre_u115 : BitVec 32 :=
  (preRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3).2.2.2.2.2.2.1

/-- The value `116` handed to the rest of the body. -/
def pre_u116 : BitVec 32 :=
  (preRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3).2.2.2.2.2.2.2.1

/-- The value `121` handed to the rest of the body. -/
def pre_u121 : BitVec 32 :=
  (preRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3).2.2.2.2.2.2.2.2.1

/-- The scratch before the main loop. -/
def preSt : St F :=
  ⟨arg13.view.read (Elt F) (arg13.view.writes (Elt F) arg13.view.junk (preRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3).2.2.2.2.2.2.2.2.2.1),
   arg15.view.read (Elt F) (arg15.view.writes (Elt F) arg15.view.junk (preRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3).2.2.2.2.2.2.2.2.2.2.1),
   arg17.view.read (Elt F) (arg17.view.writes (Elt F) arg17.view.junk (preRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3).2.2.2.2.2.2.2.2.2.2.2.1),
   arg18.view.read (Elt F) (arg18.view.writes (Elt F) arg18.view.junk (preRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3).2.2.2.2.2.2.2.2.2.2.2.2.1),
   arg19.view.read (Elt F) (arg19.view.writes (Elt F) arg19.view.junk (preRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3).2.2.2.2.2.2.2.2.2.2.2.2.2.1),
   arg20.view.read (Elt F) (arg20.view.writes (Elt F) arg20.view.junk (preRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3).2.2.2.2.2.2.2.2.2.2.2.2.2.2.1),
   arg21.view.read (Elt F) (arg21.view.writes (Elt F) arg21.view.junk (preRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3).2.2.2.2.2.2.2.2.2.2.2.2.2.2.2.1),
   arg22.view.read (Elt F) (arg22.view.writes (Elt F) arg22.view.junk (preRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3).2.2.2.2.2.2.2.2.2.2.2.2.2.2.2.2.1)⟩

set_option maxHeartbeats 1600000 in
/-- The body up to the main loop takes the scratch from anything to `preSt`. -/
theorem preTriple (E : Set ℕ) {α : Type} (K : BitVec 32 → FVec F S512x128 .bf16 → FVec F S512x128 .bf16 → BitVec 32 → BitVec 32 → BitVec 32 → BitVec 32 → BitVec 32 → BitVec 32 → BitVec 32 → BitVec 32 → BitVec 32 → Prog (TpuEff nD τ sig (Elt F) Λ₀ .tc) α) (Q : α → sProp 𝕄) :
    iprop(owns (c : Thread nD τ) arg3 fullShare x0 ∗ owns (c : Thread nD τ) arg4 fullShare x1 ∗ owns (c : Thread nD τ) arg6 fullShare x3 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗
      (owns (c : Thread nD τ) arg3 fullShare x0 -∗ owns (c : Thread nD τ) arg4 fullShare x1 -∗ owns (c : Thread nD τ) arg6 fullShare x3 -∗ scrP c arg13 arg14 arg15 arg16 arg17 arg18 arg19 arg20 arg21 arg22 (preSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) -∗ wp frame (wpE (defs₀ (F := F)) Variants.none (c : Thread nD τ) none) E (K (BitVec.ofNat 32 (i 2).val) (pre_u6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (pre_u10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (pre_u36 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (pre_u53 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (pre_u55 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (pre_u113 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (pre_u115 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (2#32) (pre_u116 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (pre_u121 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (1#32)) Q))
      ⊢ wp frame (wpE (defs₀ (F := F)) Variants.none (c : Thread nD τ) none) E (preProg (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 K) Q := by
  iintro ⟨A3, A4, A6, A13, A14, A15, A16, A17, A18, A19, A20, A21, A22, HK⟩
  iapply ((preRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3).2.2.2.2.2.2.2.2.2.2.2.2.2.2.2.2.2 E K Q) $$ [A3 A4 A6 A13 A15 A17 A18 A19 A20 A21 A22 HK A14 A16]
  isplitl [A3]; · iexact A3
  isplitl [A4]; · iexact A4
  isplitl [A6]; · iexact A6
  isplitl [A13]; · iexact A13
  isplitl [A15]; · iexact A15
  isplitl [A17]; · iexact A17
  isplitl [A18]; · iexact A18
  isplitl [A19]; · iexact A19
  isplitl [A20]; · iexact A20
  isplitl [A21]; · iexact A21
  isplitl [A22]; · iexact A22
  iintro H3 H4 H6 ⟨%e13, H13⟩ ⟨%e15, H15⟩ ⟨%e17, H17⟩ ⟨%e18, H18⟩ ⟨%e19, H19⟩ ⟨%e20, H20⟩ ⟨%e21, H21⟩ ⟨%e22, H22⟩
  iapply HK $$ [H3] [H4] [H6]
  · iexact H3
  · iexact H4
  · iexact H6
  unfold scrP preSt
  isplitl [H13]
  · unfold owns; iexists _; isplitr; swap; · iexact H13
    ipureintro; exact View.read_writes_of_cover _ _ _ _ _ (View.cover_of_tiledL _ S1x1x512x512.size (by sl_kernel_rfl))
  isplitl [A14]
  · iexact A14
  isplitl [H15]
  · unfold owns; iexists _; isplitr; swap; · iexact H15
    ipureintro; exact View.read_writes_of_cover _ _ _ _ _ (View.cover_of_tiledL _ S1x1x1x512.size (by sl_kernel_rfl))
  isplitl [A16]
  · iexact A16
  isplitl [H17]
  · unfold owns; iexists _; isplitr; swap; · iexact H17
    ipureintro; exact View.read_writes_of_cover _ _ _ _ _ (View.cover_of_tiledL _ S1x512.size (by sl_kernel_rfl))
  isplitl [H18]
  · unfold owns; iexists _; isplitr; swap; · iexact H18
    ipureintro; exact View.read_writes_of_cover _ _ _ _ _ (View.cover_of_tiledL _ S1x512.size (by sl_kernel_rfl))
  isplitl [H19]
  · unfold owns; iexists _; isplitr; swap; · iexact H19
    ipureintro; exact View.read_writes_of_cover _ _ _ _ _ (View.cover_of_tiledL _ S128x512.size (by sl_kernel_rfl))
  isplitl [H20]
  · unfold owns; iexists _; isplitr; swap; · iexact H20
    ipureintro; exact View.read_writes_of_cover _ _ _ _ _ (View.cover_of_tiledL _ S1x512.size (by sl_kernel_rfl))
  isplitl [H21]
  · unfold owns; iexists _; isplitr; swap; · iexact H21
    ipureintro; exact View.read_writes_of_cover _ _ _ _ _ (View.cover_of_tiledL _ S1x512.size (by sl_kernel_rfl))
  unfold owns; iexists _; isplitr; swap; · iexact H22
  ipureintro; exact View.read_writes_of_cover _ _ _ _ _ (View.cover_of_tiledL _ S128x512.size (by sl_kernel_rfl))

end Cert.Proof.DiffAttn

end
-- ==== Proof.DiffAttn.Trip.lean ====
/- One trip of the main loop: a group of scores written, a group folded, twice. -/
module

public import proofs.«01_k».proof.Defs
public import proofs.«01_k».proof.Proof.Gen.Kernel6Ideal.Frame
public import proofs.«01_k».proof.Proof.Gen.Kernel6Ideal.Loops
public import proofs.«01_k».proof.Proof.Gen.Kernel6Ideal.Points
public import proofs.«01_k».proof.Proof.DiffAttn.State

@[expose] public section

set_option maxRecDepth 16384

noncomputable section

namespace Cert.Proof.DiffAttn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x2x512x512 .f32) (harg13 : arg13.IsWhole) (arg14 : Memref sig .tc .vmem S2x2x512x512 .f32) (harg14 : arg14.IsWhole) (arg15 : Memref sig .tc .vmem S2x2x1x512 .f32) (harg15 : arg15.IsWhole) (arg16 : Memref sig .tc .vmem S2x2x1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole)
  (x1 : Vec F S1x8192x128 .bf16) (x2 : Vec F S1x1x16x128x512 .bf16)

section Trip

variable (arg2 : BitVec 32) (v6 v10 : FVec F S512x128 .bf16) (v36 v53 v55 v113 v115 c2_i32_87 v116 v121 v123 : BitVec 32)

set_option maxHeartbeats 1600000 in
/-- One trip of the main loop, the contents it leaves to be found. -/
def tripRun (k : Fin (k0_t1_loop i).trips) (s : St F) :
    Σ' (p13 : List (View.Piece (Elt F) S2x2x512x512 .f32)), Σ' (p15 : List (View.Piece (Elt F) S2x2x1x512 .f32)), Σ' (p17 : List (View.Piece (Elt F) S1x512 .f32)), Σ' (p18 : List (View.Piece (Elt F) S1x512 .f32)), Σ' (p19 : List (View.Piece (Elt F) S128x512 .f32)), Σ' (p20 : List (View.Piece (Elt F) S1x512 .f32)), Σ' (p21 : List (View.Piece (Elt F) S1x512 .f32)), Σ' (p22 : List (View.Piece (Elt F) S128x512 .f32)), ∀ E : Set ℕ, iprop(owns (c : Thread nD τ) arg4 fullShare x1 ∗ owns (c : Thread nD τ) arg5 fullShare x2 ∗ scrP c arg13 arg14 arg15 arg16 arg17 arg18 arg19 arg20 arg21 arg22 s)
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v6 v10 v36 v53 v55 v113 v115 c2_i32_87 v116 v121 v123 k ()) (fun _ => iprop(owns (c : Thread nD τ) arg4 fullShare x1 ∗ owns (c : Thread nD τ) arg5 fullShare x2 ∗ (arg13.view.loc (c : Thread nD τ) ↦[arg13.view.set]{fullShare} arg13.view.writes (Elt F) (harg13.unread s.sA) p13) ∗ (∃ d, owns (c : Thread nD τ) arg14 fullShare d) ∗ (arg15.view.loc (c : Thread nD τ) ↦[arg15.view.set]{fullShare} arg15.view.writes (Elt F) (harg15.unread s.mA) p15) ∗ (∃ d, owns (c : Thread nD τ) arg16 fullShare d) ∗ (arg17.view.loc (c : Thread nD τ) ↦[arg17.view.set]{fullShare} arg17.view.writes (Elt F) (harg17.unread s.m1) p17) ∗ (arg18.view.loc (c : Thread nD τ) ↦[arg18.view.set]{fullShare} arg18.view.writes (Elt F) (harg18.unread s.l1) p18) ∗ (arg19.view.loc (c : Thread nD τ) ↦[arg19.view.set]{fullShare} arg19.view.writes (Elt F) (harg19.unread s.a1) p19) ∗ (arg20.view.loc (c : Thread nD τ) ↦[arg20.view.set]{fullShare} arg20.view.writes (Elt F) (harg20.unread s.m2) p20) ∗ (arg21.view.loc (c : Thread nD τ) ↦[arg21.view.set]{fullShare} arg21.view.writes (Elt F) (harg21.unread s.l2) p21) ∗ (arg22.view.loc (c : Thread nD τ) ↦[arg22.view.set]{fullShare} arg22.view.writes (Elt F) (harg22.unread s.a2) p22))) := by
  refine ⟨?_, ?_, ?_, ?_, ?_, ?_, ?_, ?_, fun E => ?run⟩
  case run =>
    sl_unfold [k0_t1_body]
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold scrP owns
    iintro ⟨⟨%f4, %hf4, H4⟩, ⟨%f5, %hf5, H5⟩, ⟨%f13, %hf13, H13⟩, ⟨%d14, %f14, %hf14, H14⟩, ⟨%f15, %hf15, H15⟩, ⟨%d16, %f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩
    obtain rfl := harg4.eq_unread hf4; obtain rfl := harg5.eq_unread hf5; obtain rfl := harg13.eq_unread hf13; obtain rfl := harg15.eq_unread hf15; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec
    sl_step
    isplitl [H4]
    · iexists _; isplitr; swap; · iexact H4
      ipureintro; exact harg4.read_unread _
    isplitl [H5]
    · iexists _; isplitr; swap; · iexact H5
      ipureintro; exact harg5.read_unread _
    isplitl [H13]
    · iexact H13
    isplitl [H14]
    · iexists _; iexists _; isplitr; swap; · iexact H14
      ipureintro; rfl
    isplitl [H15]
    · iexact H15
    isplitl [H16]
    · iexists _; iexists _; isplitr; swap; · iexact H16
      ipureintro; rfl
    isplitl [H17]
    · iexact H17
    isplitl [H18]
    · iexact H18
    isplitl [H19]
    · iexact H19
    isplitl [H20]
    · iexact H20
    isplitl [H21]
    · iexact H21
    iexact H22

/-- The scratch after it. -/
def tripSt (k : Fin (k0_t1_loop i).trips) (s : St F) : St F :=
  ⟨arg13.view.read (Elt F) (arg13.view.writes (Elt F) (harg13.unread s.sA) (tripRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 k s).1),
   arg15.view.read (Elt F) (arg15.view.writes (Elt F) (harg15.unread s.mA) (tripRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 k s).2.1),
   arg17.view.read (Elt F) (arg17.view.writes (Elt F) (harg17.unread s.m1) (tripRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 k s).2.2.1),
   arg18.view.read (Elt F) (arg18.view.writes (Elt F) (harg18.unread s.l1) (tripRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 k s).2.2.2.1),
   arg19.view.read (Elt F) (arg19.view.writes (Elt F) (harg19.unread s.a1) (tripRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 k s).2.2.2.2.1),
   arg20.view.read (Elt F) (arg20.view.writes (Elt F) (harg20.unread s.m2) (tripRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 k s).2.2.2.2.2.1),
   arg21.view.read (Elt F) (arg21.view.writes (Elt F) (harg21.unread s.l2) (tripRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 k s).2.2.2.2.2.2.1),
   arg22.view.read (Elt F) (arg22.view.writes (Elt F) (harg22.unread s.a2) (tripRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 k s).2.2.2.2.2.2.2.1)⟩

set_option maxHeartbeats 1600000 in
/-- It takes the scratch at `s` to the scratch at `tripSt s`. -/
theorem tripTriple (k : Fin (k0_t1_loop i).trips) (s : St F) (E : Set ℕ) :
    iprop(owns (c : Thread nD τ) arg4 fullShare x1 ∗ owns (c : Thread nD τ) arg5 fullShare x2 ∗ scrP c arg13 arg14 arg15 arg16 arg17 arg18 arg19 arg20 arg21 arg22 s)
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v6 v10 v36 v53 v55 v113 v115 c2_i32_87 v116 v121 v123 k ()) (fun _ => iprop(owns (c : Thread nD τ) arg4 fullShare x1 ∗ owns (c : Thread nD τ) arg5 fullShare x2 ∗ scrP c arg13 arg14 arg15 arg16 arg17 arg18 arg19 arg20 arg21 arg22 (tripSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 k s))) := by
  iintro H
  iapply (wp_wand_r Idealize.ShloMosaic.frame (wpE (defs₀ (F := F)) Variants.none (c : Thread nD τ) none) E)
  isplitl [H]
  · iapply ((tripRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 k s).2.2.2.2.2.2.2.2 E); iexact H
  · iintro %_ ⟨H4, H5, H13, H14, H15, H16, H17, H18, H19, H20, H21, H22⟩
    unfold scrP tripSt
    isplitl [H4]
    · iexact H4
    isplitl [H5]
    · iexact H5
    isplitl [H13]
    · unfold owns; iexists _; isplitr; swap; · iexact H13
      ipureintro; rfl
    isplitl [H14]
    · iexact H14
    isplitl [H15]
    · unfold owns; iexists _; isplitr; swap; · iexact H15
      ipureintro; rfl
    isplitl [H16]
    · iexact H16
    isplitl [H17]
    · unfold owns; iexists _; isplitr; swap; · iexact H17
      ipureintro; rfl
    isplitl [H18]
    · unfold owns; iexists _; isplitr; swap; · iexact H18
      ipureintro; rfl
    isplitl [H19]
    · unfold owns; iexists _; isplitr; swap; · iexact H19
      ipureintro; rfl
    isplitl [H20]
    · unfold owns; iexists _; isplitr; swap; · iexact H20
      ipureintro; rfl
    isplitl [H21]
    · unfold owns; iexists _; isplitr; swap; · iexact H21
      ipureintro; rfl
    unfold owns; iexists _; isplitr; swap; · iexact H22
    ipureintro; rfl

end Trip

end Cert.Proof.DiffAttn

end
-- ==== Proof.DiffAttn.Loop.lean ====
/- The main loop: its trips one after another. -/
module

public import proofs.«01_k».proof.Defs
public import proofs.«01_k».proof.Proof.Gen.Kernel6Ideal.Frame
public import proofs.«01_k».proof.Proof.Gen.Kernel6Ideal.Loops
public import proofs.«01_k».proof.Proof.Gen.Kernel6Ideal.Points
public import proofs.«01_k».proof.Proof.DiffAttn.Trip

@[expose] public section

set_option maxRecDepth 16384

noncomputable section

namespace Cert.Proof.DiffAttn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x2x512x512 .f32) (harg13 : arg13.IsWhole) (arg14 : Memref sig .tc .vmem S2x2x512x512 .f32) (harg14 : arg14.IsWhole) (arg15 : Memref sig .tc .vmem S2x2x1x512 .f32) (harg15 : arg15.IsWhole) (arg16 : Memref sig .tc .vmem S2x2x1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole)
  (x1 : Vec F S1x8192x128 .bf16) (x2 : Vec F S1x1x16x128x512 .bf16)

section Trip

variable (arg2 : BitVec 32) (v6 v10 : FVec F S512x128 .bf16) (v36 v53 v55 v113 v115 c2_i32_87 v116 v121 v123 : BitVec 32)

/-- The scratch before each trip, from `s` before the first. -/
def loopSt (s : St F) : ℕ → St F
  | 0 => s
  | k + 1 => if h : k < (k0_t1_loop i).trips then tripSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 ⟨k, h⟩ (loopSt s k) else loopSt s k

set_option warn.classDefReducibility false in
/-- Before trip `k` the scratch holds `loopSt s k`. -/
def loopInv1 (s : St F) (E : Set ℕ) : LoopInvTy_k0_t1 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v6 v10 v36 v53 v55 v113 v115 c2_i32_87 v116 v121 v123 where
  inv k _ := iprop(owns (c : Thread nD τ) arg4 fullShare x1 ∗ owns (c : Thread nD τ) arg5 fullShare x2 ∗ scrP c arg13 arg14 arg15 arg16 arg17 arg18 arg19 arg20 arg21 arg22 (loopSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 s k))
  step k _ := by
    have h : loopSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 s (k.val + 1) = tripSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 k (loopSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 s k.val) := by
      rw [loopSt, dif_pos k.isLt]
    rw [h]
    exact tripTriple c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 k (loopSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 s k.val) E

/-- The remainder loop makes no trips. -/
theorem trips2_eq : (k0_t2_loop i).trips = 0 := by
  have h : ∀ q : Fin 16, (k0_t2_loop (fun a => match a with | 0 => (0 : Fin 2) | 1 => (0 : Fin 8) | 2 => q)).trips = 0 := by
    decide +kernel
  exact (congrArg Scf.Loop.trips (show k0_t2_loop i = k0_t2_loop (fun a => match a with | 0 => (0 : Fin 2) | 1 => (0 : Fin 8) | 2 => i 2) from rfl)).trans (h (i 2))

set_option warn.classDefReducibility false in
/-- The remainder loop leaves everything as it is. -/
def loopInv2 (s : St F) (v137 : BitVec 32) (E : Set ℕ) : LoopInvTy_k0_t2 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v6 v10 v36 v53 v55 v113 v115 c2_i32_87 v116 v121 v123 v137 where
  inv _ _ := iprop(owns (c : Thread nD τ) arg4 fullShare x1 ∗ owns (c : Thread nD τ) arg5 fullShare x2 ∗ scrP c arg13 arg14 arg15 arg16 arg17 arg18 arg19 arg20 arg21 arg22 s)
  step k _ := (Nat.not_lt_zero _ (Nat.lt_of_lt_of_eq k.isLt (trips2_eq i))).elim

end Trip

end Cert.Proof.DiffAttn

end
-- ==== Proof.DiffAttn.Steps.lean ====
/- The branches after the main loop: the last groups, and the last far block. -/
module

public import proofs.«01_k».proof.Defs
public import proofs.«01_k».proof.Proof.Gen.Kernel6Ideal.Frame
public import proofs.«01_k».proof.Proof.Gen.Kernel6Ideal.Loops
public import proofs.«01_k».proof.Proof.Gen.Kernel6Ideal.Points
public import proofs.«01_k».proof.Proof.DiffAttn.State

@[expose] public section

set_option maxRecDepth 16384

noncomputable section

namespace Cert.Proof.DiffAttn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A branch's program before the rest `K`: one group is left after the loop: its scores are folded. -/
noncomputable def oddThen (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x2x512x512 .f32) (harg13 : arg13.IsWhole) (arg14 : Memref sig .tc .vmem S2x2x512x512 .f32) (harg14 : arg14.IsWhole) (arg15 : Memref sig .tc .vmem S2x2x1x512 .f32) (harg15 : arg15.IsWhole) (arg16 : Memref sig .tc .vmem S2x2x1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole) (arg2 v55 v138 : BitVec 32) (k0_h1 : k0_cond1 i = 1#1) {α : Type} (K : Unit → Prog (TpuEff nD τ sig (Elt F) Λ₀ .tc) α) :
    Prog (TpuEff nD τ sig (Elt F) Λ₀ .tc) α := do
  let ⟨v219, v221, v223, v225, v227, v229, v231⟩ : Σ' (v219 : BitVec 32) (v221 : BitVec 32) (v223 : FVec F S512x512 .f32) (v225 : FVec F S512x512 .f32) (v227 : FVec F S512x512 .f32) (v229 : FVec F S512x512 .f32), FVec F S1x512 .f32 ← k0_part23 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v55 v138
  let ⟨v233, v237, v240, v243, v246, v259, v262, v265, v266⟩ : Σ' (v233 : FVec F S1x512 .f32) (v237 : FVec F S1x512 .f32) (v240 : FVec F S128x512 .bf16) (v243 : FVec F S128x512 .bf16) (v246 : FVec F S1x512 .f32) (v259 : FVec F S1x512 .f32) (v262 : FVec F S128x512 .f32) (v265 : FVec F S512x512 .f32), FVec F S512 .f32 ← k0_part24 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 v219 v221 v223 v227 v231
  let ⟨v283, v299, v305, v306, cst_214⟩ : Σ' (v283 : FVec F S1x512 .f32) (v299 : FVec F S128x512 .f32) (v305 : FVec F S1x512 .f32) (v306 : FVec F S512x512 .bf16), FVec F S128x512 .f32 ← k0_part25 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v225 v229 v233 v237 v240 v243 v246 v259 v262 v265 v266
  let v309 : Vec F S1x512 .f32 ← Prog.lift (.load arg20 (Rect.unit (s := S1x512) ![0, 0] S1x512.size inb_S1x512_S1x512_0_0).toLoadRect (View.loadsAt_vmem h_S1x512))
  Prog.lift (.store arg20 (Rect.unit (s := S1x512) ![0, 0] S1x512.size inb_S1x512_S1x512_0_0) (k0_pay290 v283) Finset.univ (View.stores_vmem_bits_univ h_S1x512 rfl) (.inl rfl))
  let v312 : Vec F S1x512 .f32 ← Prog.lift (.load arg21 (Rect.unit (s := S1x512) ![0, 0] S1x512.size inb_S1x512_S1x512_0_0).toLoadRect (View.loadsAt_vmem h_S1x512))
  Prog.lift (.store arg21 (Rect.unit (s := S1x512) ![0, 0] S1x512.size inb_S1x512_S1x512_0_0) (k0_pay291 v305) Finset.univ (View.stores_vmem_bits_univ h_S1x512 rfl) (.inl rfl))
  let v315 : Vec F S128x512 .f32 ← Prog.lift (.load arg22 (Rect.unit (s := S128x512) ![0, 0] S128x512.size inb_S128x512_S128x512_0_0).toLoadRect (View.loadsAt_vmem h_S128x512))
  Prog.lift (.store arg22 (Rect.unit (s := S128x512) ![0, 0] S128x512.size inb_S128x512_S128x512_0_0) (k0_pay292 v243 v299 v306 cst_214) Finset.univ (View.stores_vmem_bits_univ h_S128x512 rfl) (.inl rfl))
  K ⟨⟩

/-- The branch taken or passed over. -/
noncomputable def oddIf (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x2x512x512 .f32) (harg13 : arg13.IsWhole) (arg14 : Memref sig .tc .vmem S2x2x512x512 .f32) (harg14 : arg14.IsWhole) (arg15 : Memref sig .tc .vmem S2x2x1x512 .f32) (harg15 : arg15.IsWhole) (arg16 : Memref sig .tc .vmem S2x2x1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole) (arg2 v55 v138 : BitVec 32) {α : Type} (K : Unit → Prog (TpuEff nD τ sig (Elt F) Λ₀ .tc) α) :
    Prog (TpuEff nD τ sig (Elt F) Λ₀ .tc) α :=
  if k0_h1 : k0_cond1 i = 1#1 then oddThen i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v55 v138 k0_h1 K else K ⟨⟩

section Odd

variable (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x2x512x512 .f32) (harg13 : arg13.IsWhole) (arg14 : Memref sig .tc .vmem S2x2x512x512 .f32) (harg14 : arg14.IsWhole) (arg15 : Memref sig .tc .vmem S2x2x1x512 .f32) (harg15 : arg15.IsWhole) (arg16 : Memref sig .tc .vmem S2x2x1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole)
  (x1 : Vec F S1x8192x128 .bf16) (x2 : Vec F S1x1x16x128x512 .bf16)
  (arg2 v55 v138 : BitVec 32)

set_option maxHeartbeats 1600000 in
/-- One group is left after the loop: its scores are folded: the contents it leaves are found by the run. -/
def oddRun (k0_h1 : k0_cond1 i = 1#1) (s : St F) :
    Σ' (p17 : List (View.Piece (Elt F) S1x512 .f32)), Σ' (p18 : List (View.Piece (Elt F) S1x512 .f32)), Σ' (p19 : List (View.Piece (Elt F) S128x512 .f32)), Σ' (p20 : List (View.Piece (Elt F) S1x512 .f32)), Σ' (p21 : List (View.Piece (Elt F) S1x512 .f32)), Σ' (p22 : List (View.Piece (Elt F) S128x512 .f32)), ∀ (E : Set ℕ) {α : Type} (K : Unit → Prog (TpuEff nD τ sig (Elt F) Λ₀ .tc) α) (Q : α → sProp 𝕄),
      iprop(owns (c : Thread nD τ) arg4 fullShare x1 ∗ owns (c : Thread nD τ) arg5 fullShare x2 ∗ scrP c arg13 arg14 arg15 arg16 arg17 arg18 arg19 arg20 arg21 arg22 s ∗ (owns (c : Thread nD τ) arg4 fullShare x1 -∗ owns (c : Thread nD τ) arg5 fullShare x2 -∗ owns (c : Thread nD τ) arg13 fullShare s.sA -∗ (∃ d, owns (c : Thread nD τ) arg14 fullShare d) -∗ owns (c : Thread nD τ) arg15 fullShare s.mA -∗ (∃ d, owns (c : Thread nD τ) arg16 fullShare d) -∗ (arg17.view.loc (c : Thread nD τ) ↦[arg17.view.set]{fullShare} arg17.view.writes (Elt F) (harg17.unread s.m1) p17) -∗ (arg18.view.loc (c : Thread nD τ) ↦[arg18.view.set]{fullShare} arg18.view.writes (Elt F) (harg18.unread s.l1) p18) -∗ (arg19.view.loc (c : Thread nD τ) ↦[arg19.view.set]{fullShare} arg19.view.writes (Elt F) (harg19.unread s.a1) p19) -∗ (arg20.view.loc (c : Thread nD τ) ↦[arg20.view.set]{fullShare} arg20.view.writes (Elt F) (harg20.unread s.m2) p20) -∗ (arg21.view.loc (c : Thread nD τ) ↦[arg21.view.set]{fullShare} arg21.view.writes (Elt F) (harg21.unread s.l2) p21) -∗ (arg22.view.loc (c : Thread nD τ) ↦[arg22.view.set]{fullShare} arg22.view.writes (Elt F) (harg22.unread s.a2) p22) -∗ wp frame (wpE (defs₀ (F := F)) Variants.none (c : Thread nD τ) none) E (K ⟨⟩) Q))
      ⊢ wp frame (wpE (defs₀ (F := F)) Variants.none (c : Thread nD τ) none) E (oddThen (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v55 v138 k0_h1 K) Q := by
  refine ⟨?_, ?_, ?_, ?_, ?_, ?_, fun E α K Q => ?run⟩
  case run =>
    unfold oddThen
    simp only [k0_part23_eq_skeleton, k0_part24_eq_skeleton, k0_part25_eq_skeleton]
    unfold scrP owns
    iintro ⟨⟨%f4, %hf4, H4⟩, ⟨%f5, %hf5, H5⟩, ⟨⟨%f13, %hf13, H13⟩, ⟨%d14, %f14, %hf14, H14⟩, ⟨%f15, %hf15, H15⟩, ⟨%d16, %f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, HK⟩
    obtain rfl := harg4.eq_unread hf4; obtain rfl := harg5.eq_unread hf5; obtain rfl := harg13.eq_unread hf13; obtain rfl := harg15.eq_unread hf15; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec
    iapply HK $$ [H4] [H5] [H13] [H14] [H15] [H16] [H17] [H18] [H19] [H20] [H21] [H22]
    · iexists _; isplitr; swap; · iexact H4
      ipureintro; exact harg4.read_unread _
    · iexists _; isplitr; swap; · iexact H5
      ipureintro; exact harg5.read_unread _
    · iexists _; isplitr; swap; · iexact H13
      ipureintro; exact harg13.read_unread _
    · iexists _; iexists _; isplitr; swap; · iexact H14
      ipureintro; rfl
    · iexists _; isplitr; swap; · iexact H15
      ipureintro; exact harg15.read_unread _
    · iexists _; iexists _; isplitr; swap; · iexact H16
      ipureintro; rfl
    · iexact H17
    · iexact H18
    · iexact H19
    · iexact H20
    · iexact H21
    · iexact H22

/-- The scratch after the branch taken. -/
def oddSt (k0_h1 : k0_cond1 i = 1#1) (s : St F) : St F :=
  ⟨s.sA,
   s.mA,
   arg17.view.read (Elt F) (arg17.view.writes (Elt F) (harg17.unread s.m1) (oddRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v55 v138 k0_h1 s).1),
   arg18.view.read (Elt F) (arg18.view.writes (Elt F) (harg18.unread s.l1) (oddRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v55 v138 k0_h1 s).2.1),
   arg19.view.read (Elt F) (arg19.view.writes (Elt F) (harg19.unread s.a1) (oddRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v55 v138 k0_h1 s).2.2.1),
   arg20.view.read (Elt F) (arg20.view.writes (Elt F) (harg20.unread s.m2) (oddRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v55 v138 k0_h1 s).2.2.2.1),
   arg21.view.read (Elt F) (arg21.view.writes (Elt F) (harg21.unread s.l2) (oddRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v55 v138 k0_h1 s).2.2.2.2.1),
   arg22.view.read (Elt F) (arg22.view.writes (Elt F) (harg22.unread s.a2) (oddRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v55 v138 k0_h1 s).2.2.2.2.2.1)⟩

open Classical in
/-- The scratch after the branch. -/
def oddIfSt (s : St F) : St F :=
  if k0_h1 : k0_cond1 i = 1#1 then oddSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v55 v138 k0_h1 s else s

set_option maxHeartbeats 1600000 in
/-- The branch takes the scratch at `s` to the scratch at `oddIfSt s`, before the rest. -/
theorem oddTriple (s : St F) (E : Set ℕ) {α : Type} (K : Unit → Prog (TpuEff nD τ sig (Elt F) Λ₀ .tc) α) (Q : α → sProp 𝕄) :
    iprop(owns (c : Thread nD τ) arg4 fullShare x1 ∗ owns (c : Thread nD τ) arg5 fullShare x2 ∗ scrP c arg13 arg14 arg15 arg16 arg17 arg18 arg19 arg20 arg21 arg22 s ∗ (owns (c : Thread nD τ) arg4 fullShare x1 -∗ owns (c : Thread nD τ) arg5 fullShare x2 -∗ scrP c arg13 arg14 arg15 arg16 arg17 arg18 arg19 arg20 arg21 arg22 (oddIfSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v55 v138 s) -∗ wp frame (wpE (defs₀ (F := F)) Variants.none (c : Thread nD τ) none) E (K ⟨⟩) Q))
      ⊢ wp frame (wpE (defs₀ (F := F)) Variants.none (c : Thread nD τ) none) E (oddIf (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v55 v138 K) Q := by
  unfold oddIf oddIfSt
  split
  · rename_i h
    iintro ⟨A4, A5, HS, HK⟩
    iapply ((oddRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v55 v138 h s).2.2.2.2.2.2 E K Q) $$ [A4 A5 HS HK]
    isplitl [A4]; · iexact A4
    isplitl [A5]; · iexact A5
    isplitl [HS]; · iexact HS
    iintro H4 H5 H13 H14 H15 H16 H17 H18 H19 H20 H21 H22
    iapply HK $$ [H4] [H5]
    · iexact H4
    · iexact H5
    unfold scrP oddSt
    isplitl [H13]
    · iexact H13
    isplitl [H14]
    · iexact H14
    isplitl [H15]
    · iexact H15
    isplitl [H16]
    · iexact H16
    isplitl [H17]
    · unfold owns; iexists _; isplitr; swap; · iexact H17
      ipureintro; rfl
    isplitl [H18]
    · unfold owns; iexists _; isplitr; swap; · iexact H18
      ipureintro; rfl
    isplitl [H19]
    · unfold owns; iexists _; isplitr; swap; · iexact H19
      ipureintro; rfl
    isplitl [H20]
    · unfold owns; iexists _; isplitr; swap; · iexact H20
      ipureintro; rfl
    isplitl [H21]
    · unfold owns; iexists _; isplitr; swap; · iexact H21
      ipureintro; rfl
    unfold owns; iexists _; isplitr; swap; · iexact H22
    ipureintro; rfl
  · iintro ⟨A4, A5, HS, HK⟩
    iapply HK $$ [A4] [A5] [HS]
    · iexact A4
    · iexact A5
    · iexact HS

end Odd

/-- A branch's program before the rest `K`: two groups are left after the loop: the last one is scored, and both are folded. -/
noncomputable def evenThen (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x2x512x512 .f32) (harg13 : arg13.IsWhole) (arg14 : Memref sig .tc .vmem S2x2x512x512 .f32) (harg14 : arg14.IsWhole) (arg15 : Memref sig .tc .vmem S2x2x1x512 .f32) (harg15 : arg15.IsWhole) (arg16 : Memref sig .tc .vmem S2x2x1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole) (arg2 : BitVec 32) (v6 v10 : FVec F S512x128 .bf16) (v55 v138 : BitVec 32) (k0_h2 : k0_cond2 i = 1#1) {α : Type} (K : Unit → Prog (TpuEff nD τ sig (Elt F) Λ₀ .tc) α) :
    Prog (TpuEff nD τ sig (Elt F) Λ₀ .tc) α := do
  let ⟨v221, v228⟩ : Σ' (v221 : BitVec 32), FVec F S512x512 .f32 ← k0_part26 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v6 v10 v55 v138 k0_h2
  let v264 : FVec F S1x512 .f32 ← k0_part27 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v6 v10 k0_h2 v221 v228
  let ⟨v280, v282, v284, v286, v288, v290⟩ : Σ' (v280 : BitVec 32) (v282 : BitVec 32) (v284 : FVec F S512x512 .f32) (v286 : FVec F S512x512 .f32) (v288 : FVec F S512x512 .f32), FVec F S512x512 .f32 ← k0_part28 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v55 v138 v264
  let ⟨v294, v298, v301, v304, v307, v314, v320, v321⟩ : Σ' (v294 : FVec F S1x512 .f32) (v298 : FVec F S1x512 .f32) (v301 : FVec F S128x512 .bf16) (v304 : FVec F S128x512 .bf16) (v307 : FVec F S1x512 .f32) (v314 : FVec F S128x512 .f32) (v320 : FVec F S1x512 .f32), FVec F S512x512 .bf16 ← k0_part29 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 v280 v282 v284
  let ⟨v344, v357, v360, v361⟩ : Σ' (v344 : FVec F S1x512 .f32) (v357 : FVec F S1x512 .f32) (v360 : FVec F S128x512 .f32), FVec F S512x512 .f32 ← k0_part30 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v286 v288 v294 v298 v301 v304 v307 v314 v320 v321
  let ⟨v390, v392, v394⟩ : Σ' (v390 : BitVec 32) (v392 : BitVec 32), FVec F S512x512 .f32 ← k0_part31 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v55 v138 v290 v304 v344 v357 v360 v361
  let ⟨v396, v398, v400, v404, v406, v408, v411, v414, v415, v416⟩ : Σ' (v396 : FVec F S512x512 .f32) (v398 : FVec F S512x512 .f32) (v400 : FVec F S512x512 .f32) (v404 : FVec F S1x512 .f32) (v406 : FVec F S1x512 .f32) (v408 : FVec F S1x512 .f32) (v411 : FVec F S128x512 .bf16) (v414 : FVec F S128x512 .bf16) (v415 : Vec F S1x512 .f32), FVec F S1x512 .f32 ← k0_part32 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 v390 v392
  let ⟨v454, v456⟩ : Σ' (v454 : FVec F S1x512 .f32), FVec F S1x512 .f32 ← k0_part33 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v394 v398 v404 v406 v408 v411 v414 v415 v416
  let v457 : Vec F S1x512 .f32 ← Prog.lift (.load arg21 (Rect.unit (s := S1x512) ![0, 0] S1x512.size inb_S1x512_S1x512_0_0).toLoadRect (View.loadsAt_vmem h_S1x512))
  let v459 : Vec F S128x512 .f32 ← Prog.lift (.load arg22 (Rect.unit (s := S128x512) ![0, 0] S128x512.size inb_S128x512_S128x512_0_0).toLoadRect (View.loadsAt_vmem h_S128x512))
  let v480 : Vec F S1x512 .f32 ← Prog.lift (.load arg20 (Rect.unit (s := S1x512) ![0, 0] S1x512.size inb_S1x512_S1x512_0_0).toLoadRect (View.loadsAt_vmem h_S1x512))
  Prog.lift (.store arg20 (Rect.unit (s := S1x512) ![0, 0] S1x512.size inb_S1x512_S1x512_0_0) (k0_pay295 v454) Finset.univ (View.stores_vmem_bits_univ h_S1x512 rfl) (.inl rfl))
  let v483 : Vec F S1x512 .f32 ← Prog.lift (.load arg21 (Rect.unit (s := S1x512) ![0, 0] S1x512.size inb_S1x512_S1x512_0_0).toLoadRect (View.loadsAt_vmem h_S1x512))
  Prog.lift (.store arg21 (Rect.unit (s := S1x512) ![0, 0] S1x512.size inb_S1x512_S1x512_0_0) (k0_pay296 v396 v400 v454 v456 v457) Finset.univ (View.stores_vmem_bits_univ h_S1x512 rfl) (.inl rfl))
  let v486 : Vec F S128x512 .f32 ← Prog.lift (.load arg22 (Rect.unit (s := S128x512) ![0, 0] S128x512.size inb_S128x512_S128x512_0_0).toLoadRect (View.loadsAt_vmem h_S128x512))
  Prog.lift (.store arg22 (Rect.unit (s := S128x512) ![0, 0] S128x512.size inb_S128x512_S128x512_0_0) (k0_pay297 v396 v400 v411 v414 v454 v456 v459) Finset.univ (View.stores_vmem_bits_univ h_S128x512 rfl) (.inl rfl))
  K ⟨⟩

/-- The branch taken or passed over. -/
noncomputable def evenIf (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x2x512x512 .f32) (harg13 : arg13.IsWhole) (arg14 : Memref sig .tc .vmem S2x2x512x512 .f32) (harg14 : arg14.IsWhole) (arg15 : Memref sig .tc .vmem S2x2x1x512 .f32) (harg15 : arg15.IsWhole) (arg16 : Memref sig .tc .vmem S2x2x1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole) (arg2 : BitVec 32) (v6 v10 : FVec F S512x128 .bf16) (v55 v138 : BitVec 32) {α : Type} (K : Unit → Prog (TpuEff nD τ sig (Elt F) Λ₀ .tc) α) :
    Prog (TpuEff nD τ sig (Elt F) Λ₀ .tc) α :=
  if k0_h2 : k0_cond2 i = 1#1 then evenThen i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v6 v10 v55 v138 k0_h2 K else K ⟨⟩

section Even

variable (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x2x512x512 .f32) (harg13 : arg13.IsWhole) (arg14 : Memref sig .tc .vmem S2x2x512x512 .f32) (harg14 : arg14.IsWhole) (arg15 : Memref sig .tc .vmem S2x2x1x512 .f32) (harg15 : arg15.IsWhole) (arg16 : Memref sig .tc .vmem S2x2x1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole)
  (x1 : Vec F S1x8192x128 .bf16) (x2 : Vec F S1x1x16x128x512 .bf16)
  (arg2 : BitVec 32) (v6 v10 : FVec F S512x128 .bf16) (v55 v138 : BitVec 32)

set_option maxHeartbeats 1600000 in
/-- Two groups are left after the loop: the last one is scored, and both are folded: the contents it leaves are found by the run. -/
def evenRun (k0_h2 : k0_cond2 i = 1#1) (s : St F) :
    Σ' (p17 : List (View.Piece (Elt F) S1x512 .f32)), Σ' (p18 : List (View.Piece (Elt F) S1x512 .f32)), Σ' (p19 : List (View.Piece (Elt F) S128x512 .f32)), Σ' (p20 : List (View.Piece (Elt F) S1x512 .f32)), Σ' (p21 : List (View.Piece (Elt F) S1x512 .f32)), Σ' (p22 : List (View.Piece (Elt F) S128x512 .f32)), ∀ (E : Set ℕ) {α : Type} (K : Unit → Prog (TpuEff nD τ sig (Elt F) Λ₀ .tc) α) (Q : α → sProp 𝕄),
      iprop(owns (c : Thread nD τ) arg4 fullShare x1 ∗ owns (c : Thread nD τ) arg5 fullShare x2 ∗ scrP c arg13 arg14 arg15 arg16 arg17 arg18 arg19 arg20 arg21 arg22 s ∗ (owns (c : Thread nD τ) arg4 fullShare x1 -∗ owns (c : Thread nD τ) arg5 fullShare x2 -∗ owns (c : Thread nD τ) arg13 fullShare s.sA -∗ (∃ d, owns (c : Thread nD τ) arg14 fullShare d) -∗ owns (c : Thread nD τ) arg15 fullShare s.mA -∗ (∃ d, owns (c : Thread nD τ) arg16 fullShare d) -∗ (arg17.view.loc (c : Thread nD τ) ↦[arg17.view.set]{fullShare} arg17.view.writes (Elt F) (harg17.unread s.m1) p17) -∗ (arg18.view.loc (c : Thread nD τ) ↦[arg18.view.set]{fullShare} arg18.view.writes (Elt F) (harg18.unread s.l1) p18) -∗ (arg19.view.loc (c : Thread nD τ) ↦[arg19.view.set]{fullShare} arg19.view.writes (Elt F) (harg19.unread s.a1) p19) -∗ (arg20.view.loc (c : Thread nD τ) ↦[arg20.view.set]{fullShare} arg20.view.writes (Elt F) (harg20.unread s.m2) p20) -∗ (arg21.view.loc (c : Thread nD τ) ↦[arg21.view.set]{fullShare} arg21.view.writes (Elt F) (harg21.unread s.l2) p21) -∗ (arg22.view.loc (c : Thread nD τ) ↦[arg22.view.set]{fullShare} arg22.view.writes (Elt F) (harg22.unread s.a2) p22) -∗ wp frame (wpE (defs₀ (F := F)) Variants.none (c : Thread nD τ) none) E (K ⟨⟩) Q))
      ⊢ wp frame (wpE (defs₀ (F := F)) Variants.none (c : Thread nD τ) none) E (evenThen (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v6 v10 v55 v138 k0_h2 K) Q := by
  refine ⟨?_, ?_, ?_, ?_, ?_, ?_, fun E α K Q => ?run⟩
  case run =>
    unfold evenThen
    simp only [k0_part26_eq_skeleton, k0_part27_eq_skeleton, k0_part28_eq_skeleton, k0_part29_eq_skeleton, k0_part30_eq_skeleton, k0_part31_eq_skeleton, k0_part32_eq_skeleton, k0_part33_eq_skeleton]
    unfold scrP owns
    iintro ⟨⟨%f4, %hf4, H4⟩, ⟨%f5, %hf5, H5⟩, ⟨⟨%f13, %hf13, H13⟩, ⟨%d14, %f14, %hf14, H14⟩, ⟨%f15, %hf15, H15⟩, ⟨%d16, %f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, HK⟩
    obtain rfl := harg4.eq_unread hf4; obtain rfl := harg5.eq_unread hf5; obtain rfl := harg13.eq_unread hf13; obtain rfl := harg15.eq_unread hf15; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec
    iapply HK $$ [H4] [H5] [H13] [H14] [H15] [H16] [H17] [H18] [H19] [H20] [H21] [H22]
    · iexists _; isplitr; swap; · iexact H4
      ipureintro; exact harg4.read_unread _
    · iexists _; isplitr; swap; · iexact H5
      ipureintro; exact harg5.read_unread _
    · iexists _; isplitr; swap; · iexact H13
      ipureintro; exact harg13.read_unread _
    · iexists _; iexists _; isplitr; swap; · iexact H14
      ipureintro; rfl
    · iexists _; isplitr; swap; · iexact H15
      ipureintro; exact harg15.read_unread _
    · iexists _; iexists _; isplitr; swap; · iexact H16
      ipureintro; rfl
    · iexact H17
    · iexact H18
    · iexact H19
    · iexact H20
    · iexact H21
    · iexact H22

/-- The scratch after the branch taken. -/
def evenSt (k0_h2 : k0_cond2 i = 1#1) (s : St F) : St F :=
  ⟨s.sA,
   s.mA,
   arg17.view.read (Elt F) (arg17.view.writes (Elt F) (harg17.unread s.m1) (evenRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v55 v138 k0_h2 s).1),
   arg18.view.read (Elt F) (arg18.view.writes (Elt F) (harg18.unread s.l1) (evenRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v55 v138 k0_h2 s).2.1),
   arg19.view.read (Elt F) (arg19.view.writes (Elt F) (harg19.unread s.a1) (evenRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v55 v138 k0_h2 s).2.2.1),
   arg20.view.read (Elt F) (arg20.view.writes (Elt F) (harg20.unread s.m2) (evenRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v55 v138 k0_h2 s).2.2.2.1),
   arg21.view.read (Elt F) (arg21.view.writes (Elt F) (harg21.unread s.l2) (evenRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v55 v138 k0_h2 s).2.2.2.2.1),
   arg22.view.read (Elt F) (arg22.view.writes (Elt F) (harg22.unread s.a2) (evenRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v55 v138 k0_h2 s).2.2.2.2.2.1)⟩

open Classical in
/-- The scratch after the branch. -/
def evenIfSt (s : St F) : St F :=
  if k0_h2 : k0_cond2 i = 1#1 then evenSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v55 v138 k0_h2 s else s

set_option maxHeartbeats 1600000 in
/-- The branch takes the scratch at `s` to the scratch at `evenIfSt s`, before the rest. -/
theorem evenTriple (s : St F) (E : Set ℕ) {α : Type} (K : Unit → Prog (TpuEff nD τ sig (Elt F) Λ₀ .tc) α) (Q : α → sProp 𝕄) :
    iprop(owns (c : Thread nD τ) arg4 fullShare x1 ∗ owns (c : Thread nD τ) arg5 fullShare x2 ∗ scrP c arg13 arg14 arg15 arg16 arg17 arg18 arg19 arg20 arg21 arg22 s ∗ (owns (c : Thread nD τ) arg4 fullShare x1 -∗ owns (c : Thread nD τ) arg5 fullShare x2 -∗ scrP c arg13 arg14 arg15 arg16 arg17 arg18 arg19 arg20 arg21 arg22 (evenIfSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v55 v138 s) -∗ wp frame (wpE (defs₀ (F := F)) Variants.none (c : Thread nD τ) none) E (K ⟨⟩) Q))
      ⊢ wp frame (wpE (defs₀ (F := F)) Variants.none (c : Thread nD τ) none) E (evenIf (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v6 v10 v55 v138 K) Q := by
  unfold evenIf evenIfSt
  split
  · rename_i h
    iintro ⟨A4, A5, HS, HK⟩
    iapply ((evenRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v55 v138 h s).2.2.2.2.2.2 E K Q) $$ [A4 A5 HS HK]
    isplitl [A4]; · iexact A4
    isplitl [A5]; · iexact A5
    isplitl [HS]; · iexact HS
    iintro H4 H5 H13 H14 H15 H16 H17 H18 H19 H20 H21 H22
    iapply HK $$ [H4] [H5]
    · iexact H4
    · iexact H5
    unfold scrP evenSt
    isplitl [H13]
    · iexact H13
    isplitl [H14]
    · iexact H14
    isplitl [H15]
    · iexact H15
    isplitl [H16]
    · iexact H16
    isplitl [H17]
    · unfold owns; iexists _; isplitr; swap; · iexact H17
      ipureintro; rfl
    isplitl [H18]
    · unfold owns; iexists _; isplitr; swap; · iexact H18
      ipureintro; rfl
    isplitl [H19]
    · unfold owns; iexists _; isplitr; swap; · iexact H19
      ipureintro; rfl
    isplitl [H20]
    · unfold owns; iexists _; isplitr; swap; · iexact H20
      ipureintro; rfl
    isplitl [H21]
    · unfold owns; iexists _; isplitr; swap; · iexact H21
      ipureintro; rfl
    unfold owns; iexists _; isplitr; swap; · iexact H22
    ipureintro; rfl
  · iintro ⟨A4, A5, HS, HK⟩
    iapply HK $$ [A4] [A5] [HS]
    · iexact A4
    · iexact A5
    · iexact HS

end Even

/-- A branch's program before the rest `K`: the last of the far blocks, when their number is odd. -/
noncomputable def leftThen (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x2x512x512 .f32) (harg13 : arg13.IsWhole) (arg14 : Memref sig .tc .vmem S2x2x512x512 .f32) (harg14 : arg14.IsWhole) (arg15 : Memref sig .tc .vmem S2x2x1x512 .f32) (harg15 : arg15.IsWhole) (arg16 : Memref sig .tc .vmem S2x2x1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole) (v6 v10 : FVec F S512x128 .bf16) (v149 : BitVec 32) (k0_h3 : k0_cond3 i = 1#1) {α : Type} (K : Unit → Prog (TpuEff nD τ sig (Elt F) Λ₀ .tc) α) :
    Prog (TpuEff nD τ sig (Elt F) Λ₀ .tc) α := do
  let ⟨v214, v217, v237⟩ : Σ' (v214 : FVec F S512x512 .f32) (v217 : FVec F S128x512 .bf16), FVec F S128x512 .f32 ← k0_part34 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v6 v10 v149 k0_h3
  let v244 : Vec F S128x512 .f32 ← Prog.lift (.load arg19 (Rect.unit (s := S128x512) ![0, 0] S128x512.size inb_S128x512_S128x512_0_0).toLoadRect (View.loadsAt_vmem h_S128x512))
  Prog.lift (.store arg19 (Rect.unit (s := S128x512) ![0, 0] S128x512.size inb_S128x512_S128x512_0_0) (k0_pay298 v237) Finset.univ (View.stores_vmem_bits_univ h_S128x512 rfl) (.inl rfl))
  let v247 : Vec F S1x512 .f32 ← Prog.lift (.load arg20 (Rect.unit (s := S1x512) ![0, 0] S1x512.size inb_S1x512_S1x512_0_0).toLoadRect (View.loadsAt_vmem h_S1x512))
  let v253 : Vec F S1x512 .f32 ← Prog.lift (.load arg21 (Rect.unit (s := S1x512) ![0, 0] S1x512.size inb_S1x512_S1x512_0_0).toLoadRect (View.loadsAt_vmem h_S1x512))
  let v255 : Vec F S128x512 .f32 ← Prog.lift (.load arg22 (Rect.unit (s := S128x512) ![0, 0] S128x512.size inb_S128x512_S128x512_0_0).toLoadRect (View.loadsAt_vmem h_S128x512))
  let v267 : Vec F S1x512 .f32 ← Prog.lift (.load arg20 (Rect.unit (s := S1x512) ![0, 0] S1x512.size inb_S1x512_S1x512_0_0).toLoadRect (View.loadsAt_vmem h_S1x512))
  Prog.lift (.store arg20 (Rect.unit (s := S1x512) ![0, 0] S1x512.size inb_S1x512_S1x512_0_0) (k0_pay302 v214 v247) Finset.univ (View.stores_vmem_bits_univ h_S1x512 rfl) (.inl rfl))
  let v270 : Vec F S1x512 .f32 ← Prog.lift (.load arg21 (Rect.unit (s := S1x512) ![0, 0] S1x512.size inb_S1x512_S1x512_0_0).toLoadRect (View.loadsAt_vmem h_S1x512))
  Prog.lift (.store arg21 (Rect.unit (s := S1x512) ![0, 0] S1x512.size inb_S1x512_S1x512_0_0) (k0_pay303 v214 v247 v253) Finset.univ (View.stores_vmem_bits_univ h_S1x512 rfl) (.inl rfl))
  let v273 : Vec F S128x512 .f32 ← Prog.lift (.load arg22 (Rect.unit (s := S128x512) ![0, 0] S128x512.size inb_S128x512_S128x512_0_0).toLoadRect (View.loadsAt_vmem h_S128x512))
  Prog.lift (.store arg22 (Rect.unit (s := S128x512) ![0, 0] S128x512.size inb_S128x512_S128x512_0_0) (k0_pay304 v214 v217 v247 v255) Finset.univ (View.stores_vmem_bits_univ h_S128x512 rfl) (.inl rfl))
  K ⟨⟩

/-- The branch taken or passed over. -/
noncomputable def leftIf (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x2x512x512 .f32) (harg13 : arg13.IsWhole) (arg14 : Memref sig .tc .vmem S2x2x512x512 .f32) (harg14 : arg14.IsWhole) (arg15 : Memref sig .tc .vmem S2x2x1x512 .f32) (harg15 : arg15.IsWhole) (arg16 : Memref sig .tc .vmem S2x2x1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole) (v6 v10 : FVec F S512x128 .bf16) (v149 : BitVec 32) {α : Type} (K : Unit → Prog (TpuEff nD τ sig (Elt F) Λ₀ .tc) α) :
    Prog (TpuEff nD τ sig (Elt F) Λ₀ .tc) α :=
  if k0_h3 : k0_cond3 i = 1#1 then leftThen i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v6 v10 v149 k0_h3 K else K ⟨⟩

section Left

variable (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x2x512x512 .f32) (harg13 : arg13.IsWhole) (arg14 : Memref sig .tc .vmem S2x2x512x512 .f32) (harg14 : arg14.IsWhole) (arg15 : Memref sig .tc .vmem S2x2x1x512 .f32) (harg15 : arg15.IsWhole) (arg16 : Memref sig .tc .vmem S2x2x1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole)
  (x1 : Vec F S1x8192x128 .bf16) (x2 : Vec F S1x1x16x128x512 .bf16)
  (v6 v10 : FVec F S512x128 .bf16) (v149 : BitVec 32)

set_option maxHeartbeats 1600000 in
/-- The last of the far blocks, when their number is odd: the contents it leaves are found by the run. -/
def leftRun (k0_h3 : k0_cond3 i = 1#1) (s : St F) :
    Σ' (p17 : List (View.Piece (Elt F) S1x512 .f32)), Σ' (p18 : List (View.Piece (Elt F) S1x512 .f32)), Σ' (p19 : List (View.Piece (Elt F) S128x512 .f32)), Σ' (p20 : List (View.Piece (Elt F) S1x512 .f32)), Σ' (p21 : List (View.Piece (Elt F) S1x512 .f32)), Σ' (p22 : List (View.Piece (Elt F) S128x512 .f32)), ∀ (E : Set ℕ) {α : Type} (K : Unit → Prog (TpuEff nD τ sig (Elt F) Λ₀ .tc) α) (Q : α → sProp 𝕄),
      iprop(owns (c : Thread nD τ) arg4 fullShare x1 ∗ owns (c : Thread nD τ) arg5 fullShare x2 ∗ scrP c arg13 arg14 arg15 arg16 arg17 arg18 arg19 arg20 arg21 arg22 s ∗ (owns (c : Thread nD τ) arg4 fullShare x1 -∗ owns (c : Thread nD τ) arg5 fullShare x2 -∗ owns (c : Thread nD τ) arg13 fullShare s.sA -∗ (∃ d, owns (c : Thread nD τ) arg14 fullShare d) -∗ owns (c : Thread nD τ) arg15 fullShare s.mA -∗ (∃ d, owns (c : Thread nD τ) arg16 fullShare d) -∗ (arg17.view.loc (c : Thread nD τ) ↦[arg17.view.set]{fullShare} arg17.view.writes (Elt F) (harg17.unread s.m1) p17) -∗ (arg18.view.loc (c : Thread nD τ) ↦[arg18.view.set]{fullShare} arg18.view.writes (Elt F) (harg18.unread s.l1) p18) -∗ (arg19.view.loc (c : Thread nD τ) ↦[arg19.view.set]{fullShare} arg19.view.writes (Elt F) (harg19.unread s.a1) p19) -∗ (arg20.view.loc (c : Thread nD τ) ↦[arg20.view.set]{fullShare} arg20.view.writes (Elt F) (harg20.unread s.m2) p20) -∗ (arg21.view.loc (c : Thread nD τ) ↦[arg21.view.set]{fullShare} arg21.view.writes (Elt F) (harg21.unread s.l2) p21) -∗ (arg22.view.loc (c : Thread nD τ) ↦[arg22.view.set]{fullShare} arg22.view.writes (Elt F) (harg22.unread s.a2) p22) -∗ wp frame (wpE (defs₀ (F := F)) Variants.none (c : Thread nD τ) none) E (K ⟨⟩) Q))
      ⊢ wp frame (wpE (defs₀ (F := F)) Variants.none (c : Thread nD τ) none) E (leftThen (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v6 v10 v149 k0_h3 K) Q := by
  refine ⟨?_, ?_, ?_, ?_, ?_, ?_, fun E α K Q => ?run⟩
  case run =>
    unfold leftThen
    simp only [k0_part34_eq_skeleton]
    unfold scrP owns
    iintro ⟨⟨%f4, %hf4, H4⟩, ⟨%f5, %hf5, H5⟩, ⟨⟨%f13, %hf13, H13⟩, ⟨%d14, %f14, %hf14, H14⟩, ⟨%f15, %hf15, H15⟩, ⟨%d16, %f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, HK⟩
    obtain rfl := harg4.eq_unread hf4; obtain rfl := harg5.eq_unread hf5; obtain rfl := harg13.eq_unread hf13; obtain rfl := harg15.eq_unread hf15; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec
    iapply HK $$ [H4] [H5] [H13] [H14] [H15] [H16] [H17] [H18] [H19] [H20] [H21] [H22]
    · iexists _; isplitr; swap; · iexact H4
      ipureintro; exact harg4.read_unread _
    · iexists _; isplitr; swap; · iexact H5
      ipureintro; exact harg5.read_unread _
    · iexists _; isplitr; swap; · iexact H13
      ipureintro; exact harg13.read_unread _
    · iexists _; iexists _; isplitr; swap; · iexact H14
      ipureintro; rfl
    · iexists _; isplitr; swap; · iexact H15
      ipureintro; exact harg15.read_unread _
    · iexists _; iexists _; isplitr; swap; · iexact H16
      ipureintro; rfl
    · iexact H17
    · iexact H18
    · iexact H19
    · iexact H20
    · iexact H21
    · iexact H22

/-- The scratch after the branch taken. -/
def leftSt (k0_h3 : k0_cond3 i = 1#1) (s : St F) : St F :=
  ⟨s.sA,
   s.mA,
   arg17.view.read (Elt F) (arg17.view.writes (Elt F) (harg17.unread s.m1) (leftRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 v6 v10 v149 k0_h3 s).1),
   arg18.view.read (Elt F) (arg18.view.writes (Elt F) (harg18.unread s.l1) (leftRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 v6 v10 v149 k0_h3 s).2.1),
   arg19.view.read (Elt F) (arg19.view.writes (Elt F) (harg19.unread s.a1) (leftRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 v6 v10 v149 k0_h3 s).2.2.1),
   arg20.view.read (Elt F) (arg20.view.writes (Elt F) (harg20.unread s.m2) (leftRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 v6 v10 v149 k0_h3 s).2.2.2.1),
   arg21.view.read (Elt F) (arg21.view.writes (Elt F) (harg21.unread s.l2) (leftRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 v6 v10 v149 k0_h3 s).2.2.2.2.1),
   arg22.view.read (Elt F) (arg22.view.writes (Elt F) (harg22.unread s.a2) (leftRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 v6 v10 v149 k0_h3 s).2.2.2.2.2.1)⟩

open Classical in
/-- The scratch after the branch. -/
def leftIfSt (s : St F) : St F :=
  if k0_h3 : k0_cond3 i = 1#1 then leftSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 v6 v10 v149 k0_h3 s else s

set_option maxHeartbeats 1600000 in
/-- The branch takes the scratch at `s` to the scratch at `leftIfSt s`, before the rest. -/
theorem leftTriple (s : St F) (E : Set ℕ) {α : Type} (K : Unit → Prog (TpuEff nD τ sig (Elt F) Λ₀ .tc) α) (Q : α → sProp 𝕄) :
    iprop(owns (c : Thread nD τ) arg4 fullShare x1 ∗ owns (c : Thread nD τ) arg5 fullShare x2 ∗ scrP c arg13 arg14 arg15 arg16 arg17 arg18 arg19 arg20 arg21 arg22 s ∗ (owns (c : Thread nD τ) arg4 fullShare x1 -∗ owns (c : Thread nD τ) arg5 fullShare x2 -∗ scrP c arg13 arg14 arg15 arg16 arg17 arg18 arg19 arg20 arg21 arg22 (leftIfSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 v6 v10 v149 s) -∗ wp frame (wpE (defs₀ (F := F)) Variants.none (c : Thread nD τ) none) E (K ⟨⟩) Q))
      ⊢ wp frame (wpE (defs₀ (F := F)) Variants.none (c : Thread nD τ) none) E (leftIf (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v6 v10 v149 K) Q := by
  unfold leftIf leftIfSt
  split
  · rename_i h
    iintro ⟨A4, A5, HS, HK⟩
    iapply ((leftRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 v6 v10 v149 h s).2.2.2.2.2.2 E K Q) $$ [A4 A5 HS HK]
    isplitl [A4]; · iexact A4
    isplitl [A5]; · iexact A5
    isplitl [HS]; · iexact HS
    iintro H4 H5 H13 H14 H15 H16 H17 H18 H19 H20 H21 H22
    iapply HK $$ [H4] [H5]
    · iexact H4
    · iexact H5
    unfold scrP leftSt
    isplitl [H13]
    · iexact H13
    isplitl [H14]
    · iexact H14
    isplitl [H15]
    · iexact H15
    isplitl [H16]
    · iexact H16
    isplitl [H17]
    · unfold owns; iexists _; isplitr; swap; · iexact H17
      ipureintro; rfl
    isplitl [H18]
    · unfold owns; iexists _; isplitr; swap; · iexact H18
      ipureintro; rfl
    isplitl [H19]
    · unfold owns; iexists _; isplitr; swap; · iexact H19
      ipureintro; rfl
    isplitl [H20]
    · unfold owns; iexists _; isplitr; swap; · iexact H20
      ipureintro; rfl
    isplitl [H21]
    · unfold owns; iexists _; isplitr; swap; · iexact H21
      ipureintro; rfl
    unfold owns; iexists _; isplitr; swap; · iexact H22
    ipureintro; rfl
  · iintro ⟨A4, A5, HS, HK⟩
    iapply HK $$ [A4] [A5] [HS]
    · iexact A4
    · iexact A5
    · iexact HS

end Left

end Cert.Proof.DiffAttn

end
-- ==== Proof.DiffAttn.Body.lean ====
/- The whole body at one grid point: the phases one after another. -/
module

public import proofs.«01_k».proof.Defs
public import proofs.«01_k».proof.Proof.Gen.Kernel6Ideal.Frame
public import proofs.«01_k».proof.Proof.Gen.Kernel6Ideal.Loops
public import proofs.«01_k».proof.Proof.Gen.Kernel6Ideal.Points
public import proofs.«01_k».proof.Proof.DiffAttn.Pre
public import proofs.«01_k».proof.Proof.DiffAttn.Loop
public import proofs.«01_k».proof.Proof.DiffAttn.Steps

@[expose] public section

set_option maxRecDepth 16384

noncomputable section

namespace Cert.Proof.DiffAttn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two loads after the branches. -/
noncomputable def lamLoads (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x2x512x512 .f32) (harg13 : arg13.IsWhole) (arg14 : Memref sig .tc .vmem S2x2x512x512 .f32) (harg14 : arg14.IsWhole) (arg15 : Memref sig .tc .vmem S2x2x1x512 .f32) (harg15 : arg15.IsWhole) (arg16 : Memref sig .tc .vmem S2x2x1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole) : Prog (TpuEff nD τ sig (Elt F) Λ₀ .tc) (Σ' (v154 : FVec F S1x64 .f32), FVec F S1x64 .f32) := do
  let v153 : Vec F S1x64 .f32 ← Prog.lift (.load arg7 (Rect.unit (s := S1x64) ![0, 0] S1x64.size inb_S1x64_S1x64_0_0).toLoadRect (View.loadsAt_vmem h_S1x64))
  let v155 : Vec F S1x64 .f32 ← Prog.lift (.load arg8 (Rect.unit (s := S1x64) ![0, 0] S1x64.size inb_S1x64_S1x64_0_0).toLoadRect (View.loadsAt_vmem h_S1x64))
  pure ⟨k0_pay305 v153, k0_pay306 v155⟩

/-- The main loop, the branches and what follows, to the two loads. -/
noncomputable def midProg (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x2x512x512 .f32) (harg13 : arg13.IsWhole) (arg14 : Memref sig .tc .vmem S2x2x512x512 .f32) (harg14 : arg14.IsWhole) (arg15 : Memref sig .tc .vmem S2x2x1x512 .f32) (harg15 : arg15.IsWhole) (arg16 : Memref sig .tc .vmem S2x2x1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole) (arg2 : BitVec 32) (v6 v10 : FVec F S512x128 .bf16) (v36 v53 v55 v113 v115 c2_i32_87 v116 v121 v123 v137 : BitVec 32) :
    Prog (TpuEff nD τ sig (Elt F) Λ₀ .tc) (Σ' (v154 : FVec F S1x64 .f32), FVec F S1x64 .f32) := do
  Scf.Loop.for (k0_t1_loop i) (k0_t1_ok i) ⟨⟩ (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v6 v10 v36 v53 v55 v113 v115 c2_i32_87 v116 v121 v123)
  Scf.Loop.for (k0_t2_loop i) (k0_t2_ok i) ⟨⟩ (k0_t2_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v6 v10 v36 v53 v55 v113 v115 c2_i32_87 v116 v121 v123 v137)
  oddIf i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v55 (Scalar.subi v113 1#32) fun _ =>
    evenIf i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v6 v10 v55 (Scalar.subi v113 1#32) fun _ =>
      leftIf i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v6 v10 (Scalar.addi (Scalar.muli v53 2#32) 0#32) fun _ => lamLoads arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22

/-- The loop's bound word. -/
def w137 (c2 v115 v116 v121 v123 : BitVec 32) : BitVec 32 :=
  Scalar.addi 0#32 (Scalar.muli (Scalar.divsi (Scalar.subi (Scalar.select (Scalar.andi (Scalar.cmpi .ne v121 (Scalar.subi v123 (Scalar.extui (Scalar.cmpi .slt c2 0#32)))) (Scalar.cmpi .ne (Scalar.remsi v115 c2) 0#32)) (Scalar.subi v116 1#32) v116) 0#32) 1#32) 1#32)

set_option maxHeartbeats 4000000 in
set_option maxRecDepth 65536 in
/-- That part of the body is the main loop, the branches and two loads. -/
theorem part39_eq (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x2x512x512 .f32) (harg13 : arg13.IsWhole) (arg14 : Memref sig .tc .vmem S2x2x512x512 .f32) (harg14 : arg14.IsWhole) (arg15 : Memref sig .tc .vmem S2x2x1x512 .f32) (harg15 : arg15.IsWhole) (arg16 : Memref sig .tc .vmem S2x2x1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole) (arg2 : BitVec 32) (v6 v10 : FVec F S512x128 .bf16) (v36 v53 v55 v113 v115 c2_i32_87 v116 v121 v123 : BitVec 32) :
    k0_part39 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v6 v10 v36 v53 v55 v113 v115 c2_i32_87 v116 v121 v123 = midProg i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v6 v10 v36 v53 v55 v113 v115 c2_i32_87 v116 v121 v123 (w137 c2_i32_87 v115 v116 v121 v123) := rfl

/-- The body's end: the loads, the last values, the store. -/
noncomputable def endProg (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x2x512x512 .f32) (harg13 : arg13.IsWhole) (arg14 : Memref sig .tc .vmem S2x2x512x512 .f32) (harg14 : arg14.IsWhole) (arg15 : Memref sig .tc .vmem S2x2x1x512 .f32) (harg15 : arg15.IsWhole) (arg16 : Memref sig .tc .vmem S2x2x1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole) (r : (Σ' (v154 : FVec F S1x64 .f32), FVec F S1x64 .f32)) :
    Prog (TpuEff nD τ sig (Elt F) Λ₀ .tc) PUnit := do
  match r with
  | ⟨v154, v156⟩ =>
    let ⟨v187, v189, v194, cst_133⟩ : Σ' (v187 : FVec F S512x128 .f32) (v189 : FVec F S1x128 .f32) (v194 : FVec F S512x1 .f32), F .f32 ← k0_part40 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v154 v156
    let v205 : Vec F S1x512x128 .bf16 ← Prog.lift (.load arg12 (Rect.unit (s := S1x512x128) ![0, 0, 0] S1x512x128.size inb_S1x512x128_S1x512x128_0_0_0).toLoadRect (View.loadsAt_vmem h_S1x512x128))

    Prog.lift (.store arg12 (Rect.unit (s := S1x512x128) ![0, 0, 0] S1x512x128.size inb_S1x512x128_S1x512x128_0_0_0) (k0_pay1 v187 v189 v194 cst_133) Finset.univ (View.stores_vmem h_S1x512x128 (harg12.storeExact_slice rfl _ packedbf16_S1x512x128_S1x512x128_0_0_0) (fun _ => rfl)) (.inl rfl))

set_option maxHeartbeats 4000000 in
set_option maxRecDepth 65536 in
/-- The body: up to the main loop, then the loop and the branches, then the end. -/
theorem body_eq (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x2x512x512 .f32) (harg13 : arg13.IsWhole) (arg14 : Memref sig .tc .vmem S2x2x512x512 .f32) (harg14 : arg14.IsWhole) (arg15 : Memref sig .tc .vmem S2x2x1x512 .f32) (harg15 : arg15.IsWhole) (arg16 : Memref sig .tc .vmem S2x2x1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole) :
    cc0_diff_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = preProg i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (fun arg2 v6 v10 v36 v53 v55 v113 v115 c2_i32_87 v116 v121 v123 =>
      midProg i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v6 v10 v36 v53 v55 v113 v115 c2_i32_87 v116 v121 v123 (w137 c2_i32_87 v115 v116 v121 v123) >>= endProg i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) := rfl

end Cert.Proof.DiffAttn

end
-- ==== Proof.DiffAttn.Mid.lean ====
/- The main loop and the branches run one after another. -/
module

public import proofs.«01_k».proof.Defs
public import proofs.«01_k».proof.Proof.Gen.Kernel6Ideal.Frame
public import proofs.«01_k».proof.Proof.Gen.Kernel6Ideal.Loops
public import proofs.«01_k».proof.Proof.Gen.Kernel6Ideal.Points
public import proofs.«01_k».proof.Proof.DiffAttn.Body

@[expose] public section

set_option maxRecDepth 16384

noncomputable section

namespace Cert.Proof.DiffAttn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x2x512x512 .f32) (harg13 : arg13.IsWhole) (arg14 : Memref sig .tc .vmem S2x2x512x512 .f32) (harg14 : arg14.IsWhole) (arg15 : Memref sig .tc .vmem S2x2x1x512 .f32) (harg15 : arg15.IsWhole) (arg16 : Memref sig .tc .vmem S2x2x1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole)
  (x1 : Vec F S1x8192x128 .bf16) (x2 : Vec F S1x1x16x128x512 .bf16)

section Mid

variable (arg2 : BitVec 32) (v6 v10 : FVec F S512x128 .bf16) (v36 v53 v55 v113 v115 c2_i32_87 v116 v121 v123 : BitVec 32)

set_option maxHeartbeats 1600000 in
/-- The main loop before the rest `kk`. -/
theorem loopTriple1 (s : St F) (E : Set ℕ) {β : Type} (kk : Unit → Prog (TpuEff nD τ sig (Elt F) Λ₀ .tc) β) (Q : β → sProp 𝕄) :
    iprop(owns (c : Thread nD τ) arg4 fullShare x1 ∗ owns (c : Thread nD τ) arg5 fullShare x2 ∗ scrP c arg13 arg14 arg15 arg16 arg17 arg18 arg19 arg20 arg21 arg22 s ∗ (owns (c : Thread nD τ) arg4 fullShare x1 -∗ owns (c : Thread nD τ) arg5 fullShare x2 -∗ scrP c arg13 arg14 arg15 arg16 arg17 arg18 arg19 arg20 arg21 arg22 (loopSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 s (k0_t1_loop i).trips) -∗ wp frame (wpE (defs₀ (F := F)) Variants.none (c : Thread nD τ) none) E (kk ()) Q))
      ⊢ wp frame (wpE (defs₀ (F := F)) Variants.none (c : Thread nD τ) none) E (Scf.Loop.for (k0_t1_loop i) (k0_t1_ok i) () (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v6 v10 v36 v53 v55 v113 v115 c2_i32_87 v116 v121 v123) >>= kk) Q := by
  have h := exec_loop Idealize.ShloMosaic.frame (wpE (defs₀ (F := F)) Variants.none (c : Thread nD τ) none) E _ _ _ (k0_t1_ok i) () _
    (loopInv1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 s E) (kk := kk) (Q := Q)
  have hI : ∀ n u, (loopInv1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 s E).inv n u = iprop(owns (c : Thread nD τ) arg4 fullShare x1 ∗ owns (c : Thread nD τ) arg5 fullShare x2 ∗ scrP c arg13 arg14 arg15 arg16 arg17 arg18 arg19 arg20 arg21 arg22 (loopSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 s n)) := fun _ _ => rfl
  rw [hI] at h
  iintro ⟨A4, A5, HS, HK⟩
  iapply h $$ [A4 A5 HS] [HK]
  · isplitl [A4]; · iexact A4
    isplitl [A5]; · iexact A5
    iexact HS
  · iintro %u H
    ihave H := (BIBase.Entails.of_eq (hI _ u)) $$ H
    icases H with ⟨A4, A5, HS⟩
    iapply HK $$ [A4] [A5] [HS]
    · iexact A4
    · iexact A5
    · iexact HS

set_option maxHeartbeats 1600000 in
/-- The remainder loop before the rest `kk`. -/
theorem loopTriple2 (s : St F) (v137 : BitVec 32) (E : Set ℕ) {β : Type} (kk : Unit → Prog (TpuEff nD τ sig (Elt F) Λ₀ .tc) β) (Q : β → sProp 𝕄) :
    iprop(owns (c : Thread nD τ) arg4 fullShare x1 ∗ owns (c : Thread nD τ) arg5 fullShare x2 ∗ scrP c arg13 arg14 arg15 arg16 arg17 arg18 arg19 arg20 arg21 arg22 s ∗ (owns (c : Thread nD τ) arg4 fullShare x1 -∗ owns (c : Thread nD τ) arg5 fullShare x2 -∗ scrP c arg13 arg14 arg15 arg16 arg17 arg18 arg19 arg20 arg21 arg22 s -∗ wp frame (wpE (defs₀ (F := F)) Variants.none (c : Thread nD τ) none) E (kk ()) Q))
      ⊢ wp frame (wpE (defs₀ (F := F)) Variants.none (c : Thread nD τ) none) E (Scf.Loop.for (k0_t2_loop i) (k0_t2_ok i) () (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v6 v10 v36 v53 v55 v113 v115 c2_i32_87 v116 v121 v123 v137) >>= kk) Q := by
  have h := exec_loop Idealize.ShloMosaic.frame (wpE (defs₀ (F := F)) Variants.none (c : Thread nD τ) none) E _ _ _ (k0_t2_ok i) () _
    (loopInv2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 s v137 E) (kk := kk) (Q := Q)
  have hI : ∀ n u, (loopInv2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 s v137 E).inv n u = iprop(owns (c : Thread nD τ) arg4 fullShare x1 ∗ owns (c : Thread nD τ) arg5 fullShare x2 ∗ scrP c arg13 arg14 arg15 arg16 arg17 arg18 arg19 arg20 arg21 arg22 s) := fun _ _ => rfl
  rw [hI] at h
  iintro ⟨A4, A5, HS, HK⟩
  iapply h $$ [A4 A5 HS] [HK]
  · isplitl [A4]; · iexact A4
    isplitl [A5]; · iexact A5
    iexact HS
  · iintro %u H
    ihave H := (BIBase.Entails.of_eq (hI _ u)) $$ H
    icases H with ⟨A4, A5, HS⟩
    iapply HK $$ [A4] [A5] [HS]
    · iexact A4
    · iexact A5
    · iexact HS

/-- The scratch after the loop and the branches. -/
def midSt (s : St F) : St F :=
  (leftIfSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 v6 v10 (Scalar.addi (Scalar.muli v53 2#32) 0#32) (evenIfSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v55 (Scalar.subi v113 1#32) (oddIfSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v55 (Scalar.subi v113 1#32) (loopSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 s (k0_t1_loop i).trips))))

set_option maxHeartbeats 1600000 in
/-- The loop and the branches take the scratch at `s` to the scratch at `midSt s`, before the two loads. -/
theorem midTriple (s : St F) (v137 : BitVec 32) (E : Set ℕ) (Q : (Σ' (v154 : FVec F S1x64 .f32), FVec F S1x64 .f32) → sProp 𝕄) :
    iprop(owns (c : Thread nD τ) arg4 fullShare x1 ∗ owns (c : Thread nD τ) arg5 fullShare x2 ∗ scrP c arg13 arg14 arg15 arg16 arg17 arg18 arg19 arg20 arg21 arg22 s ∗ (owns (c : Thread nD τ) arg4 fullShare x1 -∗ owns (c : Thread nD τ) arg5 fullShare x2 -∗ scrP c arg13 arg14 arg15 arg16 arg17 arg18 arg19 arg20 arg21 arg22 (midSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 s) -∗ wp frame (wpE (defs₀ (F := F)) Variants.none (c : Thread nD τ) none) E (lamLoads (F := F) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) Q))
      ⊢ wp frame (wpE (defs₀ (F := F)) Variants.none (c : Thread nD τ) none) E (midProg (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v6 v10 v36 v53 v55 v113 v115 c2_i32_87 v116 v121 v123 v137) Q := by
  unfold midProg midSt
  iintro ⟨A4, A5, HS, HK⟩
  iapply (loopTriple1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 s E _ Q) $$ [A4 A5 HS HK]
  isplitl [A4]; · iexact A4
  isplitl [A5]; · iexact A5
  isplitl [HS]; · iexact HS
  iintro A4 A5 HS
  iapply (loopTriple2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v36 v53 v55 v113 v115 c2_i32_87 v116 v121 v123 _ v137 E _ Q) $$ [A4 A5 HS HK]
  isplitl [A4]; · iexact A4
  isplitl [A5]; · iexact A5
  isplitl [HS]; · iexact HS
  iintro A4 A5 HS
  iapply (oddTriple c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v55 (Scalar.subi v113 1#32) _ E _ Q) $$ [A4 A5 HS HK]
  isplitl [A4]; · iexact A4
  isplitl [A5]; · iexact A5
  isplitl [HS]; · iexact HS
  iintro A4 A5 HS
  iapply (evenTriple c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 arg2 v6 v10 v55 (Scalar.subi v113 1#32) _ E _ Q) $$ [A4 A5 HS HK]
  isplitl [A4]; · iexact A4
  isplitl [A5]; · iexact A5
  isplitl [HS]; · iexact HS
  iintro A4 A5 HS
  iapply (leftTriple c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 v6 v10 (Scalar.addi (Scalar.muli v53 2#32) 0#32) _ E _ Q) $$ [A4 A5 HS HK]
  isplitl [A4]; · iexact A4
  isplitl [A5]; · iexact A5
  isplitl [HS]; · iexact HS
  iexact HK

end Mid

end Cert.Proof.DiffAttn

end
-- ==== Proof.DiffAttn.Fin.lean ====
/- The body's end: the two maps divided, subtracted and normalised, and the block stored. -/
module

public import proofs.«01_k».proof.Defs
public import proofs.«01_k».proof.Proof.Gen.Kernel6Ideal.Frame
public import proofs.«01_k».proof.Proof.Gen.Kernel6Ideal.Loops
public import proofs.«01_k».proof.Proof.Gen.Kernel6Ideal.Points
public import proofs.«01_k».proof.Proof.DiffAttn.Mid

@[expose] public section

set_option maxRecDepth 16384

noncomputable section

namespace Cert.Proof.DiffAttn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S2x2x512x512 .f32) (harg13 : arg13.IsWhole) (arg14 : Memref sig .tc .vmem S2x2x512x512 .f32) (harg14 : arg14.IsWhole) (arg15 : Memref sig .tc .vmem S2x2x1x512 .f32) (harg15 : arg15.IsWhole) (arg16 : Memref sig .tc .vmem S2x2x1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S128x512 .f32) (harg22 : arg22.IsWhole)
  (x0 : Vec F S1x512x128 .bf16) (x1 : Vec F S1x8192x128 .bf16) (x2 : Vec F S1x1x16x128x512 .bf16) (x3 : Vec F S1x2x512x512 .f32) (x4 : Vec F S1x64 .f32) (x5 : Vec F S1x64 .f32) (x6 : Vec F S1x64 .f32) (x7 : Vec F S1x64 .f32) (x8 : Vec F S1x128 .f32)

set_option maxHeartbeats 1600000 in
/-- The body's end, the block it stores to be found. -/
def endRun (s : St F) :
    Σ' (p12 : List (View.Piece (Elt F) S1x512x128 .bf16)), ∀ (E : Set ℕ),
    iprop(owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ scrP c arg13 arg14 arg15 arg16 arg17 arg18 arg19 arg20 arg21 arg22 s)
      ⊢ wp frame (wpE (defs₀ (F := F)) Variants.none (c : Thread nD τ) none) E (lamLoads (F := F) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 >>= endProg i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (fun _ => iprop(owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ e, (arg12.view.loc (c : Thread nD τ) ↦[arg12.view.set]{fullShare} arg12.view.writes (Elt F) e p12)) ∗ scrP c arg13 arg14 arg15 arg16 arg17 arg18 arg19 arg20 arg21 arg22 s)) := by
  refine ⟨?_, fun E => ?run⟩
  case run =>
    unfold lamLoads endProg
    simp only [k0_part40_eq_skeleton]
    unfold scrP owns
    iintro ⟨⟨%f7, %hf7, H7⟩, ⟨%f8, %hf8, H8⟩, ⟨%f9, %hf9, H9⟩, ⟨%f10, %hf10, H10⟩, ⟨%f11, %hf11, H11⟩, ⟨%d12, %f12, %hf12, H12⟩, ⟨%f13, %hf13, H13⟩, ⟨%d14, %f14, %hf14, H14⟩, ⟨%f15, %hf15, H15⟩, ⟨%d16, %f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩
    obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg15.eq_unread hf15; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec
    sl_step
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; exact harg10.read_unread _
    isplitl [H11]
    · iexists _; isplitr; swap; · iexact H11
      ipureintro; exact harg11.read_unread _
    isplitl [H12]
    · iexists _; iexact H12
    isplitl [H13]
    · iexists _; isplitr; swap; · iexact H13
      ipureintro; exact harg13.read_unread _
    isplitl [H14]
    · iexists _; iexists _; isplitr; swap; · iexact H14
      ipureintro; rfl
    isplitl [H15]
    · iexists _; isplitr; swap; · iexact H15
      ipureintro; exact harg15.read_unread _
    isplitl [H16]
    · iexists _; iexists _; isplitr; swap; · iexact H16
      ipureintro; rfl
    isplitl [H17]
    · iexists _; isplitr; swap; · iexact H17
      ipureintro; exact harg17.read_unread _
    isplitl [H18]
    · iexists _; isplitr; swap; · iexact H18
      ipureintro; exact harg18.read_unread _
    isplitl [H19]
    · iexists _; isplitr; swap; · iexact H19
      ipureintro; exact harg19.read_unread _
    isplitl [H20]
    · iexists _; isplitr; swap; · iexact H20
      ipureintro; exact harg20.read_unread _
    isplitl [H21]
    · iexists _; isplitr; swap; · iexact H21
      ipureintro; exact harg21.read_unread _
    iexists _; isplitr; swap; · iexact H22
    ipureintro; exact harg22.read_unread _

/-- The scratch at the end. -/
def endSt : St F :=
  midSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 (BitVec.ofNat 32 (i 2).val) (pre_u6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (pre_u10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (pre_u36 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (pre_u53 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (pre_u55 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (pre_u113 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (pre_u115 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (2#32) (pre_u116 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (pre_u121 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (1#32) (preSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3)

/-- The block a grid point stores, of its input blocks. -/
def outBlk : Vec F S1x512x128 .bf16 :=
  arg12.view.read (Elt F) (arg12.view.writes (Elt F) arg12.view.junk
    (endRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x4 x5 x6 x7 x8 (endSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3)).1)

/-- The scratch buffers at anything. -/
def scrAny : sProp 𝕄 := iprop((∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d))

set_option maxHeartbeats 1600000 in
/-- The body at a grid point: the inputs kept, the block stored, the scratch left at anything. -/
theorem bodyTriple (E : Set ℕ) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ scrAny (F := F) c arg13 arg14 arg15 arg16 arg17 arg18 arg19 arg20 arg21 arg22)
      ⊢ wp frame (wpE (defs₀ (F := F)) Variants.none (c : Thread nD τ) none) E (cc0_diff_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (fun _ => iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (outBlk c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8) ∗ scrAny (F := F) c arg13 arg14 arg15 arg16 arg17 arg18 arg19 arg20 arg21 arg22)) := by
  rw [body_eq]
  unfold scrAny
  iintro ⟨A3, A4, A5, A6, A7, A8, A9, A10, A11, A12, A13, A14, A15, A16, A17, A18, A19, A20, A21, A22⟩
  iapply (preTriple c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3 E _ _) $$ [A3 A4 A5 A6 A7 A8 A9 A10 A11 A12 A13 A14 A15 A16 A17 A18 A19 A20 A21 A22]
  isplitl [A3]; · iexact A3
  isplitl [A4]; · iexact A4
  isplitl [A6]; · iexact A6
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  iintro A3 A4 A6 HS
  rw [wp_bind]
  iapply (midTriple c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 x2 (BitVec.ofNat 32 (i 2).val) (pre_u6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (pre_u10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (pre_u36 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (pre_u53 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (pre_u55 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (pre_u113 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (pre_u115 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (2#32) (pre_u116 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (pre_u121 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x3) (1#32) _ _ E _) $$ [A3 A4 A5 A6 A7 A8 A9 A10 A11 A12 HS]
  isplitl [A4]; · iexact A4
  isplitl [A5]; · iexact A5
  isplitl [HS]; · iexact HS
  iintro A4 A5 HS
  have he := (endRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x4 x5 x6 x7 x8 (endSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3)).2 E
  rw [← wp_bind]
  iapply (wp_wand_r Idealize.ShloMosaic.frame (wpE (defs₀ (F := F)) Variants.none (c : Thread nD τ) none) E)
  isplitl [A7 A8 A9 A10 A11 A12 HS]
  · iapply he
    isplitl [A7]; · iexact A7
    isplitl [A8]; · iexact A8
    isplitl [A9]; · iexact A9
    isplitl [A10]; · iexact A10
    isplitl [A11]; · iexact A11
    isplitl [A12]; · iexact A12
    iexact HS
  · iintro %_ ⟨A7, A8, A9, A10, A11, ⟨%e, A12⟩, HS⟩
    unfold scrP
    icases HS with ⟨H13, H14, H15, H16, H17, H18, H19, H20, H21, H22⟩
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]
    · unfold owns; iexists _; isplitr; swap; · iexact A12
      ipureintro; exact View.read_writes_of_cover _ _ _ _ _ (View.cover_of_tiledL _ S1x512x128.size (by sl_kernel_rfl))
    isplitl [H13]
    · iexists _; iexact H13
    isplitl [H14]
    · iexact H14
    isplitl [H15]
    · iexists _; iexact H15
    isplitl [H16]
    · iexact H16
    isplitl [H17]
    · iexists _; iexact H17
    isplitl [H18]
    · iexists _; iexact H18
    isplitl [H19]
    · iexists _; iexact H19
    isplitl [H20]
    · iexists _; iexact H20
    isplitl [H21]
    · iexists _; iexact H21
    iexists _; iexact H22

end Cert.Proof.DiffAttn

end
-- ==== Proof.DiffAttn.Frame.lean ====
/- The one pipeline of the differential attention on its 256 grid points: nothing is carried from one point to the next, so
   every point finds the scratch at anything and leaves in its output block what `outBlk` says of the point's input blocks. -/
module

public import proofs.«01_k».proof.Proof.DiffAttn.Fin
public import proofs.«01_k».proof.Proof.Gen.Kernel6Ideal.Frame
public import Idealize.ShloMosaic.Lib.Claim
public import Idealize.ShloMosaic.Lib.Quiescent

@[expose] public section

set_option maxRecDepth 16384

noncomputable section

namespace Cert.DiffAttn

open Cert.Kernel6Ideal Cert.Kernel6Ideal.Gen Cert.Proof.DiffAttn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `t` stores. -/
def outAt (c : Dev nD) (t : Fin cfg0.N) : Vec F S1x512x128 .bf16 :=
  outBlk c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (iblk m c 0 t) (iblk m c 1 t) (iblk m c 2 t) (iblk m c 3 t) (iblk m c 4 t) (iblk m c 5 t) (iblk m c 6 t) (iblk m c 7 t) (iblk m c 8 t)

/-- The scratch and the generator register, as the region holds them. -/
theorem PhiA_eq (c : Dev nD) :
    (Pipeline.ΦA spec0 c : sProp 𝕄)
      = iprop(scrAny c (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) ∗ (∃ r, prngReg c r)) := by
  unfold Pipeline.ΦA scrAny; rw [scopedRest0_eq]; simp only [owns_whole]; try rfl

/-- The pipeline's data: each input's buffer at its block, the output's at what the point stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ _ := Pipeline.ΦA spec0 c
  q _ := fullShare
  owed _ := 0

/-- The arrays as the region finds them. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1600000 in
/-- The body at any point. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9,
    show (dats m 0 c).Φ t.castSucc = Pipeline.ΦA spec0 c from rfl, show (dats m 0 c).Φ t.succ = Pipeline.ΦA spec0 c from rfl, PhiA_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_wand_r Idealize.ShloMosaic.frame (wpE (defs₀ (F := F)) Variants.none (c : Thread nD τ) none) Set.univ)
  isplitl [H0 H1 H2 H3 H4 H5 H6 H7 H8 H9 HS]
  · iapply (bodyTriple c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (iblk m c 0 t) (iblk m c 1 t) (iblk m c 2 t) (iblk m c 3 t) (iblk m c 4 t) (iblk m c 5 t) (iblk m c 6 t) (iblk m c 7 t) (iblk m c 8 t) Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexact HS
  · iintro %_ ⟨H0, H1, H2, H3, H4, H5, H6, H7, H8, H9, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t` is the body at the point's buffers. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch's implicit arguments are found by unifying its conclusion with this one
set_option backward.isDefEq.respectTransparency.types false in
/-- The launch: every array ends at what the pipeline's data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

end Cert.DiffAttn

end
-- ==== Proof.DiffAttn.Claims.lean ====
module

public import proofs.«01_k».proof.Defs
public import proofs.«01_k».proof.Proof.DiffAttn.Frame
public import proofs.«01_k».proof.Proof.Gen.Kernel6.Frame
public import proofs.«01_k».proof.Proof.Gen.Reference6Ideal.Run

/-! The claims about the differential attention: the runs of the two kernel programs and of the reference. -/

@[expose] public section

set_option maxRecDepth 16384

noncomputable section

namespace Cert.DiffAttn

open Idealize.ShloMosaic Idealize.SL.Sem

open Cert.Kernel6Ideal in
/-- At any values, the kernel terminates, leaves its arguments as they were and every counter at zero. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (Cert.Kernel6Ideal.Gen.frame_of m ρ (dats m) (A_eq m) (run_main m ρ))
    ((θ_run Cert.Kernel6Ideal.defs _ _).mono (fun _ h => h.2) (run_main_quiescent m ρ))

/-- The kernel over the extended reals. -/
theorem kernelIdeal_frame : Cert.quiescent_Kernel6Ideal := fun m ρ _ => frame_any m ρ

set_option maxHeartbeats 800000 in
/-- The two programs have the same body, -/
theorem body_same : Cert.Kernel6.cc0_diff_attn (F := Bits) = Cert.Kernel6Ideal.cc0_diff_attn (F := Bits) := rfl

/-- so the same table of bodies, -/
theorem defs₀_same : Cert.Kernel6.defs₀ (F := Bits) = Cert.Kernel6Ideal.defs₀ (F := Bits) := by
  unfold Cert.Kernel6.defs₀ Cert.Kernel6Ideal.defs₀
  refine congrArg Defs.onTc (funext fun l => funext fun a => ?_)
  match l, a with
  | ⟨0, _⟩, (t, s) => rw [body_same]; rfl

/-- and the same table with the pipeline. -/
theorem defs_same : Cert.Kernel6.defs (F := Bits) = Cert.Kernel6Ideal.defs (F := Bits) :=
  congrArg (Pipeline.defs Cert.Kernel6Ideal.pcfgs) defs₀_same

set_option maxHeartbeats 1600000 in
/-- The kernel as printed: its program is the idealised one's at the hardware's values. -/
theorem kernel_frame : Cert.quiescent_Kernel6 := fun m ρ _ => by
  rw [defs_same]
  exact frame_any (F := Bits) m ρ

set_option maxHeartbeats 1600000 in
/-- The same for the reference over the extended reals. -/
theorem referenceIdeal_frame : Cert.quiescent_Reference6Ideal := by
  intro m g _
  hlo_run
  · simp only [and_self, implies_true]
  · exact sem_eq_zero_of_no_sems (sig := Cert.Reference6Ideal.sig) (by decide) _

/-- The idealised kernel is the printed one. -/
theorem preserves : Cert.preserves_Kernel6_Kernel6Ideal := trivial

end Cert.DiffAttn

end
-- ==== Proof.BlockMean.Block.lean ====
module

public import proofs.«01_k».proof.Proof.Gen.Kernel7Ideal.Value
public import proofs.«01_k».proof.Proof.Gen.Reference7Ideal.Run
public import proofs.«01_k».proof.Proof.Consts
public import Idealize.ShloMosaic.Lib.Pipeline.ValueKit

/-! What a grid point stores, and the reference's term: the means of blocks of 256 rows. -/

@[expose] public section

set_option maxRecDepth 16384

noncomputable section

namespace Cert.BlockMean

open Idealize.ShloMosaic Idealize.ShloMosaic.TcCoe Idealize.SL.Sem
open Cert.Kernel7Ideal Cert.Kernel7Ideal.Gen

/-- The mean of 256 values. -/
def mean (f : Fin 256 → EReal) : EReal := Ideal.div (∑ j, f j) (Ideal.ofBits .f32 0x43800000#32)

/-- Row `r` of what is stored is the mean of rows `256 r` to `256 r + 255`. -/
theorem block_at (x0 : Vec Ideal S2048x1024 .f32) (r : Fin 8) (c : Fin 1024) :
    out0_1 (F := Ideal) x0 (ix2 r c) = mean fun j => x0 (ix2 ⟨r.val * 256 + j.val, by omega⟩ c) := by
  unfold out0_1
  canon_tiles y h
  all_goals
    idx_vars y
    obtain rfl : c = y1 := Fin.ext h1
    obtain rfl : y0 = 0 := Subsingleton.elim _ _
    unfold mean
    pointwise [k0_pay1, k0_pay2, k0_pay3, k0_pay4, k0_pay5, k0_pay6, k0_pay7, k0_pay8, k0_pay9]
    refine congrArg (Ideal.div · _) (Finset.sum_congr rfl fun x _ => congrArg (fun n => x0 (ix2 n c)) (Fin.ext ?_))
    have hz : (0 : Fin 1).val = 0 := rfl
    dsimp only
    omega

/-- The reference's term. -/
def refMean (K : FVec Ideal Cert.Reference7Ideal.S16384x1024 .f32) : FVec Ideal Cert.Reference7Ideal.S64x1024 .f32 :=
  Host.divf (Host.reduceAdd (shapeCast Cert.Reference7Ideal.S64x256x1024 K Cert.Reference7Ideal.Gen.shapeCasts_S16384x1024_S64x256x1024)
      (constant Cert.Reference7Ideal.S_ .f32 0x00000000#32) Cert.Reference7Ideal.Gen.reducesTo_S64x256x1024_S64x1024_d1 Cert.Reference7Ideal.Gen.h_S_)
    (broadcastInDim Cert.Reference7Ideal.S64x1024 ![] Cert.Reference7Ideal.Gen.bcast_S_S64x1024 (constant Cert.Reference7Ideal.S_ .f32 0x43800000#32))

/-- Its entries. -/
theorem refMean_at (K : FVec Ideal Cert.Reference7Ideal.S16384x1024 .f32) (n : Fin 64) (c : Fin 1024) :
    refMean K (ix2 n c) = mean fun j => K (ix2 ⟨n.val * 256 + j.val, by omega⟩ c) := by
  unfold mean
  pointwise [refMean]

end Cert.BlockMean

end
-- ==== Proof.BlockMean.Array.lean ====
module

public import proofs.«01_k».proof.Proof.BlockMean.Block
public import Idealize.ShloMosaic.Lib.Pipeline.ValueKit

/-! The array of means is the reference's term: grid point `t` writes the means of blocks `8 t` to `8 t + 7`. -/

@[expose] public section

set_option maxRecDepth 16384

noncomputable section

namespace Cert.BlockMean

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

/-- Where each window's block lies at a grid point. -/
theorem idx : ∀ t : Fin cfg0.N, win0_0.index t = ![t.val, 0] ∧ win0_1.index t = ![t.val, 0] :=
  (by decide +kernel : ∀ t : Fin grid0.N, _)

/-- The keys' block. -/
theorem blk_k (c : Dev nD) (t : Fin cfg0.N) (ht : t.val < 8) (r : Fin 2048) (k : Fin 1024) :
    iblk m c 0 t (ix2 r k) = m ((c : Thread nD τ).loc main_arg0) (ix2 ⟨t.val * 2048 + r, by omega⟩ k) := by
  blk_point [iblk, V, idx t]

/-- The array of means. -/
theorem final (c : Dev nD) : (dats m 0 c).arrAt 1 (cfgs 0).N = refMean (m ((c : Thread nD τ).loc main_arg0)) := by
  refine (dats m 0 c).arrAt_eq_of_covers 1 _ (by decide +kernel) fun t hf y => ?_
  have ht : t.val < 8 := t.isLt
  blk_simp
  rw [after0_1]
  idx_vars y
  have he : ((View.whole main_v0).slice (win0_1.rect t)).emb (ix2 y0 y1) = (ix2 ⟨t.val * 8 + y0, by omega⟩ y1 : S64x1024.Idx) := by
    blk_ext [idx t]
  refine (block_at _ y0 y1).trans (Eq.trans ?_ (congrArg (refMean (m ((c : Thread nD τ).loc main_arg0))) he).symm)
  refine Eq.trans (congrArg mean (funext fun j => ?_)) (refMean_at _ _ _).symm
  refine (blk_k m c t ht _ _).trans (congrArg (fun n => m ((c : Thread nD τ).loc main_arg0) (ix2 n y1)) (Fin.ext ?_))
  dsimp only
  omega

end Cert.BlockMean

end
-- ==== Proof.BlockMean.Claims.lean ====
module

public import proofs.«01_k».proof.Defs
public import proofs.«01_k».proof.Proof.Gen.Kernel7.Frame
public import proofs.«01_k».proof.Proof.BlockMean.Array
public import Idealize.ShloMosaic.Lib.Claim
public import Idealize.ShloMosaic.Lib.Quiescent

/-! The claims about the means of the blocks of keys: the runs of the two kernel programs and of the reference, and the equality of the
    results. -/

@[expose] public section

set_option maxRecDepth 16384

noncomputable section

namespace Cert.BlockMean

open Idealize.ShloMosaic Idealize.SL.Sem

/-- The kernel as printed terminates and leaves its arguments as they were. -/
theorem kernel_frame : Cert.quiescent_Kernel7 := fun m ρ _ => Cert.Kernel7.Gen.frame m ρ

/-- The same for the kernel over the extended reals. -/
theorem kernelIdeal_frame : Cert.quiescent_Kernel7Ideal := fun m ρ _ => Cert.Kernel7Ideal.Gen.frame m ρ

set_option maxHeartbeats 1600000 in
/-- The same for the reference over the extended reals. -/
theorem referenceIdeal_frame : Cert.quiescent_Reference7Ideal := by
  intro m g _
  hlo_run
  · simp only [and_self, implies_true]
  · exact sem_eq_zero_of_no_sems (sig := Cert.Reference7Ideal.sig) (by decide) _

/-- The idealised kernel is the printed one. -/
theorem preserves : Cert.preserves_Kernel7_Kernel7Ideal := trivial

set_option maxHeartbeats 1600000 in
/-- Over the extended reals the kernel's results are the reference's. -/
theorem algebraic : Cert.algebraic_Kernel7Ideal_Reference7Ideal := by
  pair_intro
  · run_from Cert.Kernel7Ideal.Gen.run_main m g
  · hlo_run
    exact (final m c).symm

end Cert.BlockMean

end
-- ==== Proof.lean ====
module

public import proofs.«01_k».proof.Defs
public import proofs.«01_k».proof.Proof.GlaStep.Claims
public import proofs.«01_k».proof.Proof.Post.Claims
public import proofs.«01_k».proof.Proof.GlaPre.Claims
public import proofs.«01_k».proof.Proof.DiffPre.Claims
public import proofs.«01_k».proof.Proof.MobaPre.Claims
public import proofs.«01_k».proof.Proof.DiffAttn.Claims
public import proofs.«01_k».proof.Proof.BlockMean.Claims

@[expose] public section

noncomputable section

namespace Cert.Proof

open Idealize.ShloMosaic Idealize.SL.Sem

/-- All claims together. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  GlaStep.kernel_frame,
  GlaStep.kernelIdeal_frame,
  GlaStep.referenceIdeal_frame,
  Post.kernel_frame,
  Post.kernelIdeal_frame,
  Post.referenceIdeal_frame,
  GlaPre.kernel_frame,
  GlaPre.kernelIdeal_frame,
  GlaPre.referenceIdeal_frame,
  DiffPre.kernel_frame,
  DiffPre.kernelIdeal_frame,
  DiffPre.referenceIdeal_frame,
  MobaPre.kernel_frame,
  MobaPre.kernelIdeal_frame,
  MobaPre.referenceIdeal_frame,
  DiffAttn.kernel_frame,
  DiffAttn.kernelIdeal_frame,
  DiffAttn.referenceIdeal_frame,
  BlockMean.kernel_frame,
  BlockMean.kernelIdeal_frame,
  BlockMean.referenceIdeal_frame,
  GlaStep.preserves,
  GlaStep.algebraic,
  Post.preserves,
  Post.algebraic,
  GlaPre.preserves,
  GlaPre.algebraic,
  DiffPre.preserves,
  DiffPre.algebraic,
  MobaPre.preserves,
  MobaPre.algebraic,
  DiffAttn.preserves,
  BlockMean.preserves,
  BlockMean.algebraic⟩

end Cert.Proof

end
